-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InZero (m : (ℓ : Loc Cert.InZero.nD Cert.InZero.τ Cert.InZero.sig) → Buf (Elt Bits) ℓ) : Prop :=
  True

def Pre_InZeroIdeal (m : (ℓ : Loc Cert.InZeroIdeal.nD Cert.InZeroIdeal.τ Cert.InZeroIdeal.sig) → Buf (Elt Ideal) ℓ) : Prop :=
  True

def Pre_InZeroRefIdeal (m : (ℓ : Loc Cert.InZeroRefIdeal.nD Cert.InZeroRefIdeal.τ Cert.InZeroRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oz (m : (ℓ : Loc Cert.Oz.nD Cert.Oz.τ Cert.Oz.sig) → Buf (Elt Bits) ℓ) : Prop :=
  True

def Pre_OzIdeal (m : (ℓ : Loc Cert.OzIdeal.nD Cert.OzIdeal.τ Cert.OzIdeal.sig) → Buf (Elt Ideal) ℓ) : Prop :=
  True

def Pre_OzRefIdeal (m : (ℓ : Loc Cert.OzRefIdeal.nD Cert.OzRefIdeal.τ Cert.OzRefIdeal.sig) → Buf (Elt Ideal) ℓ) : Prop :=
  True

def Pre_OutZero (m : (ℓ : Loc Cert.OutZero.nD Cert.OutZero.τ Cert.OutZero.sig) → Buf (Elt Bits) ℓ) : Prop :=
  True

def Pre_OutZeroIdeal (m : (ℓ : Loc Cert.OutZeroIdeal.nD Cert.OutZeroIdeal.τ Cert.OutZeroIdeal.sig) → Buf (Elt Ideal) ℓ) : Prop :=
  True

def Pre_OutZeroRefIdeal (m : (ℓ : Loc Cert.OutZeroRefIdeal.nD Cert.OutZeroRefIdeal.τ Cert.OutZeroRefIdeal.sig) → Buf (Elt Ideal) ℓ) : Prop :=
  True

def Pre_OutOne (m : (ℓ : Loc Cert.OutOne.nD Cert.OutOne.τ Cert.OutOne.sig) → Buf (Elt Bits) ℓ) : Prop :=
  True

def Pre_OutOneIdeal (m : (ℓ : Loc Cert.OutOneIdeal.nD Cert.OutOneIdeal.τ Cert.OutOneIdeal.sig) → Buf (Elt Ideal) ℓ) : Prop :=
  True

def Pre_OutOneRefIdeal (m : (ℓ : Loc Cert.OutOneRefIdeal.nD Cert.OutOneRefIdeal.τ Cert.OutOneRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InZero [hInZero : Cert.InZero.Facts] : Prop :=
  ∀ (m : (ℓ : Loc Cert.InZero.nD Cert.InZero.τ Cert.InZero.sig) → Buf (Elt Bits) ℓ) (g : Dev Cert.InZero.nD → PrngReg), Pre_InZero m →
    θ_run (Cert.InZero.defs (F := Bits)) (onTc (τ := Cert.InZero.τ) (Cert.InZero.main (F := Bits))) ⟨m, fun _ => 0, g⟩ (fun r => (∀ c : Dev Cert.InZero.nD,
      r.2.mem ((c.tc : Thread Cert.InZero.nD Cert.InZero.τ).loc Cert.InZero.main_arg0) = m ((c.tc : Thread Cert.InZero.nD Cert.InZero.τ).loc Cert.InZero.main_arg0)
      ∧ r.2.mem ((c.tc : Thread Cert.InZero.nD Cert.InZero.τ).loc Cert.InZero.main_arg1) = m ((c.tc : Thread Cert.InZero.nD Cert.InZero.τ).loc Cert.InZero.main_arg1))
      ∧ r.2.sem = fun _ => 0)

def quiescent_InZeroIdeal [hInZeroIdeal : Cert.InZeroIdeal.Facts] : Prop :=
  ∀ (m : (ℓ : Loc Cert.InZeroIdeal.nD Cert.InZeroIdeal.τ Cert.InZeroIdeal.sig) → Buf (Elt Ideal) ℓ) (g : Dev Cert.InZeroIdeal.nD → PrngReg), Pre_InZeroIdeal m →
    θ_run (Cert.InZeroIdeal.defs (F := Ideal)) (onTc (τ := Cert.InZeroIdeal.τ) (Cert.InZeroIdeal.main (F := Ideal))) ⟨m, fun _ => 0, g⟩ (fun r => (∀ c : Dev Cert.InZeroIdeal.nD,
      r.2.mem ((c.tc : Thread Cert.InZeroIdeal.nD Cert.InZeroIdeal.τ).loc Cert.InZeroIdeal.main_arg0) = m ((c.tc : Thread Cert.InZeroIdeal.nD Cert.InZeroIdeal.τ).loc Cert.InZeroIdeal.main_arg0)
      ∧ r.2.mem ((c.tc : Thread Cert.InZeroIdeal.nD Cert.InZeroIdeal.τ).loc Cert.InZeroIdeal.main_arg1) = m ((c.tc : Thread Cert.InZeroIdeal.nD Cert.InZeroIdeal.τ).loc Cert.InZeroIdeal.main_arg1))
      ∧ r.2.sem = fun _ => 0)

def quiescent_InZeroRefIdeal [hInZeroRefIdeal : Cert.InZeroRefIdeal.Facts] : Prop :=
  ∀ (m : (ℓ : Loc Cert.InZeroRefIdeal.nD Cert.InZeroRefIdeal.τ Cert.InZeroRefIdeal.sig) → Buf (Elt Ideal) ℓ) (g : Dev Cert.InZeroRefIdeal.nD → PrngReg), Pre_InZeroRefIdeal m →
    θ_run (Cert.InZeroRefIdeal.defs (F := Ideal)) (onTc (τ := Cert.InZeroRefIdeal.τ) (Cert.InZeroRefIdeal.main (F := Ideal))) ⟨m, fun _ => 0, g⟩ (fun r => (∀ c : Dev Cert.InZeroRefIdeal.nD,
      r.2.mem ((c.tc : Thread Cert.InZeroRefIdeal.nD Cert.InZeroRefIdeal.τ).loc Cert.InZeroRefIdeal.main_arg0) = m ((c.tc : Thread Cert.InZeroRefIdeal.nD Cert.InZeroRefIdeal.τ).loc Cert.InZeroRefIdeal.main_arg0)
      ∧ r.2.mem ((c.tc : Thread Cert.InZeroRefIdeal.nD Cert.InZeroRefIdeal.τ).loc Cert.InZeroRefIdeal.main_arg1) = m ((c.tc : Thread Cert.InZeroRefIdeal.nD Cert.InZeroRefIdeal.τ).loc Cert.InZeroRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Oz [hOz : Cert.Oz.Facts] : Prop :=
  ∀ (m : (ℓ : Loc Cert.Oz.nD Cert.Oz.τ Cert.Oz.sig) → Buf (Elt Bits) ℓ) (g : Dev Cert.Oz.nD → PrngReg), Pre_Oz m →
    θ_run (Cert.Oz.defs (F := Bits)) (onTc (τ := Cert.Oz.τ) (Cert.Oz.main (F := Bits))) ⟨m, fun _ => 0, g⟩ (fun r => (∀ c : Dev Cert.Oz.nD,
      r.2.mem ((c.tc : Thread Cert.Oz.nD Cert.Oz.τ).loc Cert.Oz.main_arg0) = m ((c.tc : Thread Cert.Oz.nD Cert.Oz.τ).loc Cert.Oz.main_arg0)
      ∧ r.2.mem ((c.tc : Thread Cert.Oz.nD Cert.Oz.τ).loc Cert.Oz.main_arg1) = m ((c.tc : Thread Cert.Oz.nD Cert.Oz.τ).loc Cert.Oz.main_arg1))
      ∧ r.2.sem = fun _ => 0)

def quiescent_OzIdeal [hOzIdeal : Cert.OzIdeal.Facts] : Prop :=
  ∀ (m : (ℓ : Loc Cert.OzIdeal.nD Cert.OzIdeal.τ Cert.OzIdeal.sig) → Buf (Elt Ideal) ℓ) (g : Dev Cert.OzIdeal.nD → PrngReg), Pre_OzIdeal m →
    θ_run (Cert.OzIdeal.defs (F := Ideal)) (onTc (τ := Cert.OzIdeal.τ) (Cert.OzIdeal.main (F := Ideal))) ⟨m, fun _ => 0, g⟩ (fun r => (∀ c : Dev Cert.OzIdeal.nD,
      r.2.mem ((c.tc : Thread Cert.OzIdeal.nD Cert.OzIdeal.τ).loc Cert.OzIdeal.main_arg0) = m ((c.tc : Thread Cert.OzIdeal.nD Cert.OzIdeal.τ).loc Cert.OzIdeal.main_arg0)
      ∧ r.2.mem ((c.tc : Thread Cert.OzIdeal.nD Cert.OzIdeal.τ).loc Cert.OzIdeal.main_arg1) = m ((c.tc : Thread Cert.OzIdeal.nD Cert.OzIdeal.τ).loc Cert.OzIdeal.main_arg1))
      ∧ r.2.sem = fun _ => 0)

def quiescent_OzRefIdeal [hOzRefIdeal : Cert.OzRefIdeal.Facts] : Prop :=
  ∀ (m : (ℓ : Loc Cert.OzRefIdeal.nD Cert.OzRefIdeal.τ Cert.OzRefIdeal.sig) → Buf (Elt Ideal) ℓ) (g : Dev Cert.OzRefIdeal.nD → PrngReg), Pre_OzRefIdeal m →
    θ_run (Cert.OzRefIdeal.defs (F := Ideal)) (onTc (τ := Cert.OzRefIdeal.τ) (Cert.OzRefIdeal.main (F := Ideal))) ⟨m, fun _ => 0, g⟩ (fun r => (∀ c : Dev Cert.OzRefIdeal.nD,
      r.2.mem ((c.tc : Thread Cert.OzRefIdeal.nD Cert.OzRefIdeal.τ).loc Cert.OzRefIdeal.main_arg0) = m ((c.tc : Thread Cert.OzRefIdeal.nD Cert.OzRefIdeal.τ).loc Cert.OzRefIdeal.main_arg0)
      ∧ r.2.mem ((c.tc : Thread Cert.OzRefIdeal.nD Cert.OzRefIdeal.τ).loc Cert.OzRefIdeal.main_arg1) = m ((c.tc : Thread Cert.OzRefIdeal.nD Cert.OzRefIdeal.τ).loc Cert.OzRefIdeal.main_arg1))
      ∧ r.2.sem = fun _ => 0)

def quiescent_OutZero [hOutZero : Cert.OutZero.Facts] : Prop :=
  ∀ (m : (ℓ : Loc Cert.OutZero.nD Cert.OutZero.τ Cert.OutZero.sig) → Buf (Elt Bits) ℓ) (g : Dev Cert.OutZero.nD → PrngReg), Pre_OutZero m →
    θ_run (Cert.OutZero.defs (F := Bits)) (onTc (τ := Cert.OutZero.τ) (Cert.OutZero.main (F := Bits))) ⟨m, fun _ => 0, g⟩ (fun r => (∀ c : Dev Cert.OutZero.nD,
      r.2.mem ((c.tc : Thread Cert.OutZero.nD Cert.OutZero.τ).loc Cert.OutZero.main_arg0) = m ((c.tc : Thread Cert.OutZero.nD Cert.OutZero.τ).loc Cert.OutZero.main_arg0)
      ∧ r.2.mem ((c.tc : Thread Cert.OutZero.nD Cert.OutZero.τ).loc Cert.OutZero.main_arg1) = m ((c.tc : Thread Cert.OutZero.nD Cert.OutZero.τ).loc Cert.OutZero.main_arg1)
      ∧ r.2.mem ((c.tc : Thread Cert.OutZero.nD Cert.OutZero.τ).loc Cert.OutZero.main_arg2) = m ((c.tc : Thread Cert.OutZero.nD Cert.OutZero.τ).loc Cert.OutZero.main_arg2)
      ∧ r.2.mem ((c.tc : Thread Cert.OutZero.nD Cert.OutZero.τ).loc Cert.OutZero.main_arg3) = m ((c.tc : Thread Cert.OutZero.nD Cert.OutZero.τ).loc Cert.OutZero.main_arg3)
      ∧ r.2.mem ((c.tc : Thread Cert.OutZero.nD Cert.OutZero.τ).loc Cert.OutZero.main_arg4) = m ((c.tc : Thread Cert.OutZero.nD Cert.OutZero.τ).loc Cert.OutZero.main_arg4)
      ∧ r.2.mem ((c.tc : Thread Cert.OutZero.nD Cert.OutZero.τ).loc Cert.OutZero.main_arg5) = m ((c.tc : Thread Cert.OutZero.nD Cert.OutZero.τ).loc Cert.OutZero.main_arg5))
      ∧ r.2.sem = fun _ => 0)

def quiescent_OutZeroIdeal [hOutZeroIdeal : Cert.OutZeroIdeal.Facts] : Prop :=
  ∀ (m : (ℓ : Loc Cert.OutZeroIdeal.nD Cert.OutZeroIdeal.τ Cert.OutZeroIdeal.sig) → Buf (Elt Ideal) ℓ) (g : Dev Cert.OutZeroIdeal.nD → PrngReg), Pre_OutZeroIdeal m →
    θ_run (Cert.OutZeroIdeal.defs (F := Ideal)) (onTc (τ := Cert.OutZeroIdeal.τ) (Cert.OutZeroIdeal.main (F := Ideal))) ⟨m, fun _ => 0, g⟩ (fun r => (∀ c : Dev Cert.OutZeroIdeal.nD,
      r.2.mem ((c.tc : Thread Cert.OutZeroIdeal.nD Cert.OutZeroIdeal.τ).loc Cert.OutZeroIdeal.main_arg0) = m ((c.tc : Thread Cert.OutZeroIdeal.nD Cert.OutZeroIdeal.τ).loc Cert.OutZeroIdeal.main_arg0)
      ∧ r.2.mem ((c.tc : Thread Cert.OutZeroIdeal.nD Cert.OutZeroIdeal.τ).loc Cert.OutZeroIdeal.main_arg1) = m ((c.tc : Thread Cert.OutZeroIdeal.nD Cert.OutZeroIdeal.τ).loc Cert.OutZeroIdeal.main_arg1)
      ∧ r.2.mem ((c.tc : Thread Cert.OutZeroIdeal.nD Cert.OutZeroIdeal.τ).loc Cert.OutZeroIdeal.main_arg2) = m ((c.tc : Thread Cert.OutZeroIdeal.nD Cert.OutZeroIdeal.τ).loc Cert.OutZeroIdeal.main_arg2)
      ∧ r.2.mem ((c.tc : Thread Cert.OutZeroIdeal.nD Cert.OutZeroIdeal.τ).loc Cert.OutZeroIdeal.main_arg3) = m ((c.tc : Thread Cert.OutZeroIdeal.nD Cert.OutZeroIdeal.τ).loc Cert.OutZeroIdeal.main_arg3)
      ∧ r.2.mem ((c.tc : Thread Cert.OutZeroIdeal.nD Cert.OutZeroIdeal.τ).loc Cert.OutZeroIdeal.main_arg4) = m ((c.tc : Thread Cert.OutZeroIdeal.nD Cert.OutZeroIdeal.τ).loc Cert.OutZeroIdeal.main_arg4)
      ∧ r.2.mem ((c.tc : Thread Cert.OutZeroIdeal.nD Cert.OutZeroIdeal.τ).loc Cert.OutZeroIdeal.main_arg5) = m ((c.tc : Thread Cert.OutZeroIdeal.nD Cert.OutZeroIdeal.τ).loc Cert.OutZeroIdeal.main_arg5))
      ∧ r.2.sem = fun _ => 0)

def quiescent_OutZeroRefIdeal [hOutZeroRefIdeal : Cert.OutZeroRefIdeal.Facts] : Prop :=
  ∀ (m : (ℓ : Loc Cert.OutZeroRefIdeal.nD Cert.OutZeroRefIdeal.τ Cert.OutZeroRefIdeal.sig) → Buf (Elt Ideal) ℓ) (g : Dev Cert.OutZeroRefIdeal.nD → PrngReg), Pre_OutZeroRefIdeal m →
    θ_run (Cert.OutZeroRefIdeal.defs (F := Ideal)) (onTc (τ := Cert.OutZeroRefIdeal.τ) (Cert.OutZeroRefIdeal.main (F := Ideal))) ⟨m, fun _ => 0, g⟩ (fun r => (∀ c : Dev Cert.OutZeroRefIdeal.nD,
      r.2.mem ((c.tc : Thread Cert.OutZeroRefIdeal.nD Cert.OutZeroRefIdeal.τ).loc Cert.OutZeroRefIdeal.main_arg0) = m ((c.tc : Thread Cert.OutZeroRefIdeal.nD Cert.OutZeroRefIdeal.τ).loc Cert.OutZeroRefIdeal.main_arg0)
      ∧ r.2.mem ((c.tc : Thread Cert.OutZeroRefIdeal.nD Cert.OutZeroRefIdeal.τ).loc Cert.OutZeroRefIdeal.main_arg1) = m ((c.tc : Thread Cert.OutZeroRefIdeal.nD Cert.OutZeroRefIdeal.τ).loc Cert.OutZeroRefIdeal.main_arg1)
      ∧ r.2.mem ((c.tc : Thread Cert.OutZeroRefIdeal.nD Cert.OutZeroRefIdeal.τ).loc Cert.OutZeroRefIdeal.main_arg2) = m ((c.tc : Thread Cert.OutZeroRefIdeal.nD Cert.OutZeroRefIdeal.τ).loc Cert.OutZeroRefIdeal.main_arg2)
      ∧ r.2.mem ((c.tc : Thread Cert.OutZeroRefIdeal.nD Cert.OutZeroRefIdeal.τ).loc Cert.OutZeroRefIdeal.main_arg3) = m ((c.tc : Thread Cert.OutZeroRefIdeal.nD Cert.OutZeroRefIdeal.τ).loc Cert.OutZeroRefIdeal.main_arg3)
      ∧ r.2.mem ((c.tc : Thread Cert.OutZeroRefIdeal.nD Cert.OutZeroRefIdeal.τ).loc Cert.OutZeroRefIdeal.main_arg4) = m ((c.tc : Thread Cert.OutZeroRefIdeal.nD Cert.OutZeroRefIdeal.τ).loc Cert.OutZeroRefIdeal.main_arg4)
      ∧ r.2.mem ((c.tc : Thread Cert.OutZeroRefIdeal.nD Cert.OutZeroRefIdeal.τ).loc Cert.OutZeroRefIdeal.main_arg5) = m ((c.tc : Thread Cert.OutZeroRefIdeal.nD Cert.OutZeroRefIdeal.τ).loc Cert.OutZeroRefIdeal.main_arg5))
      ∧ r.2.sem = fun _ => 0)

def quiescent_OutOne [hOutOne : Cert.OutOne.Facts] : Prop :=
  ∀ (m : (ℓ : Loc Cert.OutOne.nD Cert.OutOne.τ Cert.OutOne.sig) → Buf (Elt Bits) ℓ) (g : Dev Cert.OutOne.nD → PrngReg), Pre_OutOne m →
    θ_run (Cert.OutOne.defs (F := Bits)) (onTc (τ := Cert.OutOne.τ) (Cert.OutOne.main (F := Bits))) ⟨m, fun _ => 0, g⟩ (fun r => (∀ c : Dev Cert.OutOne.nD,
      r.2.mem ((c.tc : Thread Cert.OutOne.nD Cert.OutOne.τ).loc Cert.OutOne.main_arg0) = m ((c.tc : Thread Cert.OutOne.nD Cert.OutOne.τ).loc Cert.OutOne.main_arg0)
      ∧ r.2.mem ((c.tc : Thread Cert.OutOne.nD Cert.OutOne.τ).loc Cert.OutOne.main_arg1) = m ((c.tc : Thread Cert.OutOne.nD Cert.OutOne.τ).loc Cert.OutOne.main_arg1)
      ∧ r.2.mem ((c.tc : Thread Cert.OutOne.nD Cert.OutOne.τ).loc Cert.OutOne.main_arg2) = m ((c.tc : Thread Cert.OutOne.nD Cert.OutOne.τ).loc Cert.OutOne.main_arg2)
      ∧ r.2.mem ((c.tc : Thread Cert.OutOne.nD Cert.OutOne.τ).loc Cert.OutOne.main_arg3) = m ((c.tc : Thread Cert.OutOne.nD Cert.OutOne.τ).loc Cert.OutOne.main_arg3))
      ∧ r.2.sem = fun _ => 0)

def quiescent_OutOneIdeal [hOutOneIdeal : Cert.OutOneIdeal.Facts] : Prop :=
  ∀ (m : (ℓ : Loc Cert.OutOneIdeal.nD Cert.OutOneIdeal.τ Cert.OutOneIdeal.sig) → Buf (Elt Ideal) ℓ) (g : Dev Cert.OutOneIdeal.nD → PrngReg), Pre_OutOneIdeal m →
    θ_run (Cert.OutOneIdeal.defs (F := Ideal)) (onTc (τ := Cert.OutOneIdeal.τ) (Cert.OutOneIdeal.main (F := Ideal))) ⟨m, fun _ => 0, g⟩ (fun r => (∀ c : Dev Cert.OutOneIdeal.nD,
      r.2.mem ((c.tc : Thread Cert.OutOneIdeal.nD Cert.OutOneIdeal.τ).loc Cert.OutOneIdeal.main_arg0) = m ((c.tc : Thread Cert.OutOneIdeal.nD Cert.OutOneIdeal.τ).loc Cert.OutOneIdeal.main_arg0)
      ∧ r.2.mem ((c.tc : Thread Cert.OutOneIdeal.nD Cert.OutOneIdeal.τ).loc Cert.OutOneIdeal.main_arg1) = m ((c.tc : Thread Cert.OutOneIdeal.nD Cert.OutOneIdeal.τ).loc Cert.OutOneIdeal.main_arg1)
      ∧ r.2.mem ((c.tc : Thread Cert.OutOneIdeal.nD Cert.OutOneIdeal.τ).loc Cert.OutOneIdeal.main_arg2) = m ((c.tc : Thread Cert.OutOneIdeal.nD Cert.OutOneIdeal.τ).loc Cert.OutOneIdeal.main_arg2)
      ∧ r.2.mem ((c.tc : Thread Cert.OutOneIdeal.nD Cert.OutOneIdeal.τ).loc Cert.OutOneIdeal.main_arg3) = m ((c.tc : Thread Cert.OutOneIdeal.nD Cert.OutOneIdeal.τ).loc Cert.OutOneIdeal.main_arg3))
      ∧ r.2.sem = fun _ => 0)

def quiescent_OutOneRefIdeal [hOutOneRefIdeal : Cert.OutOneRefIdeal.Facts] : Prop :=
  ∀ (m : (ℓ : Loc Cert.OutOneRefIdeal.nD Cert.OutOneRefIdeal.τ Cert.OutOneRefIdeal.sig) → Buf (Elt Ideal) ℓ) (g : Dev Cert.OutOneRefIdeal.nD → PrngReg), Pre_OutOneRefIdeal m →
    θ_run (Cert.OutOneRefIdeal.defs (F := Ideal)) (onTc (τ := Cert.OutOneRefIdeal.τ) (Cert.OutOneRefIdeal.main (F := Ideal))) ⟨m, fun _ => 0, g⟩ (fun r => (∀ c : Dev Cert.OutOneRefIdeal.nD,
      r.2.mem ((c.tc : Thread Cert.OutOneRefIdeal.nD Cert.OutOneRefIdeal.τ).loc Cert.OutOneRefIdeal.main_arg0) = m ((c.tc : Thread Cert.OutOneRefIdeal.nD Cert.OutOneRefIdeal.τ).loc Cert.OutOneRefIdeal.main_arg0)
      ∧ r.2.mem ((c.tc : Thread Cert.OutOneRefIdeal.nD Cert.OutOneRefIdeal.τ).loc Cert.OutOneRefIdeal.main_arg1) = m ((c.tc : Thread Cert.OutOneRefIdeal.nD Cert.OutOneRefIdeal.τ).loc Cert.OutOneRefIdeal.main_arg1)
      ∧ r.2.mem ((c.tc : Thread Cert.OutOneRefIdeal.nD Cert.OutOneRefIdeal.τ).loc Cert.OutOneRefIdeal.main_arg2) = m ((c.tc : Thread Cert.OutOneRefIdeal.nD Cert.OutOneRefIdeal.τ).loc Cert.OutOneRefIdeal.main_arg2)
      ∧ r.2.mem ((c.tc : Thread Cert.OutOneRefIdeal.nD Cert.OutOneRefIdeal.τ).loc Cert.OutOneRefIdeal.main_arg3) = m ((c.tc : Thread Cert.OutOneRefIdeal.nD Cert.OutOneRefIdeal.τ).loc Cert.OutOneRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InZero_InZeroIdeal : Prop :=
  True

def algebraic_InZeroIdeal_InZeroRefIdeal [hInZeroIdeal : Cert.InZeroIdeal.Facts] [hInZeroRefIdeal : Cert.InZeroRefIdeal.Facts] : Prop :=
  ∀ (m : (ℓ : Loc Cert.InZeroIdeal.nD Cert.InZeroIdeal.τ Cert.InZeroIdeal.sig) → Buf (Elt Ideal) ℓ) (g : Dev Cert.InZeroIdeal.nD → PrngReg)
    (m' : (ℓ : Loc Cert.InZeroRefIdeal.nD Cert.InZeroRefIdeal.τ Cert.InZeroRefIdeal.sig) → Buf (Elt Ideal) ℓ) (g' : Dev Cert.InZeroRefIdeal.nD → PrngReg), Pre_InZeroIdeal m →
    (∀ c : Dev Cert.InZeroIdeal.nD,
      m' ((c.tc : Thread Cert.InZeroRefIdeal.nD Cert.InZeroRefIdeal.τ).loc Cert.InZeroRefIdeal.main_arg0) = m ((c.tc : Thread Cert.InZeroIdeal.nD Cert.InZeroIdeal.τ).loc Cert.InZeroIdeal.main_arg0)
      ∧ m' ((c.tc : Thread Cert.InZeroRefIdeal.nD Cert.InZeroRefIdeal.τ).loc Cert.InZeroRefIdeal.main_arg1) = m ((c.tc : Thread Cert.InZeroIdeal.nD Cert.InZeroIdeal.τ).loc Cert.InZeroIdeal.main_arg1)) →
    ∃ (v0 : (c : Dev Cert.InZeroIdeal.nD) → Buf (Elt Ideal) ((c.tc : Thread Cert.InZeroIdeal.nD Cert.InZeroIdeal.τ).loc Cert.InZeroIdeal.main_v1)),
      θ_run (Cert.InZeroIdeal.defs (F := Ideal)) (onTc (τ := Cert.InZeroIdeal.τ) (Cert.InZeroIdeal.main (F := Ideal))) ⟨m, fun _ => 0, g⟩ (fun r => ∀ c : Dev Cert.InZeroIdeal.nD,
          r.2.mem ((c.tc : Thread Cert.InZeroIdeal.nD Cert.InZeroIdeal.τ).loc Cert.InZeroIdeal.main_v1) = v0 c
          ∧ r.2.mem ((c.tc : Thread Cert.InZeroIdeal.nD Cert.InZeroIdeal.τ).loc Cert.InZeroIdeal.main_arg0) = m ((c.tc : Thread Cert.InZeroIdeal.nD Cert.InZeroIdeal.τ).loc Cert.InZeroIdeal.main_arg0)
          ∧ r.2.mem ((c.tc : Thread Cert.InZeroIdeal.nD Cert.InZeroIdeal.τ).loc Cert.InZeroIdeal.main_arg1) = m ((c.tc : Thread Cert.InZeroIdeal.nD Cert.InZeroIdeal.τ).loc Cert.InZeroIdeal.main_arg1))
      ∧ θ_run (Cert.InZeroRefIdeal.defs (F := Ideal)) (onTc (τ := Cert.InZeroRefIdeal.τ) (Cert.InZeroRefIdeal.main (F := Ideal))) ⟨m', fun _ => 0, g'⟩ (fun r => ∀ c : Dev Cert.InZeroRefIdeal.nD,
          r.2.mem ((c.tc : Thread Cert.InZeroRefIdeal.nD Cert.InZeroRefIdeal.τ).loc Cert.InZeroRefIdeal.main_v14) = v0 c
          ∧ r.2.mem ((c.tc : Thread Cert.InZeroRefIdeal.nD Cert.InZeroRefIdeal.τ).loc Cert.InZeroRefIdeal.main_arg0) = m' ((c.tc : Thread Cert.InZeroRefIdeal.nD Cert.InZeroRefIdeal.τ).loc Cert.InZeroRefIdeal.main_arg0)
          ∧ r.2.mem ((c.tc : Thread Cert.InZeroRefIdeal.nD Cert.InZeroRefIdeal.τ).loc Cert.InZeroRefIdeal.main_arg1) = m' ((c.tc : Thread Cert.InZeroRefIdeal.nD Cert.InZeroRefIdeal.τ).loc Cert.InZeroRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Oz_OzIdeal : Prop :=
  True

def algebraic_OzIdeal_OzRefIdeal [hOzIdeal : Cert.OzIdeal.Facts] [hOzRefIdeal : Cert.OzRefIdeal.Facts] : Prop :=
  ∀ (m : (ℓ : Loc Cert.OzIdeal.nD Cert.OzIdeal.τ Cert.OzIdeal.sig) → Buf (Elt Ideal) ℓ) (g : Dev Cert.OzIdeal.nD → PrngReg)
    (m' : (ℓ : Loc Cert.OzRefIdeal.nD Cert.OzRefIdeal.τ Cert.OzRefIdeal.sig) → Buf (Elt Ideal) ℓ) (g' : Dev Cert.OzRefIdeal.nD → PrngReg), Pre_OzIdeal m →
    (∀ c : Dev Cert.OzIdeal.nD,
      m' ((c.tc : Thread Cert.OzRefIdeal.nD Cert.OzRefIdeal.τ).loc Cert.OzRefIdeal.main_arg0) = m ((c.tc : Thread Cert.OzIdeal.nD Cert.OzIdeal.τ).loc Cert.OzIdeal.main_arg0)
      ∧ m' ((c.tc : Thread Cert.OzRefIdeal.nD Cert.OzRefIdeal.τ).loc Cert.OzRefIdeal.main_arg1) = m ((c.tc : Thread Cert.OzIdeal.nD Cert.OzIdeal.τ).loc Cert.OzIdeal.main_arg1)) →
    ∃ (v0 : (c : Dev Cert.OzIdeal.nD) → Buf (Elt Ideal) ((c.tc : Thread Cert.OzIdeal.nD Cert.OzIdeal.τ).loc Cert.OzIdeal.main_v2)),
      θ_run (Cert.OzIdeal.defs (F := Ideal)) (onTc (τ := Cert.OzIdeal.τ) (Cert.OzIdeal.main (F := Ideal))) ⟨m, fun _ => 0, g⟩ (fun r => ∀ c : Dev Cert.OzIdeal.nD,
          r.2.mem ((c.tc : Thread Cert.OzIdeal.nD Cert.OzIdeal.τ).loc Cert.OzIdeal.main_v2) = v0 c
          ∧ r.2.mem ((c.tc : Thread Cert.OzIdeal.nD Cert.OzIdeal.τ).loc Cert.OzIdeal.main_arg0) = m ((c.tc : Thread Cert.OzIdeal.nD Cert.OzIdeal.τ).loc Cert.OzIdeal.main_arg0)
          ∧ r.2.mem ((c.tc : Thread Cert.OzIdeal.nD Cert.OzIdeal.τ).loc Cert.OzIdeal.main_arg1) = m ((c.tc : Thread Cert.OzIdeal.nD Cert.OzIdeal.τ).loc Cert.OzIdeal.main_arg1))
      ∧ θ_run (Cert.OzRefIdeal.defs (F := Ideal)) (onTc (τ := Cert.OzRefIdeal.τ) (Cert.OzRefIdeal.main (F := Ideal))) ⟨m', fun _ => 0, g'⟩ (fun r => ∀ c : Dev Cert.OzRefIdeal.nD,
          r.2.mem ((c.tc : Thread Cert.OzRefIdeal.nD Cert.OzRefIdeal.τ).loc Cert.OzRefIdeal.main_v5) = v0 c
          ∧ r.2.mem ((c.tc : Thread Cert.OzRefIdeal.nD Cert.OzRefIdeal.τ).loc Cert.OzRefIdeal.main_arg0) = m' ((c.tc : Thread Cert.OzRefIdeal.nD Cert.OzRefIdeal.τ).loc Cert.OzRefIdeal.main_arg0)
          ∧ r.2.mem ((c.tc : Thread Cert.OzRefIdeal.nD Cert.OzRefIdeal.τ).loc Cert.OzRefIdeal.main_arg1) = m' ((c.tc : Thread Cert.OzRefIdeal.nD Cert.OzRefIdeal.τ).loc Cert.OzRefIdeal.main_arg1))

def preserves_OutZero_OutZeroIdeal : Prop :=
  True

def algebraic_OutZeroIdeal_OutZeroRefIdeal [hOutZeroIdeal : Cert.OutZeroIdeal.Facts] [hOutZeroRefIdeal : Cert.OutZeroRefIdeal.Facts] : Prop :=
  ∀ (m : (ℓ : Loc Cert.OutZeroIdeal.nD Cert.OutZeroIdeal.τ Cert.OutZeroIdeal.sig) → Buf (Elt Ideal) ℓ) (g : Dev Cert.OutZeroIdeal.nD → PrngReg)
    (m' : (ℓ : Loc Cert.OutZeroRefIdeal.nD Cert.OutZeroRefIdeal.τ Cert.OutZeroRefIdeal.sig) → Buf (Elt Ideal) ℓ) (g' : Dev Cert.OutZeroRefIdeal.nD → PrngReg), Pre_OutZeroIdeal m →
    (∀ c : Dev Cert.OutZeroIdeal.nD,
      m' ((c.tc : Thread Cert.OutZeroRefIdeal.nD Cert.OutZeroRefIdeal.τ).loc Cert.OutZeroRefIdeal.main_arg0) = m ((c.tc : Thread Cert.OutZeroIdeal.nD Cert.OutZeroIdeal.τ).loc Cert.OutZeroIdeal.main_arg0)
      ∧ m' ((c.tc : Thread Cert.OutZeroRefIdeal.nD Cert.OutZeroRefIdeal.τ).loc Cert.OutZeroRefIdeal.main_arg1) = m ((c.tc : Thread Cert.OutZeroIdeal.nD Cert.OutZeroIdeal.τ).loc Cert.OutZeroIdeal.main_arg1)
      ∧ m' ((c.tc : Thread Cert.OutZeroRefIdeal.nD Cert.OutZeroRefIdeal.τ).loc Cert.OutZeroRefIdeal.main_arg2) = m ((c.tc : Thread Cert.OutZeroIdeal.nD Cert.OutZeroIdeal.τ).loc Cert.OutZeroIdeal.main_arg2)
      ∧ m' ((c.tc : Thread Cert.OutZeroRefIdeal.nD Cert.OutZeroRefIdeal.τ).loc Cert.OutZeroRefIdeal.main_arg3) = m ((c.tc : Thread Cert.OutZeroIdeal.nD Cert.OutZeroIdeal.τ).loc Cert.OutZeroIdeal.main_arg3)
      ∧ m' ((c.tc : Thread Cert.OutZeroRefIdeal.nD Cert.OutZeroRefIdeal.τ).loc Cert.OutZeroRefIdeal.main_arg4) = m ((c.tc : Thread Cert.OutZeroIdeal.nD Cert.OutZeroIdeal.τ).loc Cert.OutZeroIdeal.main_arg4)
      ∧ m' ((c.tc : Thread Cert.OutZeroRefIdeal.nD Cert.OutZeroRefIdeal.τ).loc Cert.OutZeroRefIdeal.main_arg5) = m ((c.tc : Thread Cert.OutZeroIdeal.nD Cert.OutZeroIdeal.τ).loc Cert.OutZeroIdeal.main_arg5)) →
    ∃ (v0 : (c : Dev Cert.OutZeroIdeal.nD) → Buf (Elt Ideal) ((c.tc : Thread Cert.OutZeroIdeal.nD Cert.OutZeroIdeal.τ).loc Cert.OutZeroIdeal.main_v12_0)) (v1 : (c : Dev Cert.OutZeroIdeal.nD) → Buf (Elt Ideal) ((c.tc : Thread Cert.OutZeroIdeal.nD Cert.OutZeroIdeal.τ).loc Cert.OutZeroIdeal.main_v12_1)) (v2 : (c : Dev Cert.OutZeroIdeal.nD) → Buf (Elt Ideal) ((c.tc : Thread Cert.OutZeroIdeal.nD Cert.OutZeroIdeal.τ).loc Cert.OutZeroIdeal.main_v12_2)),
      θ_run (Cert.OutZeroIdeal.defs (F := Ideal)) (onTc (τ := Cert.OutZeroIdeal.τ) (Cert.OutZeroIdeal.main (F := Ideal))) ⟨m, fun _ => 0, g⟩ (fun r => ∀ c : Dev Cert.OutZeroIdeal.nD,
          r.2.mem ((c.tc : Thread Cert.OutZeroIdeal.nD Cert.OutZeroIdeal.τ).loc Cert.OutZeroIdeal.main_v12_0) = v0 c
          ∧ r.2.mem ((c.tc : Thread Cert.OutZeroIdeal.nD Cert.OutZeroIdeal.τ).loc Cert.OutZeroIdeal.main_v12_1) = v1 c
          ∧ r.2.mem ((c.tc : Thread Cert.OutZeroIdeal.nD Cert.OutZeroIdeal.τ).loc Cert.OutZeroIdeal.main_v12_2) = v2 c
          ∧ r.2.mem ((c.tc : Thread Cert.OutZeroIdeal.nD Cert.OutZeroIdeal.τ).loc Cert.OutZeroIdeal.main_arg0) = m ((c.tc : Thread Cert.OutZeroIdeal.nD Cert.OutZeroIdeal.τ).loc Cert.OutZeroIdeal.main_arg0)
          ∧ r.2.mem ((c.tc : Thread Cert.OutZeroIdeal.nD Cert.OutZeroIdeal.τ).loc Cert.OutZeroIdeal.main_arg1) = m ((c.tc : Thread Cert.OutZeroIdeal.nD Cert.OutZeroIdeal.τ).loc Cert.OutZeroIdeal.main_arg1)
          ∧ r.2.mem ((c.tc : Thread Cert.OutZeroIdeal.nD Cert.OutZeroIdeal.τ).loc Cert.OutZeroIdeal.main_arg2) = m ((c.tc : Thread Cert.OutZeroIdeal.nD Cert.OutZeroIdeal.τ).loc Cert.OutZeroIdeal.main_arg2)
          ∧ r.2.mem ((c.tc : Thread Cert.OutZeroIdeal.nD Cert.OutZeroIdeal.τ).loc Cert.OutZeroIdeal.main_arg3) = m ((c.tc : Thread Cert.OutZeroIdeal.nD Cert.OutZeroIdeal.τ).loc Cert.OutZeroIdeal.main_arg3)
          ∧ r.2.mem ((c.tc : Thread Cert.OutZeroIdeal.nD Cert.OutZeroIdeal.τ).loc Cert.OutZeroIdeal.main_arg4) = m ((c.tc : Thread Cert.OutZeroIdeal.nD Cert.OutZeroIdeal.τ).loc Cert.OutZeroIdeal.main_arg4)
          ∧ r.2.mem ((c.tc : Thread Cert.OutZeroIdeal.nD Cert.OutZeroIdeal.τ).loc Cert.OutZeroIdeal.main_arg5) = m ((c.tc : Thread Cert.OutZeroIdeal.nD Cert.OutZeroIdeal.τ).loc Cert.OutZeroIdeal.main_arg5))
      ∧ θ_run (Cert.OutZeroRefIdeal.defs (F := Ideal)) (onTc (τ := Cert.OutZeroRefIdeal.τ) (Cert.OutZeroRefIdeal.main (F := Ideal))) ⟨m', fun _ => 0, g'⟩ (fun r => ∀ c : Dev Cert.OutZeroRefIdeal.nD,
          r.2.mem ((c.tc : Thread Cert.OutZeroRefIdeal.nD Cert.OutZeroRefIdeal.τ).loc Cert.OutZeroRefIdeal.main_v7) = v0 c
          ∧ r.2.mem ((c.tc : Thread Cert.OutZeroRefIdeal.nD Cert.OutZeroRefIdeal.τ).loc Cert.OutZeroRefIdeal.main_v26) = v1 c
          ∧ r.2.mem ((c.tc : Thread Cert.OutZeroRefIdeal.nD Cert.OutZeroRefIdeal.τ).loc Cert.OutZeroRefIdeal.main_v27) = v2 c
          ∧ r.2.mem ((c.tc : Thread Cert.OutZeroRefIdeal.nD Cert.OutZeroRefIdeal.τ).loc Cert.OutZeroRefIdeal.main_arg0) = m' ((c.tc : Thread Cert.OutZeroRefIdeal.nD Cert.OutZeroRefIdeal.τ).loc Cert.OutZeroRefIdeal.main_arg0)
          ∧ r.2.mem ((c.tc : Thread Cert.OutZeroRefIdeal.nD Cert.OutZeroRefIdeal.τ).loc Cert.OutZeroRefIdeal.main_arg1) = m' ((c.tc : Thread Cert.OutZeroRefIdeal.nD Cert.OutZeroRefIdeal.τ).loc Cert.OutZeroRefIdeal.main_arg1)
          ∧ r.2.mem ((c.tc : Thread Cert.OutZeroRefIdeal.nD Cert.OutZeroRefIdeal.τ).loc Cert.OutZeroRefIdeal.main_arg2) = m' ((c.tc : Thread Cert.OutZeroRefIdeal.nD Cert.OutZeroRefIdeal.τ).loc Cert.OutZeroRefIdeal.main_arg2)
          ∧ r.2.mem ((c.tc : Thread Cert.OutZeroRefIdeal.nD Cert.OutZeroRefIdeal.τ).loc Cert.OutZeroRefIdeal.main_arg3) = m' ((c.tc : Thread Cert.OutZeroRefIdeal.nD Cert.OutZeroRefIdeal.τ).loc Cert.OutZeroRefIdeal.main_arg3)
          ∧ r.2.mem ((c.tc : Thread Cert.OutZeroRefIdeal.nD Cert.OutZeroRefIdeal.τ).loc Cert.OutZeroRefIdeal.main_arg4) = m' ((c.tc : Thread Cert.OutZeroRefIdeal.nD Cert.OutZeroRefIdeal.τ).loc Cert.OutZeroRefIdeal.main_arg4)
          ∧ r.2.mem ((c.tc : Thread Cert.OutZeroRefIdeal.nD Cert.OutZeroRefIdeal.τ).loc Cert.OutZeroRefIdeal.main_arg5) = m' ((c.tc : Thread Cert.OutZeroRefIdeal.nD Cert.OutZeroRefIdeal.τ).loc Cert.OutZeroRefIdeal.main_arg5))

def preserves_OutOne_OutOneIdeal : Prop :=
  True

def algebraic_OutOneIdeal_OutOneRefIdeal [hOutOneIdeal : Cert.OutOneIdeal.Facts] [hOutOneRefIdeal : Cert.OutOneRefIdeal.Facts] : Prop :=
  ∀ (m : (ℓ : Loc Cert.OutOneIdeal.nD Cert.OutOneIdeal.τ Cert.OutOneIdeal.sig) → Buf (Elt Ideal) ℓ) (g : Dev Cert.OutOneIdeal.nD → PrngReg)
    (m' : (ℓ : Loc Cert.OutOneRefIdeal.nD Cert.OutOneRefIdeal.τ Cert.OutOneRefIdeal.sig) → Buf (Elt Ideal) ℓ) (g' : Dev Cert.OutOneRefIdeal.nD → PrngReg), Pre_OutOneIdeal m →
    (∀ c : Dev Cert.OutOneIdeal.nD,
      m' ((c.tc : Thread Cert.OutOneRefIdeal.nD Cert.OutOneRefIdeal.τ).loc Cert.OutOneRefIdeal.main_arg0) = m ((c.tc : Thread Cert.OutOneIdeal.nD Cert.OutOneIdeal.τ).loc Cert.OutOneIdeal.main_arg0)
      ∧ m' ((c.tc : Thread Cert.OutOneRefIdeal.nD Cert.OutOneRefIdeal.τ).loc Cert.OutOneRefIdeal.main_arg1) = m ((c.tc : Thread Cert.OutOneIdeal.nD Cert.OutOneIdeal.τ).loc Cert.OutOneIdeal.main_arg1)
      ∧ m' ((c.tc : Thread Cert.OutOneRefIdeal.nD Cert.OutOneRefIdeal.τ).loc Cert.OutOneRefIdeal.main_arg2) = m ((c.tc : Thread Cert.OutOneIdeal.nD Cert.OutOneIdeal.τ).loc Cert.OutOneIdeal.main_arg2)
      ∧ m' ((c.tc : Thread Cert.OutOneRefIdeal.nD Cert.OutOneRefIdeal.τ).loc Cert.OutOneRefIdeal.main_arg3) = m ((c.tc : Thread Cert.OutOneIdeal.nD Cert.OutOneIdeal.τ).loc Cert.OutOneIdeal.main_arg3)) →
    ∃ (v0 : (c : Dev Cert.OutOneIdeal.nD) → Buf (Elt Ideal) ((c.tc : Thread Cert.OutOneIdeal.nD Cert.OutOneIdeal.τ).loc Cert.OutOneIdeal.main_v4)),
      θ_run (Cert.OutOneIdeal.defs (F := Ideal)) (onTc (τ := Cert.OutOneIdeal.τ) (Cert.OutOneIdeal.main (F := Ideal))) ⟨m, fun _ => 0, g⟩ (fun r => ∀ c : Dev Cert.OutOneIdeal.nD,
          r.2.mem ((c.tc : Thread Cert.OutOneIdeal.nD Cert.OutOneIdeal.τ).loc Cert.OutOneIdeal.main_v4) = v0 c
          ∧ r.2.mem ((c.tc : Thread Cert.OutOneIdeal.nD Cert.OutOneIdeal.τ).loc Cert.OutOneIdeal.main_arg0) = m ((c.tc : Thread Cert.OutOneIdeal.nD Cert.OutOneIdeal.τ).loc Cert.OutOneIdeal.main_arg0)
          ∧ r.2.mem ((c.tc : Thread Cert.OutOneIdeal.nD Cert.OutOneIdeal.τ).loc Cert.OutOneIdeal.main_arg1) = m ((c.tc : Thread Cert.OutOneIdeal.nD Cert.OutOneIdeal.τ).loc Cert.OutOneIdeal.main_arg1)
          ∧ r.2.mem ((c.tc : Thread Cert.OutOneIdeal.nD Cert.OutOneIdeal.τ).loc Cert.OutOneIdeal.main_arg2) = m ((c.tc : Thread Cert.OutOneIdeal.nD Cert.OutOneIdeal.τ).loc Cert.OutOneIdeal.main_arg2)
          ∧ r.2.mem ((c.tc : Thread Cert.OutOneIdeal.nD Cert.OutOneIdeal.τ).loc Cert.OutOneIdeal.main_arg3) = m ((c.tc : Thread Cert.OutOneIdeal.nD Cert.OutOneIdeal.τ).loc Cert.OutOneIdeal.main_arg3))
      ∧ θ_run (Cert.OutOneRefIdeal.defs (F := Ideal)) (onTc (τ := Cert.OutOneRefIdeal.τ) (Cert.OutOneRefIdeal.main (F := Ideal))) ⟨m', fun _ => 0, g'⟩ (fun r => ∀ c : Dev Cert.OutOneRefIdeal.nD,
          r.2.mem ((c.tc : Thread Cert.OutOneRefIdeal.nD Cert.OutOneRefIdeal.τ).loc Cert.OutOneRefIdeal.main_v17) = v0 c
          ∧ r.2.mem ((c.tc : Thread Cert.OutOneRefIdeal.nD Cert.OutOneRefIdeal.τ).loc Cert.OutOneRefIdeal.main_arg0) = m' ((c.tc : Thread Cert.OutOneRefIdeal.nD Cert.OutOneRefIdeal.τ).loc Cert.OutOneRefIdeal.main_arg0)
          ∧ r.2.mem ((c.tc : Thread Cert.OutOneRefIdeal.nD Cert.OutOneRefIdeal.τ).loc Cert.OutOneRefIdeal.main_arg1) = m' ((c.tc : Thread Cert.OutOneRefIdeal.nD Cert.OutOneRefIdeal.τ).loc Cert.OutOneRefIdeal.main_arg1)
          ∧ r.2.mem ((c.tc : Thread Cert.OutOneRefIdeal.nD Cert.OutOneRefIdeal.τ).loc Cert.OutOneRefIdeal.main_arg2) = m' ((c.tc : Thread Cert.OutOneRefIdeal.nD Cert.OutOneRefIdeal.τ).loc Cert.OutOneRefIdeal.main_arg2)
          ∧ r.2.mem ((c.tc : Thread Cert.OutOneRefIdeal.nD Cert.OutOneRefIdeal.τ).loc Cert.OutOneRefIdeal.main_arg3) = m' ((c.tc : Thread Cert.OutOneRefIdeal.nD Cert.OutOneRefIdeal.τ).loc Cert.OutOneRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v16) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hInZero : Cert.InZero.Facts) (hInZeroIdeal : Cert.InZeroIdeal.Facts) (hInZeroRefIdeal : Cert.InZeroRefIdeal.Facts) (hQkv : Cert.Qkv.Facts) (hQkvIdeal : Cert.QkvIdeal.Facts) (hQkvRefIdeal : Cert.QkvRefIdeal.Facts) (hOz : Cert.Oz.Facts) (hOzIdeal : Cert.OzIdeal.Facts) (hOzRefIdeal : Cert.OzRefIdeal.Facts) (hOutZero : Cert.OutZero.Facts) (hOutZeroIdeal : Cert.OutZeroIdeal.Facts) (hOutZeroRefIdeal : Cert.OutZeroRefIdeal.Facts) (hOutOne : Cert.OutOne.Facts) (hOutOneIdeal : Cert.OutOneIdeal.Facts) (hOutOneRefIdeal : Cert.OutOneRefIdeal.Facts) (hNorm : Cert.Norm.Facts) (hNormIdeal : Cert.NormIdeal.Facts) (hNormRefIdeal : Cert.NormRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InZero (hInZero := hInZero)
    ∧ quiescent_InZeroIdeal (hInZeroIdeal := hInZeroIdeal)
    ∧ quiescent_InZeroRefIdeal (hInZeroRefIdeal := hInZeroRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Oz (hOz := hOz)
    ∧ quiescent_OzIdeal (hOzIdeal := hOzIdeal)
    ∧ quiescent_OzRefIdeal (hOzRefIdeal := hOzRefIdeal)
    ∧ quiescent_OutZero (hOutZero := hOutZero)
    ∧ quiescent_OutZeroIdeal (hOutZeroIdeal := hOutZeroIdeal)
    ∧ quiescent_OutZeroRefIdeal (hOutZeroRefIdeal := hOutZeroRefIdeal)
    ∧ quiescent_OutOne (hOutOne := hOutOne)
    ∧ quiescent_OutOneIdeal (hOutOneIdeal := hOutOneIdeal)
    ∧ quiescent_OutOneRefIdeal (hOutOneRefIdeal := hOutOneRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InZero_InZeroIdeal
    ∧ algebraic_InZeroIdeal_InZeroRefIdeal (hInZeroIdeal := hInZeroIdeal) (hInZeroRefIdeal := hInZeroRefIdeal)
    ∧ preserves_Qkv_QkvIdeal
    ∧ algebraic_QkvIdeal_QkvRefIdeal (hQkvIdeal := hQkvIdeal) (hQkvRefIdeal := hQkvRefIdeal)
    ∧ preserves_Oz_OzIdeal
    ∧ algebraic_OzIdeal_OzRefIdeal (hOzIdeal := hOzIdeal) (hOzRefIdeal := hOzRefIdeal)
    ∧ preserves_OutZero_OutZeroIdeal
    ∧ algebraic_OutZeroIdeal_OutZeroRefIdeal (hOutZeroIdeal := hOutZeroIdeal) (hOutZeroRefIdeal := hOutZeroRefIdeal)
    ∧ preserves_OutOne_OutOneIdeal
    ∧ algebraic_OutOneIdeal_OutOneRefIdeal (hOutOneIdeal := hOutOneIdeal) (hOutOneRefIdeal := hOutOneRefIdeal)
    ∧ preserves_Norm_NormIdeal
    ∧ algebraic_NormIdeal_NormRefIdeal (hNormIdeal := hNormIdeal) (hNormRefIdeal := hNormRefIdeal)
-- ==== Pre_finite.lean ====
abbrev S8x2048x4608 : Shape := ⟨3, ![8, 2048, 4608]⟩
abbrev S1x128 : Shape := ⟨2, ![1, 128]⟩
abbrev S_ : Shape := ⟨0, ![]⟩

class Facts : Prop where
  bcast_S_S8x2048x4608 : S_.BroadcastsInDim S8x2048x4608 (![] : Fin 0 → Fin S8x2048x4608.rank)
  reducesTo_S8x2048x4608_S_d0_1_2 : S8x2048x4608.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S8x2048x4608 .f32) (main_arg1 : FVec F S1x128 .f32) (main_arg2 : FVec F S1x128 .f32) : IVec S_ 1 :=
  let main_v0 : FVec F S8x2048x4608 .f32 := Host.absf main_arg0
  let main_cst : FVec F S_ .f32 := constant S_ .f32 0x7F800000#32
  let main_v1 : FVec F S8x2048x4608 .f32 := broadcastInDim S8x2048x4608 ![] bcast_S_S8x2048x4608 main_cst
  let main_v2 : IVec S8x2048x4608 1 := cmpf .olt main_v0 main_v1
  let main_c : IVec S_ 1 := constantI S_ 1 1#1
  let main_v3 : IVec S_ 1 := (fun x v => Host.reduce IntOp.andi x v reducesTo_S8x2048x4608_S_d0_1_2 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S8x2048x4608 : Shape := ⟨3, ![8, 2048, 4608]⟩
abbrev S1x128 : Shape := ⟨2, ![1, 128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S128 : Shape := ⟨1, ![128]⟩
abbrev S8x2048x1024 : Shape := ⟨3, ![8, 2048, 1024]⟩
abbrev S1x2048x512 : Shape := ⟨3, ![1, 2048, 512]⟩
abbrev S1x2048x128 : Shape := ⟨3, ![1, 2048, 128]⟩
abbrev S128x2048 : Shape := ⟨2, ![128, 2048]⟩
abbrev S8192x128 : Shape := ⟨2, ![8192, 128]⟩
abbrev S2x4x512x256 : Shape := ⟨4, ![2, 4, 512, 256]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S128x256 : Shape := ⟨2, ![128, 256]⟩
abbrev S8x256 : Shape := ⟨2, ![8, 256]⟩
abbrev S512x128 : Shape := ⟨2, ![512, 128]⟩
abbrev S512x256 : Shape := ⟨2, ![512, 256]⟩
abbrev S1x1x512x256 : Shape := ⟨4, ![1, 1, 512, 256]⟩
abbrev S64x8x256 : Shape := ⟨3, ![64, 8, 256]⟩
abbrev S256 : Shape := ⟨1, ![256]⟩
abbrev S1x256 : Shape := ⟨2, ![1, 256]⟩
abbrev S128x512 : Shape := ⟨2, ![128, 512]⟩

abbrev nBuf : Space → Nat
  | .hbm => 87
  | .vmem => 18
  | .smem => 0
  | _ => 0

abbrev bufTy : (tb : Table) → Fin (tcTables nBuf tb) → BufTy
  | .hbm, ⟨0, _⟩ => ⟨S8x2048x4608, .f32⟩
  | .hbm, ⟨1, _⟩ => ⟨S1x128, .f32⟩
  | .hbm, ⟨2, _⟩ => ⟨S1x128, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S2048x1, .f32⟩
  | .hbm, ⟨61, _⟩ => ⟨S1x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x1, .f32⟩
  | .hbm, ⟨66, _⟩ => ⟨S1x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x128, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x32, .f32⟩
  | .hbm, ⟨81, _⟩ => ⟨S2048x128, .f32⟩
  | .hbm, ⟨82, _⟩ => ⟨S128, .f32⟩
  | .hbm, ⟨83, _⟩ => ⟨S1x128, .f32⟩
  | .hbm, ⟨84, _⟩ => ⟨S128, .f32⟩
  | .hbm, ⟨85, _⟩ => ⟨S1x128, .f32⟩
  | .hbm, ⟨86, _⟩ => ⟨S8x2048x1024, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x512, .f32⟩
  | .local _ .vmem, ⟨7, _⟩ => ⟨S1x2048x512, .f32⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S1x2048x512, .bf16⟩
  | .local _ .vmem, ⟨13, _⟩ => ⟨S1x2048x512, .bf16⟩
  | .local _ .vmem, ⟨14, _⟩ => ⟨S2048x128, .bf16⟩
  | .local _ .vmem, ⟨15, _⟩ => ⟨S128x2048, .bf16⟩
  | .local _ .vmem, ⟨16, _⟩ => ⟨S8192x128, .bf16⟩
  | .local _ .vmem, ⟨17, _⟩ => ⟨S2x4x512x256, .f32⟩
  | _, _ => ⟨S8x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  v59
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v61 : Index := Scalar.indexCast v60
  let c0_43 : Index := 0#32
  ![v61.toNat, 0]
def k0_off2 (k0_t1 : Fin k0_t1_loop.trips) : Fin 3 → Nat :=
  let c0_45 : Index := 0#32
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v67 : Index := Scalar.indexCast v60
  let c0_46 : Index := 0#32
  ![0, v67.toNat, 0]
def k0_off3 (k0_t1 : Fin k0_t1_loop.trips) : Fin 2 → Nat :=
  let c0_61 : Index := 0#32
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v122 : Index := Scalar.indexCast v60
  ![0, v122.toNat]
def k0_off4 (k0_t1 : Fin k0_t1_loop.trips) : Fin 3 → Nat :=
  let c0_62 : Index := 0#32
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v126 : Index := Scalar.indexCast v60
  let c0_63 : Index := 0#32
  ![0, v126.toNat, 0]
def k0_mult2 (k0_t1 : Fin k0_t1_loop.trips) : BitVec 32 :=
  let c0_i32_79 : BitVec 32 := 0#32
  let c0_i32 : BitVec 32 := 0#32
  let c1_i32 : BitVec 32 := 1#32
  let arg15 : BitVec 32 := Scf.iv c0_i32 c1_i32 k0_t1
  let c256_i32_78 : BitVec 32 := 256#32
  let v173 : BitVec 32 := Scalar.muli arg15 c256_i32_78
  let v174 : BitVec 32 := Scalar.addi c0_i32_79 v173
  v174
def k0_off5 (k0_t1 : Fin k0_t1_loop.trips) (c0_i32_79 : BitVec 32) : Fin 2 → Nat :=
  let c0_i32 : BitVec 32 := 0#32
  let c1_i32 : BitVec 32 := 1#32
  let arg15 : BitVec 32 := Scf.iv c0_i32 c1_i32 k0_t1
  let c256_i32_78 : BitVec 32 := 256#32
  let v173 : BitVec 32 := Scalar.muli arg15 c256_i32_78
  let v174 : BitVec 32 := Scalar.addi c0_i32_79 v173
  let v175 : BitVec 32 := v174
  let v176 : Index := Scalar.indexCast v175
  let c0_80 : Index := 0#32
  ![v176.toNat, 0]
def k0_off6 (k0_t1 : Fin k0_t1_loop.trips) : Fin 3 → Nat :=
  let c0_81 : Index := 0#32
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v180 : Index := Scalar.indexCast v60
  let c128 : Index := 128#32
  ![0, v180.toNat, 128]
def k0_mult3 (k0_t1 : Fin k0_t1_loop.trips) : BitVec 32 :=
  let c2048_i32 : BitVec 32 := 2048#32
  let c0_i32 : BitVec 32 := 0#32
  let c1_i32 : BitVec 32 := 1#32
  let arg15 : BitVec 32 := Scf.iv c0_i32 c1_i32 k0_t1
  let c256_i32_96 : BitVec 32 := 256#32
  let v227 : BitVec 32 := Scalar.muli arg15 c256_i32_96
  let v228 : BitVec 32 := Scalar.addi c2048_i32 v227
  v228
def k0_off7 (k0_t1 : Fin k0_t1_loop.trips) : Fin 3 → Nat :=
  let c0_98 : Index := 0#32
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v234 : Index := Scalar.indexCast v60
  let c256 : Index := 256#32
  ![0, v234.toNat, 256]
def k0_mult4 (k0_t1 : Fin k0_t1_loop.trips) : BitVec 32 :=
  let c4096_i32 : BitVec 32 := 4096#32
  let c0_i32 : BitVec 32 := 0#32
  let c1_i32 : BitVec 32 := 1#32
  let arg15 : BitVec 32 := Scf.iv c0_i32 c1_i32 k0_t1
  let c256_i32_113 : BitVec 32 := 256#32
  let v281 : BitVec 32 := Scalar.muli arg15 c256_i32_113
  let v282 : BitVec 32 := Scalar.addi c4096_i32 v281
  v282
def k0_off8 (k0_t1 : Fin k0_t1_loop.trips) : Fin 3 → Nat :=
  let c0_115 : Index := 0#32
  let c0_i32 : BitVec 32 := 0#32
  let c1_i32 : BitVec 32 := 1#32
  let arg15 : BitVec 32 := Scf.iv c0_i32 c1_i32 k0_t1
  let c256_i32 : BitVec 32 := 256#32
  let v59 : BitVec 32 := Scalar.muli arg15 c256_i32
  let v60 : BitVec 32 := v59
  let v288 : Index := Scalar.indexCast v60
  let c384 : Index := 384#32
  ![0, v288.toNat, 384]
def k0_mult5 (k0_t1 : Fin k0_t1_loop.trips) : BitVec 32 :=
  let c6144_i32 : BitVec 32 := 6144#32
  let c0_i32 : BitVec 32 := 0#32
  let c1_i32 : BitVec 32 := 1#32
  let arg15 : BitVec 32 := Scf.iv c0_i32 c1_i32 k0_t1
  let c256_i32_130 : BitVec 32 := 256#32
  let v335 : BitVec 32 := Scalar.muli arg15 c256_i32_130
  let v336 : BitVec 32 := Scalar.addi c6144_i32 v335
  v336
def k0_mult6 : BitVec 32 :=
  let c0_i32_8 : BitVec 32 := 0#32
  c0_i32_8
def k0_mult7 : BitVec 32 :=
  let c0_i32_17 : BitVec 32 := 0#32
  c0_i32_17
def k0_mult8 : BitVec 32 :=
  let c0_i32_25 : BitVec 32 := 0#32
  c0_i32_25
def k0_mult9 : BitVec 32 :=
  let c0_i32_33 : BitVec 32 := 0#32
  c0_i32_33
@[reducible] def k0_t2_loop : Scf.Loop 32 :=
  let c0_i32_40 : BitVec 32 := 0#32
  let c2_i32 : BitVec 32 := 2#32
  let v57 : BitVec 32 := Scalar.addi c0_i32_40 c2_i32
  let c1_i32_41 : BitVec 32 := 1#32
  ⟨c0_i32_40, v57, c1_i32_41⟩
def k0_mult10 (k0_t2 : Fin k0_t2_loop.trips) : BitVec 32 :=
  let c0_i32_43 : BitVec 32 := 0#32
  let c0_i32_40 : BitVec 32 := 0#32
  let c1_i32_41 : BitVec 32 := 1#32
  let arg15 : BitVec 32 := Scf.iv c0_i32_40 c1_i32_41 k0_t2
  let c4_i32 : BitVec 32 := 4#32
  let v59 : BitVec 32 := Scalar.muli arg15 c4_i32
  let v60 : BitVec 32 := Scalar.addi c0_i32_43 v59
  let c1_i32_44 : BitVec 32 := 1#32
  let v61 : BitVec 32 := Scalar.addi v60 c1_i32_44
  let c256_i32 : BitVec 32 := 256#32
  let v67 : BitVec 32 := Scalar.muli v61 c256_i32
  v67
def k0_off9 (k0_t2 : Fin k0_t2_loop.trips) (c0_i32_43 : BitVec 32) (c1_i32_44 : BitVec 32) : Fin 2 → Nat :=
  let c0_i32_40 : BitVec 32 := 0#32
  let c1_i32_41 : BitVec 32 := 1#32
  let arg15 : BitVec 32 := Scf.iv c0_i32_40 c1_i32_41 k0_t2
  let c4_i32 : BitVec 32 := 4#32
  let v59 : BitVec 32 := Scalar.muli arg15 c4_i32
  let v60 : BitVec 32 := Scalar.addi c0_i32_43 v59
  let v61 : BitVec 32 := Scalar.addi v60 c1_i32_44
  let c256_i32 : BitVec 32 := 256#32
  let v67 : BitVec 32 := Scalar.muli v61 c256_i32
  let v68 : BitVec 32 := v67
  let v69 : Index := Scalar.indexCast v68
  let c0_50 : Index := 0#32
  ![v69.toNat, 0]
def k0_off9_at (r : Fin 15) : BitVec 32 × BitVec 32 :=
  if r.val < 7 then
    if r.val < 3 then
      if r.val < 1 then
        (0#32, 1#32)
      else
        if r.val < 2 then
          (0#32, 2#32)
        else
          (0#32, 3#32)
    else
      if r.val < 5 then
        if r.val < 4 then
          (8#32, 0#32)
        else
          (8#32, 1#32)
      else
        if r.val < 6 then
          (8#32, 2#32)
        else
          (8#32, 3#32)
  else
    if r.val < 11 then
      if r.val < 9 then
        if r.val < 8 then
          (16#32, 0#32)
        else
          (16#32, 1#32)
      else
        if r.val < 10 then
          (16#32, 2#32)
        else
          (16#32, 3#32)
    else
      if r.val < 13 then
        if r.val < 12 then
          (24#32, 0#32)
        else
          (24#32, 1#32)
      else
        if r.val < 14 then
          (24#32, 2#32)
        else
          (24#32, 3#32)
def k0_mult11 (k0_t2 : Fin k0_t2_loop.trips) : BitVec 32 :=
  let c0_i32_43 : BitVec 32 := 0#32
  let c0_i32_40 : BitVec 32 := 0#32
  let c1_i32_41 : BitVec 32 := 1#32
  let arg15 : BitVec 32 := Scf.iv c0_i32_40 c1_i32_41 k0_t2
  let c4_i32 : BitVec 32 := 4#32
  let v59 : BitVec 32 := Scalar.muli arg15 c4_i32
  let v60 : BitVec 32 := Scalar.addi c0_i32_43 v59
  let c1_i32_44 : BitVec 32 := 1#32
  let v61 : BitVec 32 := Scalar.addi v60 c1_i32_44
  let c256_i32_67 : BitVec 32 := 256#32
  let v91 : BitVec 32 := Scalar.muli v61 c256_i32_67
  v91
def k0_mult12 (k0_t2 : Fin k0_t2_loop.trips) : BitVec 32 :=
  let c0_i32_43 : BitVec 32 := 0#32
  let c0_i32_40 : BitVec 32 := 0#32
  let c1_i32_41 : BitVec 32 := 1#32
  let arg15 : BitVec 32 := Scf.iv c0_i32_40 c1_i32_41 k0_t2
  let c4_i32 : BitVec 32 := 4#32
  let v59 : BitVec 32 := Scalar.muli arg15 c4_i32
  let v60 : BitVec 32 := Scalar.addi c0_i32_43 v59
  let c1_i32_44 : BitVec 32 := 1#32
  let v61 : BitVec 32 := Scalar.addi v60 c1_i32_44
  let c256_i32_85 : BitVec 32 := 256#32
  let v115 : BitVec 32 := Scalar.muli v61 c256_i32_85
  v115
def k0_mult13 (k0_t2 : Fin k0_t2_loop.trips) : BitVec 32 :=
  let c0_i32_43 : BitVec 32 := 0#32
  let c0_i32_40 : BitVec 32 := 0#32
  let c1_i32_41 : BitVec 32 := 1#32
  let arg15 : BitVec 32 := Scf.iv c0_i32_40 c1_i32_41 k0_t2
  let c4_i32 : BitVec 32 := 4#32
  let v59 : BitVec 32 := Scalar.muli arg15 c4_i32
  let v60 : BitVec 32 := Scalar.addi c0_i32_43 v59
  let c1_i32_44 : BitVec 32 := 1#32
  let v61 : BitVec 32 := Scalar.addi v60 c1_i32_44
  let c256_i32_103 : BitVec 32 := 256#32
  let v139 : BitVec 32 := Scalar.muli v61 c256_i32_103
  v139
def k0_mult14 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_120 : BitVec 32 := 4#32
  let v164 : BitVec 32 := Scalar.muli arg15 c4_i32_120
  let c0_i32_121 : BitVec 32 := 0#32
  let v165 : BitVec 32 := Scalar.addi v164 c0_i32_121
  let c256_i32_122 : BitVec 32 := 256#32
  let v166 : BitVec 32 := Scalar.muli v165 c256_i32_122
  v166
def k0_off10 (k0_t2 : Fin k0_t2_loop.trips) (c0_i32_121 : BitVec 32) : Fin 3 → Nat :=
  let c0_123 : Index := 0#32
  let c0_i32_40 : BitVec 32 := 0#32
  let c1_i32_41 : BitVec 32 := 1#32
  let arg15 : BitVec 32 := Scf.iv c0_i32_40 c1_i32_41 k0_t2
  let c4_i32_120 : BitVec 32 := 4#32
  let v164 : BitVec 32 := Scalar.muli arg15 c4_i32_120
  let v165 : BitVec 32 := Scalar.addi v164 c0_i32_121
  let c256_i32_122 : BitVec 32 := 256#32
  let v166 : BitVec 32 := Scalar.muli v165 c256_i32_122
  let v167 : BitVec 32 := v166
  let v168 : Index := Scalar.indexCast v167
  let c0_124 : Index := 0#32
  ![0, v168.toNat, 0]
def k0_mult15 (k0_t2 : Fin k0_t2_loop.trips) : BitVec 32 :=
  let c0_i32_129 : BitVec 32 := 0#32
  let c0_i32_40 : BitVec 32 := 0#32
  let c1_i32_41 : BitVec 32 := 1#32
  let arg15 : BitVec 32 := Scf.iv c0_i32_40 c1_i32_41 k0_t2
  let c4_i32_128 : BitVec 32 := 4#32
  let v185 : BitVec 32 := Scalar.muli arg15 c4_i32_128
  let v186 : BitVec 32 := Scalar.addi c0_i32_129 v185
  let c2_i32_130 : BitVec 32 := 2#32
  let v187 : BitVec 32 := Scalar.addi v186 c2_i32_130
  let c256_i32_136 : BitVec 32 := 256#32
  let v193 : BitVec 32 := Scalar.muli v187 c256_i32_136
  v193
def k0_mult16 (k0_t2 : Fin k0_t2_loop.trips) : BitVec 32 :=
  let c0_i32_129 : BitVec 32 := 0#32
  let c0_i32_40 : BitVec 32 := 0#32
  let c1_i32_41 : BitVec 32 := 1#32
  let arg15 : BitVec 32 := Scf.iv c0_i32_40 c1_i32_41 k0_t2
  let c4_i32_128 : BitVec 32 := 4#32
  let v185 : BitVec 32 := Scalar.muli arg15 c4_i32_128
  let v186 : BitVec 32 := Scalar.addi c0_i32_129 v185
  let c2_i32_130 : BitVec 32 := 2#32
  let v187 : BitVec 32 := Scalar.addi v186 c2_i32_130
  let c256_i32_154 : BitVec 32 := 256#32
  let v217 : BitVec 32 := Scalar.muli v187 c256_i32_154
  v217
def k0_mult17 (k0_t2 : Fin k0_t2_loop.trips) : BitVec 32 :=
  let c0_i32_129 : BitVec 32 := 0#32
  let c0_i32_40 : BitVec 32 := 0#32
  let c1_i32_41 : BitVec 32 := 1#32
  let arg15 : BitVec 32 := Scf.iv c0_i32_40 c1_i32_41 k0_t2
  let c4_i32_128 : BitVec 32 := 4#32
  let v185 : BitVec 32 := Scalar.muli arg15 c4_i32_128
  let v186 : BitVec 32 := Scalar.addi c0_i32_129 v185
  let c2_i32_130 : BitVec 32 := 2#32
  let v187 : BitVec 32 := Scalar.addi v186 c2_i32_130
  let c256_i32_172 : BitVec 32 := 256#32
  let v241 : BitVec 32 := Scalar.muli v187 c256_i32_172
  v241
def k0_mult18 (k0_t2 : Fin k0_t2_loop.trips) : BitVec 32 :=
  let c0_i32_129 : BitVec 32 := 0#32
  let c0_i32_40 : BitVec 32 := 0#32
  let c1_i32_41 : BitVec 32 := 1#32
  let arg15 : BitVec 32 := Scf.iv c0_i32_40 c1_i32_41 k0_t2
  let c4_i32_128 : BitVec 32 := 4#32
  let v185 : BitVec 32 := Scalar.muli arg15 c4_i32_128
  let v186 : BitVec 32 := Scalar.addi c0_i32_129 v185
  let c2_i32_130 : BitVec 32 := 2#32
  let v187 : BitVec 32 := Scalar.addi v186 c2_i32_130
  let c256_i32_190 : BitVec 32 := 256#32
  let v265 : BitVec 32 := Scalar.muli v187 c256_i32_190
  v265
def k0_mult19 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_207 : BitVec 32 := 4#32
  let v290 : BitVec 32 := Scalar.muli arg15 c4_i32_207
  let c1_i32_208 : BitVec 32 := 1#32
  let v291 : BitVec 32 := Scalar.addi v290 c1_i32_208
  let c256_i32_209 : BitVec 32 := 256#32
  let v292 : BitVec 32 := Scalar.muli v291 c256_i32_209
  v292
def k0_mult20 (k0_t2 : Fin k0_t2_loop.trips) : BitVec 32 :=
  let c0_i32_216 : BitVec 32 := 0#32
  let c0_i32_40 : BitVec 32 := 0#32
  let c1_i32_41 : BitVec 32 := 1#32
  let arg15 : BitVec 32 := Scf.iv c0_i32_40 c1_i32_41 k0_t2
  let c4_i32_215 : BitVec 32 := 4#32
  let v311 : BitVec 32 := Scalar.muli arg15 c4_i32_215
  let v312 : BitVec 32 := Scalar.addi c0_i32_216 v311
  let c3_i32 : BitVec 32 := 3#32
  let v313 : BitVec 32 := Scalar.addi v312 c3_i32
  let c256_i32_222 : BitVec 32 := 256#32
  let v319 : BitVec 32 := Scalar.muli v313 c256_i32_222
  v319
def k0_mult21 (k0_t2 : Fin k0_t2_loop.trips) : BitVec 32 :=
  let c0_i32_216 : BitVec 32 := 0#32
  let c0_i32_40 : BitVec 32 := 0#32
  let c1_i32_41 : BitVec 32 := 1#32
  let arg15 : BitVec 32 := Scf.iv c0_i32_40 c1_i32_41 k0_t2
  let c4_i32_215 : BitVec 32 := 4#32
  let v311 : BitVec 32 := Scalar.muli arg15 c4_i32_215
  let v312 : BitVec 32 := Scalar.addi c0_i32_216 v311
  let c3_i32 : BitVec 32 := 3#32
  let v313 : BitVec 32 := Scalar.addi v312 c3_i32
  let c256_i32_240 : BitVec 32 := 256#32
  let v343 : BitVec 32 := Scalar.muli v313 c256_i32_240
  v343
def k0_mult22 (k0_t2 : Fin k0_t2_loop.trips) : BitVec 32 :=
  let c0_i32_216 : BitVec 32 := 0#32
  let c0_i32_40 : BitVec 32 := 0#32
  let c1_i32_41 : BitVec 32 := 1#32
  let arg15 : BitVec 32 := Scf.iv c0_i32_40 c1_i32_41 k0_t2
  let c4_i32_215 : BitVec 32 := 4#32
  let v311 : BitVec 32 := Scalar.muli arg15 c4_i32_215
  let v312 : BitVec 32 := Scalar.addi c0_i32_216 v311
  let c3_i32 : BitVec 32 := 3#32
  let v313 : BitVec 32 := Scalar.addi v312 c3_i32
  let c256_i32_258 : BitVec 32 := 256#32
  let v367 : BitVec 32 := Scalar.muli v313 c256_i32_258
  v367
def k0_mult23 (k0_t2 : Fin k0_t2_loop.trips) : BitVec 32 :=
  let c0_i32_216 : BitVec 32 := 0#32
  let c0_i32_40 : BitVec 32 := 0#32
  let c1_i32_41 : BitVec 32 := 1#32
  let arg15 : BitVec 32 := Scf.iv c0_i32_40 c1_i32_41 k0_t2
  let c4_i32_215 : BitVec 32 := 4#32
  let v311 : BitVec 32 := Scalar.muli arg15 c4_i32_215
  let v312 : BitVec 32 := Scalar.addi c0_i32_216 v311
  let c3_i32 : BitVec 32 := 3#32
  let v313 : BitVec 32 := Scalar.addi v312 c3_i32
  let c256_i32_276 : BitVec 32 := 256#32
  let v391 : BitVec 32 := Scalar.muli v313 c256_i32_276
  v391
def k0_mult24 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_293 : BitVec 32 := 4#32
  let v416 : BitVec 32 := Scalar.muli arg15 c4_i32_293
  let c2_i32_294 : BitVec 32 := 2#32
  let v417 : BitVec 32 := Scalar.addi v416 c2_i32_294
  let c256_i32_295 : BitVec 32 := 256#32
  let v418 : BitVec 32 := Scalar.muli v417 c256_i32_295
  v418
def k0_mult25 (k0_t2 : Fin k0_t2_loop.trips) : BitVec 32 :=
  let c8_i32_302 : BitVec 32 := 8#32
  let c0_i32_40 : BitVec 32 := 0#32
  let c1_i32_41 : BitVec 32 := 1#32
  let arg15 : BitVec 32 := Scf.iv c0_i32_40 c1_i32_41 k0_t2
  let c4_i32_301 : BitVec 32 := 4#32
  let v437 : BitVec 32 := Scalar.muli arg15 c4_i32_301
  let v438 : BitVec 32 := Scalar.addi c8_i32_302 v437
  let c0_i32_303 : BitVec 32 := 0#32
  let v439 : BitVec 32 := Scalar.addi v438 c0_i32_303
  let c256_i32_309 : BitVec 32 := 256#32
  let v445 : BitVec 32 := Scalar.muli v439 c256_i32_309
  v445
def k0_mult26 (k0_t2 : Fin k0_t2_loop.trips) : BitVec 32 :=
  let c8_i32_302 : BitVec 32 := 8#32
  let c0_i32_40 : BitVec 32 := 0#32
  let c1_i32_41 : BitVec 32 := 1#32
  let arg15 : BitVec 32 := Scf.iv c0_i32_40 c1_i32_41 k0_t2
  let c4_i32_301 : BitVec 32 := 4#32
  let v437 : BitVec 32 := Scalar.muli arg15 c4_i32_301
  let v438 : BitVec 32 := Scalar.addi c8_i32_302 v437
  let c0_i32_303 : BitVec 32 := 0#32
  let v439 : BitVec 32 := Scalar.addi v438 c0_i32_303
  let c256_i32_327 : BitVec 32 := 256#32
  let v469 : BitVec 32 := Scalar.muli v439 c256_i32_327
  v469
def k0_mult27 (k0_t2 : Fin k0_t2_loop.trips) : BitVec 32 :=
  let c8_i32_302 : BitVec 32 := 8#32
  let c0_i32_40 : BitVec 32 := 0#32
  let c1_i32_41 : BitVec 32 := 1#32
  let arg15 : BitVec 32 := Scf.iv c0_i32_40 c1_i32_41 k0_t2
  let c4_i32_301 : BitVec 32 := 4#32
  let v437 : BitVec 32 := Scalar.muli arg15 c4_i32_301
  let v438 : BitVec 32 := Scalar.addi c8_i32_302 v437
  let c0_i32_303 : BitVec 32 := 0#32
  let v439 : BitVec 32 := Scalar.addi v438 c0_i32_303
  let c256_i32_345 : BitVec 32 := 256#32
  let v493 : BitVec 32 := Scalar.muli v439 c256_i32_345
  v493
def k0_mult28 (k0_t2 : Fin k0_t2_loop.trips) : BitVec 32 :=
  let c8_i32_302 : BitVec 32 := 8#32
  let c0_i32_40 : BitVec 32 := 0#32
  let c1_i32_41 : BitVec 32 := 1#32
  let arg15 : BitVec 32 := Scf.iv c0_i32_40 c1_i32_41 k0_t2
  let c4_i32_301 : BitVec 32 := 4#32
  let v437 : BitVec 32 := Scalar.muli arg15 c4_i32_301
  let v438 : BitVec 32 := Scalar.addi c8_i32_302 v437
  let c0_i32_303 : BitVec 32 := 0#32
  let v439 : BitVec 32 := Scalar.addi v438 c0_i32_303
  let c256_i32_363 : BitVec 32 := 256#32
  let v517 : BitVec 32 := Scalar.muli v439 c256_i32_363
  v517
def k0_mult29 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_380 : BitVec 32 := 4#32
  let v542 : BitVec 32 := Scalar.muli arg15 c4_i32_380
  let c3_i32_381 : BitVec 32 := 3#32
  let v543 : BitVec 32 := Scalar.addi v542 c3_i32_381
  let c256_i32_382 : BitVec 32 := 256#32
  let v544 : BitVec 32 := Scalar.muli v543 c256_i32_382
  v544
def k0_mult30 (k0_t2 : Fin k0_t2_loop.trips) : BitVec 32 :=
  let c8_i32_389 : BitVec 32 := 8#32
  let c0_i32_40 : BitVec 32 := 0#32
  let c1_i32_41 : BitVec 32 := 1#32
  let arg15 : BitVec 32 := Scf.iv c0_i32_40 c1_i32_41 k0_t2
  let c4_i32_388 : BitVec 32 := 4#32
  let v563 : BitVec 32 := Scalar.muli arg15 c4_i32_388
  let v564 : BitVec 32 := Scalar.addi c8_i32_389 v563
  let c1_i32_390 : BitVec 32 := 1#32
  let v565 : BitVec 32 := Scalar.addi v564 c1_i32_390
  let c256_i32_396 : BitVec 32 := 256#32
  let v571 : BitVec 32 := Scalar.muli v565 c256_i32_396
  v571
def k0_mult31 (k0_t2 : Fin k0_t2_loop.trips) : BitVec 32 :=
  let c8_i32_389 : BitVec 32 := 8#32
  let c0_i32_40 : BitVec 32 := 0#32
  let c1_i32_41 : BitVec 32 := 1#32
  let arg15 : BitVec 32 := Scf.iv c0_i32_40 c1_i32_41 k0_t2
  let c4_i32_388 : BitVec 32 := 4#32
  let v563 : BitVec 32 := Scalar.muli arg15 c4_i32_388
  let v564 : BitVec 32 := Scalar.addi c8_i32_389 v563
  let c1_i32_390 : BitVec 32 := 1#32
  let v565 : BitVec 32 := Scalar.addi v564 c1_i32_390
  let c256_i32_414 : BitVec 32 := 256#32
  let v595 : BitVec 32 := Scalar.muli v565 c256_i32_414
  v595
def k0_mult32 (k0_t2 : Fin k0_t2_loop.trips) : BitVec 32 :=
  let c8_i32_389 : BitVec 32 := 8#32
  let c0_i32_40 : BitVec 32 := 0#32
  let c1_i32_41 : BitVec 32 := 1#32
  let arg15 : BitVec 32 := Scf.iv c0_i32_40 c1_i32_41 k0_t2
  let c4_i32_388 : BitVec 32 := 4#32
  let v563 : BitVec 32 := Scalar.muli arg15 c4_i32_388
  let v564 : BitVec 32 := Scalar.addi c8_i32_389 v563
  let c1_i32_390 : BitVec 32 := 1#32
  let v565 : BitVec 32 := Scalar.addi v564 c1_i32_390
  let c256_i32_432 : BitVec 32 := 256#32
  let v619 : BitVec 32 := Scalar.muli v565 c256_i32_432
  v619
def k0_mult33 (k0_t2 : Fin k0_t2_loop.trips) : BitVec 32 :=
  let c8_i32_389 : BitVec 32 := 8#32
  let c0_i32_40 : BitVec 32 := 0#32
  let c1_i32_41 : BitVec 32 := 1#32
  let arg15 : BitVec 32 := Scf.iv c0_i32_40 c1_i32_41 k0_t2
  let c4_i32_388 : BitVec 32 := 4#32
  let v563 : BitVec 32 := Scalar.muli arg15 c4_i32_388
  let v564 : BitVec 32 := Scalar.addi c8_i32_389 v563
  let c1_i32_390 : BitVec 32 := 1#32
  let v565 : BitVec 32 := Scalar.addi v564 c1_i32_390
  let c256_i32_450 : BitVec 32 := 256#32
  let v643 : BitVec 32 := Scalar.muli v565 c256_i32_450
  v643
def k0_mult34 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_467 : BitVec 32 := 4#32
  let v668 : BitVec 32 := Scalar.muli arg15 c4_i32_467
  let c0_i32_468 : BitVec 32 := 0#32
  let v669 : BitVec 32 := Scalar.addi v668 c0_i32_468
  let c256_i32_469 : BitVec 32 := 256#32
  let v670 : BitVec 32 := Scalar.muli v669 c256_i32_469
  v670
def k0_off11 (k0_t2 : Fin k0_t2_loop.trips) (c0_i32_468 : BitVec 32) : Fin 3 → Nat :=
  let c0_470 : Index := 0#32
  let c0_i32_40 : BitVec 32 := 0#32
  let c1_i32_41 : BitVec 32 := 1#32
  let arg15 : BitVec 32 := Scf.iv c0_i32_40 c1_i32_41 k0_t2
  let c4_i32_467 : BitVec 32 := 4#32
  let v668 : BitVec 32 := Scalar.muli arg15 c4_i32_467
  let v669 : BitVec 32 := Scalar.addi v668 c0_i32_468
  let c256_i32_469 : BitVec 32 := 256#32
  let v670 : BitVec 32 := Scalar.muli v669 c256_i32_469
  let v671 : BitVec 32 := v670
  let v672 : Index := Scalar.indexCast v671
  let c128 : Index := 128#32
  ![0, v672.toNat, 128]
def k0_mult35 (k0_t2 : Fin k0_t2_loop.trips) : BitVec 32 :=
  let c8_i32_475 : BitVec 32 := 8#32
  let c0_i32_40 : BitVec 32 := 0#32
  let c1_i32_41 : BitVec 32 := 1#32
  let arg15 : BitVec 32 := Scf.iv c0_i32_40 c1_i32_41 k0_t2
  let c4_i32_474 : BitVec 32 := 4#32
  let v689 : BitVec 32 := Scalar.muli arg15 c4_i32_474
  let v690 : BitVec 32 := Scalar.addi c8_i32_475 v689
  let c2_i32_476 : BitVec 32 := 2#32
  let v691 : BitVec 32 := Scalar.addi v690 c2_i32_476
  let c256_i32_482 : BitVec 32 := 256#32
  let v697 : BitVec 32 := Scalar.muli v691 c256_i32_482
  v697
def k0_mult36 (k0_t2 : Fin k0_t2_loop.trips) : BitVec 32 :=
  let c8_i32_475 : BitVec 32 := 8#32
  let c0_i32_40 : BitVec 32 := 0#32
  let c1_i32_41 : BitVec 32 := 1#32
  let arg15 : BitVec 32 := Scf.iv c0_i32_40 c1_i32_41 k0_t2
  let c4_i32_474 : BitVec 32 := 4#32
  let v689 : BitVec 32 := Scalar.muli arg15 c4_i32_474
  let v690 : BitVec 32 := Scalar.addi c8_i32_475 v689
  let c2_i32_476 : BitVec 32 := 2#32
  let v691 : BitVec 32 := Scalar.addi v690 c2_i32_476
  let c256_i32_500 : BitVec 32 := 256#32
  let v721 : BitVec 32 := Scalar.muli v691 c256_i32_500
  v721
def k0_mult37 (k0_t2 : Fin k0_t2_loop.trips) : BitVec 32 :=
  let c8_i32_475 : BitVec 32 := 8#32
  let c0_i32_40 : BitVec 32 := 0#32
  let c1_i32_41 : BitVec 32 := 1#32
  let arg15 : BitVec 32 := Scf.iv c0_i32_40 c1_i32_41 k0_t2
  let c4_i32_474 : BitVec 32 := 4#32
  let v689 : BitVec 32 := Scalar.muli arg15 c4_i32_474
  let v690 : BitVec 32 := Scalar.addi c8_i32_475 v689
  let c2_i32_476 : BitVec 32 := 2#32
  let v691 : BitVec 32 := Scalar.addi v690 c2_i32_476
  let c256_i32_518 : BitVec 32 := 256#32
  let v745 : BitVec 32 := Scalar.muli v691 c256_i32_518
  v745
def k0_mult38 (k0_t2 : Fin k0_t2_loop.trips) : BitVec 32 :=
  let c8_i32_475 : BitVec 32 := 8#32
  let c0_i32_40 : BitVec 32 := 0#32
  let c1_i32_41 : BitVec 32 := 1#32
  let arg15 : BitVec 32 := Scf.iv c0_i32_40 c1_i32_41 k0_t2
  let c4_i32_474 : BitVec 32 := 4#32
  let v689 : BitVec 32 := Scalar.muli arg15 c4_i32_474
  let v690 : BitVec 32 := Scalar.addi c8_i32_475 v689
  let c2_i32_476 : BitVec 32 := 2#32
  let v691 : BitVec 32 := Scalar.addi v690 c2_i32_476
  let c256_i32_536 : BitVec 32 := 256#32
  let v769 : BitVec 32 := Scalar.muli v691 c256_i32_536
  v769
def k0_mult39 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_553 : BitVec 32 := 4#32
  let v794 : BitVec 32 := Scalar.muli arg15 c4_i32_553
  let c1_i32_554 : BitVec 32 := 1#32
  let v795 : BitVec 32 := Scalar.addi v794 c1_i32_554
  let c256_i32_555 : BitVec 32 := 256#32
  let v796 : BitVec 32 := Scalar.muli v795 c256_i32_555
  v796
def k0_mult40 (k0_t2 : Fin k0_t2_loop.trips) : BitVec 32 :=
  let c8_i32_562 : BitVec 32 := 8#32
  let c0_i32_40 : BitVec 32 := 0#32
  let c1_i32_41 : BitVec 32 := 1#32
  let arg15 : BitVec 32 := Scf.iv c0_i32_40 c1_i32_41 k0_t2
  let c4_i32_561 : BitVec 32 := 4#32
  let v815 : BitVec 32 := Scalar.muli arg15 c4_i32_561
  let v816 : BitVec 32 := Scalar.addi c8_i32_562 v815
  let c3_i32_563 : BitVec 32 := 3#32
  let v817 : BitVec 32 := Scalar.addi v816 c3_i32_563
  let c256_i32_569 : BitVec 32 := 256#32
  let v823 : BitVec 32 := Scalar.muli v817 c256_i32_569
  v823
def k0_mult41 (k0_t2 : Fin k0_t2_loop.trips) : BitVec 32 :=
  let c8_i32_562 : BitVec 32 := 8#32
  let c0_i32_40 : BitVec 32 := 0#32
  let c1_i32_41 : BitVec 32 := 1#32
  let arg15 : BitVec 32 := Scf.iv c0_i32_40 c1_i32_41 k0_t2
  let c4_i32_561 : BitVec 32 := 4#32
  let v815 : BitVec 32 := Scalar.muli arg15 c4_i32_561
  let v816 : BitVec 32 := Scalar.addi c8_i32_562 v815
  let c3_i32_563 : BitVec 32 := 3#32
  let v817 : BitVec 32 := Scalar.addi v816 c3_i32_563
  let c256_i32_587 : BitVec 32 := 256#32
  let v847 : BitVec 32 := Scalar.muli v817 c256_i32_587
  v847
def k0_mult42 (k0_t2 : Fin k0_t2_loop.trips) : BitVec 32 :=
  let c8_i32_562 : BitVec 32 := 8#32
  let c0_i32_40 : BitVec 32 := 0#32
  let c1_i32_41 : BitVec 32 := 1#32
  let arg15 : BitVec 32 := Scf.iv c0_i32_40 c1_i32_41 k0_t2
  let c4_i32_561 : BitVec 32 := 4#32
  let v815 : BitVec 32 := Scalar.muli arg15 c4_i32_561
  let v816 : BitVec 32 := Scalar.addi c8_i32_562 v815
  let c3_i32_563 : BitVec 32 := 3#32
  let v817 : BitVec 32 := Scalar.addi v816 c3_i32_563
  let c256_i32_605 : BitVec 32 := 256#32
  let v871 : BitVec 32 := Scalar.muli v817 c256_i32_605
  v871
def k0_mult43 (k0_t2 : Fin k0_t2_loop.trips) : BitVec 32 :=
  let c8_i32_562 : BitVec 32 := 8#32
  let c0_i32_40 : BitVec 32 := 0#32
  let c1_i32_41 : BitVec 32 := 1#32
  let arg15 : BitVec 32 := Scf.iv c0_i32_40 c1_i32_41 k0_t2
  let c4_i32_561 : BitVec 32 := 4#32
  let v815 : BitVec 32 := Scalar.muli arg15 c4_i32_561
  let v816 : BitVec 32 := Scalar.addi c8_i32_562 v815
  let c3_i32_563 : BitVec 32 := 3#32
  let v817 : BitVec 32 := Scalar.addi v816 c3_i32_563
  let c256_i32_623 : BitVec 32 := 256#32
  let v895 : BitVec 32 := Scalar.muli v817 c256_i32_623
  v895
def k0_mult44 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_640 : BitVec 32 := 4#32
  let v920 : BitVec 32 := Scalar.muli arg15 c4_i32_640
  let c2_i32_641 : BitVec 32 := 2#32
  let v921 : BitVec 32 := Scalar.addi v920 c2_i32_641
  let c256_i32_642 : BitVec 32 := 256#32
  let v922 : BitVec 32 := Scalar.muli v921 c256_i32_642
  v922
def k0_mult45 (k0_t2 : Fin k0_t2_loop.trips) : BitVec 32 :=
  let c16_i32 : BitVec 32 := 16#32
  let c0_i32_40 : BitVec 32 := 0#32
  let c1_i32_41 : BitVec 32 := 1#32
  let arg15 : BitVec 32 := Scf.iv c0_i32_40 c1_i32_41 k0_t2
  let c4_i32_648 : BitVec 32 := 4#32
  let v941 : BitVec 32 := Scalar.muli arg15 c4_i32_648
  let v942 : BitVec 32 := Scalar.addi c16_i32 v941
  let c0_i32_649 : BitVec 32 := 0#32
  let v943 : BitVec 32 := Scalar.addi v942 c0_i32_649
  let c256_i32_655 : BitVec 32 := 256#32
  let v949 : BitVec 32 := Scalar.muli v943 c256_i32_655
  v949
def k0_mult46 (k0_t2 : Fin k0_t2_loop.trips) : BitVec 32 :=
  let c16_i32 : BitVec 32 := 16#32
  let c0_i32_40 : BitVec 32 := 0#32
  let c1_i32_41 : BitVec 32 := 1#32
  let arg15 : BitVec 32 := Scf.iv c0_i32_40 c1_i32_41 k0_t2
  let c4_i32_648 : BitVec 32 := 4#32
  let v941 : BitVec 32 := Scalar.muli arg15 c4_i32_648
  let v942 : BitVec 32 := Scalar.addi c16_i32 v941
  let c0_i32_649 : BitVec 32 := 0#32
  let v943 : BitVec 32 := Scalar.addi v942 c0_i32_649
  let c256_i32_673 : BitVec 32 := 256#32
  let v973 : BitVec 32 := Scalar.muli v943 c256_i32_673
  v973
def k0_mult47 (k0_t2 : Fin k0_t2_loop.trips) : BitVec 32 :=
  let c16_i32 : BitVec 32 := 16#32
  let c0_i32_40 : BitVec 32 := 0#32
  let c1_i32_41 : BitVec 32 := 1#32
  let arg15 : BitVec 32 := Scf.iv c0_i32_40 c1_i32_41 k0_t2
  let c4_i32_648 : BitVec 32 := 4#32
  let v941 : BitVec 32 := Scalar.muli arg15 c4_i32_648
  let v942 : BitVec 32 := Scalar.addi c16_i32 v941
  let c0_i32_649 : BitVec 32 := 0#32
  let v943 : BitVec 32 := Scalar.addi v942 c0_i32_649
  let c256_i32_691 : BitVec 32 := 256#32
  let v997 : BitVec 32 := Scalar.muli v943 c256_i32_691
  v997
def k0_mult48 (k0_t2 : Fin k0_t2_loop.trips) : BitVec 32 :=
  let c16_i32 : BitVec 32 := 16#32
  let c0_i32_40 : BitVec 32 := 0#32
  let c1_i32_41 : BitVec 32 := 1#32
  let arg15 : BitVec 32 := Scf.iv c0_i32_40 c1_i32_41 k0_t2
  let c4_i32_648 : BitVec 32 := 4#32
  let v941 : BitVec 32 := Scalar.muli arg15 c4_i32_648
  let v942 : BitVec 32 := Scalar.addi c16_i32 v941
  let c0_i32_649 : BitVec 32 := 0#32
  let v943 : BitVec 32 := Scalar.addi v942 c0_i32_649
  let c256_i32_709 : BitVec 32 := 256#32
  let v1021 : BitVec 32 := Scalar.muli v943 c256_i32_709
  v1021
def k0_mult49 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_726 : BitVec 32 := 4#32
  let v1046 : BitVec 32 := Scalar.muli arg15 c4_i32_726
  let c3_i32_727 : BitVec 32 := 3#32
  let v1047 : BitVec 32 := Scalar.addi v1046 c3_i32_727
  let c256_i32_728 : BitVec 32 := 256#32
  let v1048 : BitVec 32 := Scalar.muli v1047 c256_i32_728
  v1048
def k0_mult50 (k0_t2 : Fin k0_t2_loop.trips) : BitVec 32 :=
  let c16_i32_735 : BitVec 32 := 16#32
  let c0_i32_40 : BitVec 32 := 0#32
  let c1_i32_41 : BitVec 32 := 1#32
  let arg15 : BitVec 32 := Scf.iv c0_i32_40 c1_i32_41 k0_t2
  let c4_i32_734 : BitVec 32 := 4#32
  let v1067 : BitVec 32 := Scalar.muli arg15 c4_i32_734
  let v1068 : BitVec 32 := Scalar.addi c16_i32_735 v1067
  let c1_i32_736 : BitVec 32 := 1#32
  let v1069 : BitVec 32 := Scalar.addi v1068 c1_i32_736
  let c256_i32_742 : BitVec 32 := 256#32
  let v1075 : BitVec 32 := Scalar.muli v1069 c256_i32_742
  v1075
def k0_mult51 (k0_t2 : Fin k0_t2_loop.trips) : BitVec 32 :=
  let c16_i32_735 : BitVec 32 := 16#32
  let c0_i32_40 : BitVec 32 := 0#32
  let c1_i32_41 : BitVec 32 := 1#32
  let arg15 : BitVec 32 := Scf.iv c0_i32_40 c1_i32_41 k0_t2
  let c4_i32_734 : BitVec 32 := 4#32
  let v1067 : BitVec 32 := Scalar.muli arg15 c4_i32_734
  let v1068 : BitVec 32 := Scalar.addi c16_i32_735 v1067
  let c1_i32_736 : BitVec 32 := 1#32
  let v1069 : BitVec 32 := Scalar.addi v1068 c1_i32_736
  let c256_i32_760 : BitVec 32 := 256#32
  let v1099 : BitVec 32 := Scalar.muli v1069 c256_i32_760
  v1099
def k0_mult52 (k0_t2 : Fin k0_t2_loop.trips) : BitVec 32 :=
  let c16_i32_735 : BitVec 32 := 16#32
  let c0_i32_40 : BitVec 32 := 0#32
  let c1_i32_41 : BitVec 32 := 1#32
  let arg15 : BitVec 32 := Scf.iv c0_i32_40 c1_i32_41 k0_t2
  let c4_i32_734 : BitVec 32 := 4#32
  let v1067 : BitVec 32 := Scalar.muli arg15 c4_i32_734
  let v1068 : BitVec 32 := Scalar.addi c16_i32_735 v1067
  let c1_i32_736 : BitVec 32 := 1#32
  let v1069 : BitVec 32 := Scalar.addi v1068 c1_i32_736
  let c256_i32_778 : BitVec 32 := 256#32
  let v1123 : BitVec 32 := Scalar.muli v1069 c256_i32_778
  v1123
def k0_mult53 (k0_t2 : Fin k0_t2_loop.trips) : BitVec 32 :=
  let c16_i32_735 : BitVec 32 := 16#32
  let c0_i32_40 : BitVec 32 := 0#32
  let c1_i32_41 : BitVec 32 := 1#32
  let arg15 : BitVec 32 := Scf.iv c0_i32_40 c1_i32_41 k0_t2
  let c4_i32_734 : BitVec 32 := 4#32
  let v1067 : BitVec 32 := Scalar.muli arg15 c4_i32_734
  let v1068 : BitVec 32 := Scalar.addi c16_i32_735 v1067
  let c1_i32_736 : BitVec 32 := 1#32
  let v1069 : BitVec 32 := Scalar.addi v1068 c1_i32_736
  let c256_i32_796 : BitVec 32 := 256#32
  let v1147 : BitVec 32 := Scalar.muli v1069 c256_i32_796
  v1147
def k0_mult54 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_813 : BitVec 32 := 4#32
  let v1172 : BitVec 32 := Scalar.muli arg15 c4_i32_813
  let c0_i32_814 : BitVec 32 := 0#32
  let v1173 : BitVec 32 := Scalar.addi v1172 c0_i32_814
  let c256_i32_815 : BitVec 32 := 256#32
  let v1174 : BitVec 32 := Scalar.muli v1173 c256_i32_815
  v1174
def k0_off12 (k0_t2 : Fin k0_t2_loop.trips) (c0_i32_814 : BitVec 32) : Fin 3 → Nat :=
  let c0_816 : Index := 0#32
  let c0_i32_40 : BitVec 32 := 0#32
  let c1_i32_41 : BitVec 32 := 1#32
  let arg15 : BitVec 32 := Scf.iv c0_i32_40 c1_i32_41 k0_t2
  let c4_i32_813 : BitVec 32 := 4#32
  let v1172 : BitVec 32 := Scalar.muli arg15 c4_i32_813
  let v1173 : BitVec 32 := Scalar.addi v1172 c0_i32_814
  let c256_i32_815 : BitVec 32 := 256#32
  let v1174 : BitVec 32 := Scalar.muli v1173 c256_i32_815
  let v1175 : BitVec 32 := v1174
  let v1176 : Index := Scalar.indexCast v1175
  let c256 : Index := 256#32
  ![0, v1176.toNat, 256]
def k0_mult55 (k0_t2 : Fin k0_t2_loop.trips) : BitVec 32 :=
  let c16_i32_821 : BitVec 32 := 16#32
  let c0_i32_40 : BitVec 32 := 0#32
  let c1_i32_41 : BitVec 32 := 1#32
  let arg15 : BitVec 32 := Scf.iv c0_i32_40 c1_i32_41 k0_t2
  let c4_i32_820 : BitVec 32 := 4#32
  let v1193 : BitVec 32 := Scalar.muli arg15 c4_i32_820
  let v1194 : BitVec 32 := Scalar.addi c16_i32_821 v1193
  let c2_i32_822 : BitVec 32 := 2#32
  let v1195 : BitVec 32 := Scalar.addi v1194 c2_i32_822
  let c256_i32_828 : BitVec 32 := 256#32
  let v1201 : BitVec 32 := Scalar.muli v1195 c256_i32_828
  v1201
def k0_mult56 (k0_t2 : Fin k0_t2_loop.trips) : BitVec 32 :=
  let c16_i32_821 : BitVec 32 := 16#32
  let c0_i32_40 : BitVec 32 := 0#32
  let c1_i32_41 : BitVec 32 := 1#32
  let arg15 : BitVec 32 := Scf.iv c0_i32_40 c1_i32_41 k0_t2
  let c4_i32_820 : BitVec 32 := 4#32
  let v1193 : BitVec 32 := Scalar.muli arg15 c4_i32_820
  let v1194 : BitVec 32 := Scalar.addi c16_i32_821 v1193
  let c2_i32_822 : BitVec 32 := 2#32
  let v1195 : BitVec 32 := Scalar.addi v1194 c2_i32_822
  let c256_i32_846 : BitVec 32 := 256#32
  let v1225 : BitVec 32 := Scalar.muli v1195 c256_i32_846
  v1225
def k0_mult57 (k0_t2 : Fin k0_t2_loop.trips) : BitVec 32 :=
  let c16_i32_821 : BitVec 32 := 16#32
  let c0_i32_40 : BitVec 32 := 0#32
  let c1_i32_41 : BitVec 32 := 1#32
  let arg15 : BitVec 32 := Scf.iv c0_i32_40 c1_i32_41 k0_t2
  let c4_i32_820 : BitVec 32 := 4#32
  let v1193 : BitVec 32 := Scalar.muli arg15 c4_i32_820
  let v1194 : BitVec 32 := Scalar.addi c16_i32_821 v1193
  let c2_i32_822 : BitVec 32 := 2#32
  let v1195 : BitVec 32 := Scalar.addi v1194 c2_i32_822
  let c256_i32_864 : BitVec 32 := 256#32
  let v1249 : BitVec 32 := Scalar.muli v1195 c256_i32_864
  v1249
def k0_mult58 (k0_t2 : Fin k0_t2_loop.trips) : BitVec 32 :=
  let c16_i32_821 : BitVec 32 := 16#32
  let c0_i32_40 : BitVec 32 := 0#32
  let c1_i32_41 : BitVec 32 := 1#32
  let arg15 : BitVec 32 := Scf.iv c0_i32_40 c1_i32_41 k0_t2
  let c4_i32_820 : BitVec 32 := 4#32
  let v1193 : BitVec 32 := Scalar.muli arg15 c4_i32_820
  let v1194 : BitVec 32 := Scalar.addi c16_i32_821 v1193
  let c2_i32_822 : BitVec 32 := 2#32
  let v1195 : BitVec 32 := Scalar.addi v1194 c2_i32_822
  let c256_i32_882 : BitVec 32 := 256#32
  let v1273 : BitVec 32 := Scalar.muli v1195 c256_i32_882
  v1273
def k0_mult59 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_899 : BitVec 32 := 4#32
  let v1298 : BitVec 32 := Scalar.muli arg15 c4_i32_899
  let c1_i32_900 : BitVec 32 := 1#32
  let v1299 : BitVec 32 := Scalar.addi v1298 c1_i32_900
  let c256_i32_901 : BitVec 32 := 256#32
  let v1300 : BitVec 32 := Scalar.muli v1299 c256_i32_901
  v1300
def k0_mult60 (k0_t2 : Fin k0_t2_loop.trips) : BitVec 32 :=
  let c16_i32_908 : BitVec 32 := 16#32
  let c0_i32_40 : BitVec 32 := 0#32
  let c1_i32_41 : BitVec 32 := 1#32
  let arg15 : BitVec 32 := Scf.iv c0_i32_40 c1_i32_41 k0_t2
  let c4_i32_907 : BitVec 32 := 4#32
  let v1319 : BitVec 32 := Scalar.muli arg15 c4_i32_907
  let v1320 : BitVec 32 := Scalar.addi c16_i32_908 v1319
  let c3_i32_909 : BitVec 32 := 3#32
  let v1321 : BitVec 32 := Scalar.addi v1320 c3_i32_909
  let c256_i32_915 : BitVec 32 := 256#32
  let v1327 : BitVec 32 := Scalar.muli v1321 c256_i32_915
  v1327
def k0_mult61 (k0_t2 : Fin k0_t2_loop.trips) : BitVec 32 :=
  let c16_i32_908 : BitVec 32 := 16#32
  let c0_i32_40 : BitVec 32 := 0#32
  let c1_i32_41 : BitVec 32 := 1#32
  let arg15 : BitVec 32 := Scf.iv c0_i32_40 c1_i32_41 k0_t2
  let c4_i32_907 : BitVec 32 := 4#32
  let v1319 : BitVec 32 := Scalar.muli arg15 c4_i32_907
  let v1320 : BitVec 32 := Scalar.addi c16_i32_908 v1319
  let c3_i32_909 : BitVec 32 := 3#32
  let v1321 : BitVec 32 := Scalar.addi v1320 c3_i32_909
  let c256_i32_933 : BitVec 32 := 256#32
  let v1351 : BitVec 32 := Scalar.muli v1321 c256_i32_933
  v1351
def k0_mult62 (k0_t2 : Fin k0_t2_loop.trips) : BitVec 32 :=
  let c16_i32_908 : BitVec 32 := 16#32
  let c0_i32_40 : BitVec 32 := 0#32
  let c1_i32_41 : BitVec 32 := 1#32
  let arg15 : BitVec 32 := Scf.iv c0_i32_40 c1_i32_41 k0_t2
  let c4_i32_907 : BitVec 32 := 4#32
  let v1319 : BitVec 32 := Scalar.muli arg15 c4_i32_907
  let v1320 : BitVec 32 := Scalar.addi c16_i32_908 v1319
  let c3_i32_909 : BitVec 32 := 3#32
  let v1321 : BitVec 32 := Scalar.addi v1320 c3_i32_909
  let c256_i32_951 : BitVec 32 := 256#32
  let v1375 : BitVec 32 := Scalar.muli v1321 c256_i32_951
  v1375
def k0_mult63 (k0_t2 : Fin k0_t2_loop.trips) : BitVec 32 :=
  let c16_i32_908 : BitVec 32 := 16#32
  let c0_i32_40 : BitVec 32 := 0#32
  let c1_i32_41 : BitVec 32 := 1#32
  let arg15 : BitVec 32 := Scf.iv c0_i32_40 c1_i32_41 k0_t2
  let c4_i32_907 : BitVec 32 := 4#32
  let v1319 : BitVec 32 := Scalar.muli arg15 c4_i32_907
  let v1320 : BitVec 32 := Scalar.addi c16_i32_908 v1319
  let c3_i32_909 : BitVec 32 := 3#32
  let v1321 : BitVec 32 := Scalar.addi v1320 c3_i32_909
  let c256_i32_969 : BitVec 32 := 256#32
  let v1399 : BitVec 32 := Scalar.muli v1321 c256_i32_969
  v1399
def k0_mult64 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_986 : BitVec 32 := 4#32
  let v1424 : BitVec 32 := Scalar.muli arg15 c4_i32_986
  let c2_i32_987 : BitVec 32 := 2#32
  let v1425 : BitVec 32 := Scalar.addi v1424 c2_i32_987
  let c256_i32_988 : BitVec 32 := 256#32
  let v1426 : BitVec 32 := Scalar.muli v1425 c256_i32_988
  v1426
def k0_mult65 (k0_t2 : Fin k0_t2_loop.trips) : BitVec 32 :=
  let c24_i32 : BitVec 32 := 24#32
  let c0_i32_40 : BitVec 32 := 0#32
  let c1_i32_41 : BitVec 32 := 1#32
  let arg15 : BitVec 32 := Scf.iv c0_i32_40 c1_i32_41 k0_t2
  let c4_i32_994 : BitVec 32 := 4#32
  let v1445 : BitVec 32 := Scalar.muli arg15 c4_i32_994
  let v1446 : BitVec 32 := Scalar.addi c24_i32 v1445
  let c0_i32_995 : BitVec 32 := 0#32
  let v1447 : BitVec 32 := Scalar.addi v1446 c0_i32_995
  let c256_i32_1001 : BitVec 32 := 256#32
  let v1453 : BitVec 32 := Scalar.muli v1447 c256_i32_1001
  v1453
def k0_mult66 (k0_t2 : Fin k0_t2_loop.trips) : BitVec 32 :=
  let c24_i32 : BitVec 32 := 24#32
  let c0_i32_40 : BitVec 32 := 0#32
  let c1_i32_41 : BitVec 32 := 1#32
  let arg15 : BitVec 32 := Scf.iv c0_i32_40 c1_i32_41 k0_t2
  let c4_i32_994 : BitVec 32 := 4#32
  let v1445 : BitVec 32 := Scalar.muli arg15 c4_i32_994
  let v1446 : BitVec 32 := Scalar.addi c24_i32 v1445
  let c0_i32_995 : BitVec 32 := 0#32
  let v1447 : BitVec 32 := Scalar.addi v1446 c0_i32_995
  let c256_i32_1019 : BitVec 32 := 256#32
  let v1477 : BitVec 32 := Scalar.muli v1447 c256_i32_1019
  v1477
def k0_mult67 (k0_t2 : Fin k0_t2_loop.trips) : BitVec 32 :=
  let c24_i32 : BitVec 32 := 24#32
  let c0_i32_40 : BitVec 32 := 0#32
  let c1_i32_41 : BitVec 32 := 1#32
  let arg15 : BitVec 32 := Scf.iv c0_i32_40 c1_i32_41 k0_t2
  let c4_i32_994 : BitVec 32 := 4#32
  let v1445 : BitVec 32 := Scalar.muli arg15 c4_i32_994
  let v1446 : BitVec 32 := Scalar.addi c24_i32 v1445
  let c0_i32_995 : BitVec 32 := 0#32
  let v1447 : BitVec 32 := Scalar.addi v1446 c0_i32_995
  let c256_i32_1037 : BitVec 32 := 256#32
  let v1501 : BitVec 32 := Scalar.muli v1447 c256_i32_1037
  v1501
def k0_mult68 (k0_t2 : Fin k0_t2_loop.trips) : BitVec 32 :=
  let c24_i32 : BitVec 32 := 24#32
  let c0_i32_40 : BitVec 32 := 0#32
  let c1_i32_41 : BitVec 32 := 1#32
  let arg15 : BitVec 32 := Scf.iv c0_i32_40 c1_i32_41 k0_t2
  let c4_i32_994 : BitVec 32 := 4#32
  let v1445 : BitVec 32 := Scalar.muli arg15 c4_i32_994
  let v1446 : BitVec 32 := Scalar.addi c24_i32 v1445
  let c0_i32_995 : BitVec 32 := 0#32
  let v1447 : BitVec 32 := Scalar.addi v1446 c0_i32_995
  let c256_i32_1055 : BitVec 32 := 256#32
  let v1525 : BitVec 32 := Scalar.muli v1447 c256_i32_1055
  v1525
def k0_mult69 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_1072 : BitVec 32 := 4#32
  let v1550 : BitVec 32 := Scalar.muli arg15 c4_i32_1072
  let c3_i32_1073 : BitVec 32 := 3#32
  let v1551 : BitVec 32 := Scalar.addi v1550 c3_i32_1073
  let c256_i32_1074 : BitVec 32 := 256#32
  let v1552 : BitVec 32 := Scalar.muli v1551 c256_i32_1074
  v1552
def k0_mult70 (k0_t2 : Fin k0_t2_loop.trips) : BitVec 32 :=
  let c24_i32_1081 : BitVec 32 := 24#32
  let c0_i32_40 : BitVec 32 := 0#32
  let c1_i32_41 : BitVec 32 := 1#32
  let arg15 : BitVec 32 := Scf.iv c0_i32_40 c1_i32_41 k0_t2
  let c4_i32_1080 : BitVec 32 := 4#32
  let v1571 : BitVec 32 := Scalar.muli arg15 c4_i32_1080
  let v1572 : BitVec 32 := Scalar.addi c24_i32_1081 v1571
  let c1_i32_1082 : BitVec 32 := 1#32
  let v1573 : BitVec 32 := Scalar.addi v1572 c1_i32_1082
  let c256_i32_1088 : BitVec 32 := 256#32
  let v1579 : BitVec 32 := Scalar.muli v1573 c256_i32_1088
  v1579
def k0_mult71 (k0_t2 : Fin k0_t2_loop.trips) : BitVec 32 :=
  let c24_i32_1081 : BitVec 32 := 24#32
  let c0_i32_40 : BitVec 32 := 0#32
  let c1_i32_41 : BitVec 32 := 1#32
  let arg15 : BitVec 32 := Scf.iv c0_i32_40 c1_i32_41 k0_t2
  let c4_i32_1080 : BitVec 32 := 4#32
  let v1571 : BitVec 32 := Scalar.muli arg15 c4_i32_1080
  let v1572 : BitVec 32 := Scalar.addi c24_i32_1081 v1571
  let c1_i32_1082 : BitVec 32 := 1#32
  let v1573 : BitVec 32 := Scalar.addi v1572 c1_i32_1082
  let c256_i32_1106 : BitVec 32 := 256#32
  let v1603 : BitVec 32 := Scalar.muli v1573 c256_i32_1106
  v1603
def k0_mult72 (k0_t2 : Fin k0_t2_loop.trips) : BitVec 32 :=
  let c24_i32_1081 : BitVec 32 := 24#32
  let c0_i32_40 : BitVec 32 := 0#32
  let c1_i32_41 : BitVec 32 := 1#32
  let arg15 : BitVec 32 := Scf.iv c0_i32_40 c1_i32_41 k0_t2
  let c4_i32_1080 : BitVec 32 := 4#32
  let v1571 : BitVec 32 := Scalar.muli arg15 c4_i32_1080
  let v1572 : BitVec 32 := Scalar.addi c24_i32_1081 v1571
  let c1_i32_1082 : BitVec 32 := 1#32
  let v1573 : BitVec 32 := Scalar.addi v1572 c1_i32_1082
  let c256_i32_1124 : BitVec 32 := 256#32
  let v1627 : BitVec 32 := Scalar.muli v1573 c256_i32_1124
  v1627
def k0_mult73 (k0_t2 : Fin k0_t2_loop.trips) : BitVec 32 :=
  let c24_i32_1081 : BitVec 32 := 24#32
  let c0_i32_40 : BitVec 32 := 0#32
  let c1_i32_41 : BitVec 32 := 1#32
  let arg15 : BitVec 32 := Scf.iv c0_i32_40 c1_i32_41 k0_t2
  let c4_i32_1080 : BitVec 32 := 4#32
  let v1571 : BitVec 32 := Scalar.muli arg15 c4_i32_1080
  let v1572 : BitVec 32 := Scalar.addi c24_i32_1081 v1571
  let c1_i32_1082 : BitVec 32 := 1#32
  let v1573 : BitVec 32 := Scalar.addi v1572 c1_i32_1082
  let c256_i32_1142 : BitVec 32 := 256#32
  let v1651 : BitVec 32 := Scalar.muli v1573 c256_i32_1142
  v1651
def k0_mult74 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_1159 : BitVec 32 := 4#32
  let v1676 : BitVec 32 := Scalar.muli arg15 c4_i32_1159
  let c0_i32_1160 : BitVec 32 := 0#32
  let v1677 : BitVec 32 := Scalar.addi v1676 c0_i32_1160
  let c256_i32_1161 : BitVec 32 := 256#32
  let v1678 : BitVec 32 := Scalar.muli v1677 c256_i32_1161
  v1678
def k0_off13 (k0_t2 : Fin k0_t2_loop.trips) (c0_i32_1160 : BitVec 32) : Fin 3 → Nat :=
  let c0_1162 : Index := 0#32
  let c0_i32_40 : BitVec 32 := 0#32
  let c1_i32_41 : BitVec 32 := 1#32
  let arg15 : BitVec 32 := Scf.iv c0_i32_40 c1_i32_41 k0_t2
  let c4_i32_1159 : BitVec 32 := 4#32
  let v1676 : BitVec 32 := Scalar.muli arg15 c4_i32_1159
  let v1677 : BitVec 32 := Scalar.addi v1676 c0_i32_1160
  let c256_i32_1161 : BitVec 32 := 256#32
  let v1678 : BitVec 32 := Scalar.muli v1677 c256_i32_1161
  let v1679 : BitVec 32 := v1678
  let v1680 : Index := Scalar.indexCast v1679
  let c384 : Index := 384#32
  ![0, v1680.toNat, 384]
def k0_mult75 (k0_t2 : Fin k0_t2_loop.trips) : BitVec 32 :=
  let c24_i32_1167 : BitVec 32 := 24#32
  let c0_i32_40 : BitVec 32 := 0#32
  let c1_i32_41 : BitVec 32 := 1#32
  let arg15 : BitVec 32 := Scf.iv c0_i32_40 c1_i32_41 k0_t2
  let c4_i32_1166 : BitVec 32 := 4#32
  let v1697 : BitVec 32 := Scalar.muli arg15 c4_i32_1166
  let v1698 : BitVec 32 := Scalar.addi c24_i32_1167 v1697
  let c2_i32_1168 : BitVec 32 := 2#32
  let v1699 : BitVec 32 := Scalar.addi v1698 c2_i32_1168
  let c256_i32_1174 : BitVec 32 := 256#32
  let v1705 : BitVec 32 := Scalar.muli v1699 c256_i32_1174
  v1705
def k0_mult76 (k0_t2 : Fin k0_t2_loop.trips) : BitVec 32 :=
  let c24_i32_1167 : BitVec 32 := 24#32
  let c0_i32_40 : BitVec 32 := 0#32
  let c1_i32_41 : BitVec 32 := 1#32
  let arg15 : BitVec 32 := Scf.iv c0_i32_40 c1_i32_41 k0_t2
  let c4_i32_1166 : BitVec 32 := 4#32
  let v1697 : BitVec 32 := Scalar.muli arg15 c4_i32_1166
  let v1698 : BitVec 32 := Scalar.addi c24_i32_1167 v1697
  let c2_i32_1168 : BitVec 32 := 2#32
  let v1699 : BitVec 32 := Scalar.addi v1698 c2_i32_1168
  let c256_i32_1192 : BitVec 32 := 256#32
  let v1729 : BitVec 32 := Scalar.muli v1699 c256_i32_1192
  v1729
def k0_mult77 (k0_t2 : Fin k0_t2_loop.trips) : BitVec 32 :=
  let c24_i32_1167 : BitVec 32 := 24#32
  let c0_i32_40 : BitVec 32 := 0#32
  let c1_i32_41 : BitVec 32 := 1#32
  let arg15 : BitVec 32 := Scf.iv c0_i32_40 c1_i32_41 k0_t2
  let c4_i32_1166 : BitVec 32 := 4#32
  let v1697 : BitVec 32 := Scalar.muli arg15 c4_i32_1166
  let v1698 : BitVec 32 := Scalar.addi c24_i32_1167 v1697
  let c2_i32_1168 : BitVec 32 := 2#32
  let v1699 : BitVec 32 := Scalar.addi v1698 c2_i32_1168
  let c256_i32_1210 : BitVec 32 := 256#32
  let v1753 : BitVec 32 := Scalar.muli v1699 c256_i32_1210
  v1753
def k0_mult78 (k0_t2 : Fin k0_t2_loop.trips) : BitVec 32 :=
  let c24_i32_1167 : BitVec 32 := 24#32
  let c0_i32_40 : BitVec 32 := 0#32
  let c1_i32_41 : BitVec 32 := 1#32
  let arg15 : BitVec 32 := Scf.iv c0_i32_40 c1_i32_41 k0_t2
  let c4_i32_1166 : BitVec 32 := 4#32
  let v1697 : BitVec 32 := Scalar.muli arg15 c4_i32_1166
  let v1698 : BitVec 32 := Scalar.addi c24_i32_1167 v1697
  let c2_i32_1168 : BitVec 32 := 2#32
  let v1699 : BitVec 32 := Scalar.addi v1698 c2_i32_1168
  let c256_i32_1228 : BitVec 32 := 256#32
  let v1777 : BitVec 32 := Scalar.muli v1699 c256_i32_1228
  v1777
def k0_mult79 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_1245 : BitVec 32 := 4#32
  let v1802 : BitVec 32 := Scalar.muli arg15 c4_i32_1245
  let c1_i32_1246 : BitVec 32 := 1#32
  let v1803 : BitVec 32 := Scalar.addi v1802 c1_i32_1246
  let c256_i32_1247 : BitVec 32 := 256#32
  let v1804 : BitVec 32 := Scalar.muli v1803 c256_i32_1247
  v1804
def k0_mult80 (k0_t2 : Fin k0_t2_loop.trips) : BitVec 32 :=
  let c24_i32_1254 : BitVec 32 := 24#32
  let c0_i32_40 : BitVec 32 := 0#32
  let c1_i32_41 : BitVec 32 := 1#32
  let arg15 : BitVec 32 := Scf.iv c0_i32_40 c1_i32_41 k0_t2
  let c4_i32_1253 : BitVec 32 := 4#32
  let v1823 : BitVec 32 := Scalar.muli arg15 c4_i32_1253
  let v1824 : BitVec 32 := Scalar.addi c24_i32_1254 v1823
  let c3_i32_1255 : BitVec 32 := 3#32
  let v1825 : BitVec 32 := Scalar.addi v1824 c3_i32_1255
  let c256_i32_1261 : BitVec 32 := 256#32
  let v1831 : BitVec 32 := Scalar.muli v1825 c256_i32_1261
  v1831
def k0_mult81 (k0_t2 : Fin k0_t2_loop.trips) : BitVec 32 :=
  let c24_i32_1254 : BitVec 32 := 24#32
  let c0_i32_40 : BitVec 32 := 0#32
  let c1_i32_41 : BitVec 32 := 1#32
  let arg15 : BitVec 32 := Scf.iv c0_i32_40 c1_i32_41 k0_t2
  let c4_i32_1253 : BitVec 32 := 4#32
  let v1823 : BitVec 32 := Scalar.muli arg15 c4_i32_1253
  let v1824 : BitVec 32 := Scalar.addi c24_i32_1254 v1823
  let c3_i32_1255 : BitVec 32 := 3#32
  let v1825 : BitVec 32 := Scalar.addi v1824 c3_i32_1255
  let c256_i32_1279 : BitVec 32 := 256#32
  let v1855 : BitVec 32 := Scalar.muli v1825 c256_i32_1279
  v1855
def k0_mult82 (k0_t2 : Fin k0_t2_loop.trips) : BitVec 32 :=
  let c24_i32_1254 : BitVec 32 := 24#32
  let c0_i32_40 : BitVec 32 := 0#32
  let c1_i32_41 : BitVec 32 := 1#32
  let arg15 : BitVec 32 := Scf.iv c0_i32_40 c1_i32_41 k0_t2
  let c4_i32_1253 : BitVec 32 := 4#32
  let v1823 : BitVec 32 := Scalar.muli arg15 c4_i32_1253
  let v1824 : BitVec 32 := Scalar.addi c24_i32_1254 v1823
  let c3_i32_1255 : BitVec 32 := 3#32
  let v1825 : BitVec 32 := Scalar.addi v1824 c3_i32_1255
  let c256_i32_1297 : BitVec 32 := 256#32
  let v1879 : BitVec 32 := Scalar.muli v1825 c256_i32_1297
  v1879
def k0_mult83 (k0_t2 : Fin k0_t2_loop.trips) : BitVec 32 :=
  let c24_i32_1254 : BitVec 32 := 24#32
  let c0_i32_40 : BitVec 32 := 0#32
  let c1_i32_41 : BitVec 32 := 1#32
  let arg15 : BitVec 32 := Scf.iv c0_i32_40 c1_i32_41 k0_t2
  let c4_i32_1253 : BitVec 32 := 4#32
  let v1823 : BitVec 32 := Scalar.muli arg15 c4_i32_1253
  let v1824 : BitVec 32 := Scalar.addi c24_i32_1254 v1823
  let c3_i32_1255 : BitVec 32 := 3#32
  let v1825 : BitVec 32 := Scalar.addi v1824 c3_i32_1255
  let c256_i32_1315 : BitVec 32 := 256#32
  let v1903 : BitVec 32 := Scalar.muli v1825 c256_i32_1315
  v1903
def k0_mult84 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_1332 : BitVec 32 := 4#32
  let v1928 : BitVec 32 := Scalar.muli arg15 c4_i32_1332
  let c2_i32_1333 : BitVec 32 := 2#32
  let v1929 : BitVec 32 := Scalar.addi v1928 c2_i32_1333
  let c256_i32_1334 : BitVec 32 := 256#32
  let v1930 : BitVec 32 := Scalar.muli v1929 c256_i32_1334
  v1930
def k0_mult85 (k0_t2 : Fin k0_t2_loop.trips) : BitVec 32 :=
  let c0_i32_1343 : BitVec 32 := 0#32
  let c0_i32_40 : BitVec 32 := 0#32
  let c1_i32_41 : BitVec 32 := 1#32
  let arg15 : BitVec 32 := Scf.iv c0_i32_40 c1_i32_41 k0_t2
  let c1_i32_1340 : BitVec 32 := 1#32
  let v1949 : BitVec 32 := Scalar.addi arg15 c1_i32_1340
  let c1_i32_1341 : BitVec 32 := 1#32
  let v1950 : BitVec 32 := Scalar.minsi v1949 c1_i32_1341
  let c4_i32_1342 : BitVec 32 := 4#32
  let v1951 : BitVec 32 := Scalar.muli v1950 c4_i32_1342
  let v1952 : BitVec 32 := Scalar.addi c0_i32_1343 v1951
  let c0_i32_1344 : BitVec 32 := 0#32
  let v1953 : BitVec 32 := Scalar.addi v1952 c0_i32_1344
  let c256_i32_1350 : BitVec 32 := 256#32
  let v1959 : BitVec 32 := Scalar.muli v1953 c256_i32_1350
  v1959
def k0_off14 (k0_t2 : Fin k0_t2_loop.trips) : Fin 2 → Nat :=
  let c0_i32_1343 : BitVec 32 := 0#32
  let c0_i32_40 : BitVec 32 := 0#32
  let c1_i32_41 : BitVec 32 := 1#32
  let arg15 : BitVec 32 := Scf.iv c0_i32_40 c1_i32_41 k0_t2
  let c1_i32_1340 : BitVec 32 := 1#32
  let v1949 : BitVec 32 := Scalar.addi arg15 c1_i32_1340
  let c1_i32_1341 : BitVec 32 := 1#32
  let v1950 : BitVec 32 := Scalar.minsi v1949 c1_i32_1341
  let c4_i32_1342 : BitVec 32 := 4#32
  let v1951 : BitVec 32 := Scalar.muli v1950 c4_i32_1342
  let v1952 : BitVec 32 := Scalar.addi c0_i32_1343 v1951
  let c0_i32_1344 : BitVec 32 := 0#32
  let v1953 : BitVec 32 := Scalar.addi v1952 c0_i32_1344
  let c256_i32_1350 : BitVec 32 := 256#32
  let v1959 : BitVec 32 := Scalar.muli v1953 c256_i32_1350
  let v1960 : BitVec 32 := v1959
  let v1961 : Index := Scalar.indexCast v1960
  let c0_1351 : Index := 0#32
  ![v1961.toNat, 0]
def k0_mult86 (k0_t2 : Fin k0_t2_loop.trips) : BitVec 32 :=
  let c0_i32_1343 : BitVec 32 := 0#32
  let c0_i32_40 : BitVec 32 := 0#32
  let c1_i32_41 : BitVec 32 := 1#32
  let arg15 : BitVec 32 := Scf.iv c0_i32_40 c1_i32_41 k0_t2
  let c1_i32_1340 : BitVec 32 := 1#32
  let v1949 : BitVec 32 := Scalar.addi arg15 c1_i32_1340
  let c1_i32_1341 : BitVec 32 := 1#32
  let v1950 : BitVec 32 := Scalar.minsi v1949 c1_i32_1341
  let c4_i32_1342 : BitVec 32 := 4#32
  let v1951 : BitVec 32 := Scalar.muli v1950 c4_i32_1342
  let v1952 : BitVec 32 := Scalar.addi c0_i32_1343 v1951
  let c0_i32_1344 : BitVec 32 := 0#32
  let v1953 : BitVec 32 := Scalar.addi v1952 c0_i32_1344
  let c256_i32_1368 : BitVec 32 := 256#32
  let v1983 : BitVec 32 := Scalar.muli v1953 c256_i32_1368
  v1983
def k0_mult87 (k0_t2 : Fin k0_t2_loop.trips) : BitVec 32 :=
  let c0_i32_1343 : BitVec 32 := 0#32
  let c0_i32_40 : BitVec 32 := 0#32
  let c1_i32_41 : BitVec 32 := 1#32
  let arg15 : BitVec 32 := Scf.iv c0_i32_40 c1_i32_41 k0_t2
  let c1_i32_1340 : BitVec 32 := 1#32
  let v1949 : BitVec 32 := Scalar.addi arg15 c1_i32_1340
  let c1_i32_1341 : BitVec 32 := 1#32
  let v1950 : BitVec 32 := Scalar.minsi v1949 c1_i32_1341
  let c4_i32_1342 : BitVec 32 := 4#32
  let v1951 : BitVec 32 := Scalar.muli v1950 c4_i32_1342
  let v1952 : BitVec 32 := Scalar.addi c0_i32_1343 v1951
  let c0_i32_1344 : BitVec 32 := 0#32
  let v1953 : BitVec 32 := Scalar.addi v1952 c0_i32_1344
  let c256_i32_1386 : BitVec 32 := 256#32
  let v2007 : BitVec 32 := Scalar.muli v1953 c256_i32_1386
  v2007
def k0_mult88 (k0_t2 : Fin k0_t2_loop.trips) : BitVec 32 :=
  let c0_i32_1343 : BitVec 32 := 0#32
  let c0_i32_40 : BitVec 32 := 0#32
  let c1_i32_41 : BitVec 32 := 1#32
  let arg15 : BitVec 32 := Scf.iv c0_i32_40 c1_i32_41 k0_t2
  let c1_i32_1340 : BitVec 32 := 1#32
  let v1949 : BitVec 32 := Scalar.addi arg15 c1_i32_1340
  let c1_i32_1341 : BitVec 32 := 1#32
  let v1950 : BitVec 32 := Scalar.minsi v1949 c1_i32_1341
  let c4_i32_1342 : BitVec 32 := 4#32
  let v1951 : BitVec 32 := Scalar.muli v1950 c4_i32_1342
  let v1952 : BitVec 32 := Scalar.addi c0_i32_1343 v1951
  let c0_i32_1344 : BitVec 32 := 0#32
  let v1953 : BitVec 32 := Scalar.addi v1952 c0_i32_1344
  let c256_i32_1404 : BitVec 32 := 256#32
  let v2031 : BitVec 32 := Scalar.muli v1953 c256_i32_1404
  v2031
def k0_mult89 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c4_i32_1421 : BitVec 32 := 4#32
  let v2056 : BitVec 32 := Scalar.muli arg15 c4_i32_1421
  let c3_i32_1422 : BitVec 32 := 3#32
  let v2057 : BitVec 32 := Scalar.addi v2056 c3_i32_1422
  let c256_i32_1423 : BitVec 32 := 256#32
  let v2058 : BitVec 32 := Scalar.muli v2057 c256_i32_1423
  v2058
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S8x2048x4608 : Shape := ⟨3, ![8, 2048, 4608]⟩
abbrev S1x128 : Shape := ⟨2, ![1, 128]⟩
abbrev S8x2048x1024 : Shape := ⟨3, ![8, 2048, 1024]⟩
abbrev S8x2048x8x128 : Shape := ⟨4, ![8, 2048, 8, 128]⟩
abbrev S128 : Shape := ⟨1, ![128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x256 : Shape := ⟨3, ![8, 2048, 256]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S8x2048x2x4x128 : Shape := ⟨5, ![8, 2048, 2, 4, 128]⟩
abbrev S8x2048x2x64 : Shape := ⟨4, ![8, 2048, 2, 64]⟩
abbrev S8x2048x2x32 : Shape := ⟨4, ![8, 2048, 2, 32]⟩
abbrev S8x2x2048x2048x4 : Shape := ⟨5, ![8, 2, 2048, 2048, 4]⟩
abbrev S8x2x4x2048x2048 : Shape := ⟨5, ![8, 2, 4, 2048, 2048]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 223
  | .vmem => 0
  | .smem => 0
  | _ => 0

abbrev hbmTy0_0 (i : Nat) : BufTy := match i % 128 with
  | 0 => ⟨S8x2048x4608, .f32⟩
  | 1 => ⟨S1x128, .f32⟩
  | 2 => ⟨S1x128, .f32⟩
  | 3 => ⟨S8x2048x1024, .f32⟩
  | 4 => ⟨S8x2048x8x128, .f32⟩
  | 5 => ⟨S128, .f32⟩
  | 6 => ⟨S8x2048x8x128, .f32⟩
  | 7 => ⟨S_, .f32⟩
  | 8 => ⟨S8x2048x8, .f32⟩
  | 9 => ⟨S8x2048x8x1, .f32⟩
  | 10 => ⟨S_, .f32⟩
  | 11 => ⟨S8x2048x8x1, .f32⟩
  | 12 => ⟨S8x2048x8x1, .f32⟩
  | 13 => ⟨S_, .f32⟩
  | 14 => ⟨S8x2048x8x1, .f32⟩
  | 15 => ⟨S8x2048x8x1, .f32⟩
  | 16 => ⟨S8x2048x8x1, .f32⟩
  | 17 => ⟨S8x2048x8x128, .f32⟩
  | 18 => ⟨S8x2048x8x128, .f32⟩
  | 19 => ⟨S1x1x1x128, .f32⟩
  | 20 => ⟨S8x2048x8x128, .f32⟩
  | 21 => ⟨S8x2048x8x128, .f32⟩
  | 22 => ⟨S8x2048x256, .f32⟩
  | 23 => ⟨S8x2048x2x128, .f32⟩
  | 24 => ⟨S128, .f32⟩
  | 25 => ⟨S8x2048x2x128, .f32⟩
  | 26 => ⟨S_, .f32⟩
  | 27 => ⟨S8x2048x2, .f32⟩
  | 28 => ⟨S8x2048x2x1, .f32⟩
  | 29 => ⟨S_, .f32⟩
  | 30 => ⟨S8x2048x2x1, .f32⟩
  | 31 => ⟨S8x2048x2x1, .f32⟩
  | 32 => ⟨S_, .f32⟩
  | 33 => ⟨S8x2048x2x1, .f32⟩
  | 34 => ⟨S8x2048x2x1, .f32⟩
  | 35 => ⟨S8x2048x2x1, .f32⟩
  | 36 => ⟨S8x2048x2x128, .f32⟩
  | 37 => ⟨S8x2048x2x128, .f32⟩
  | 38 => ⟨S1x1x1x128, .f32⟩
  | 39 => ⟨S8x2048x2x128, .f32⟩
  | 40 => ⟨S8x2048x2x128, .f32⟩
  | 41 => ⟨S8x2048x256, .f32⟩
  | 42 => ⟨S8x2048x2x128, .f32⟩
  | 43 => ⟨S2048, .i32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S_, .i32⟩
  | 59 => ⟨S_, .i32⟩
  | 60 => ⟨S2048, .i32⟩
  | 61 => ⟨S2048, .i32⟩
  | 62 => ⟨S2048, .i32⟩
  | 63 => ⟨S_, .i32⟩
  | 64 => ⟨S2048, .i32⟩
  | 65 => ⟨S2048, .i1⟩
  | 66 => ⟨S2048, .i32⟩
  | 67 => ⟨S2048, .i32⟩
  | 68 => ⟨S_, .i32⟩
  | 69 => ⟨S2048, .i32⟩
  | 70 => ⟨S2048, .i1⟩
  | 71 => ⟨S2048, .i1⟩
  | 72 => ⟨S_, .i32⟩
  | 73 => ⟨S2048, .i32⟩
  | 74 => ⟨S2048, .i32⟩
  | 75 => ⟨S2048, .i32⟩
  | 76 => ⟨S2048, .f32⟩
  | 77 => ⟨S2048x1, .f32⟩
  | 78 => ⟨S1x32, .f32⟩
  | 79 => ⟨S2048x32, .f32⟩
  | 80 => ⟨S2048x32, .f32⟩
  | 81 => ⟨S2048x32, .f32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i1⟩
  | 96 => ⟨S_, .i32⟩
  | 97 => ⟨S_, .i1⟩
  | 98 => ⟨S2048, .i1⟩
  | 99 => ⟨S2048, .i1⟩
  | 100 => ⟨S2048, .i1⟩
  | 101 => ⟨S2048, .i32⟩
  | 102 => ⟨S2048, .i32⟩
  | 103 => ⟨S2048, .i32⟩
  | 104 => ⟨S2048, .f32⟩
  | 105 => ⟨S2048x1, .f32⟩
  | 106 => ⟨S1x32, .f32⟩
  | 107 => ⟨S2048x32, .f32⟩
  | 108 => ⟨S2048x32, .f32⟩
  | 109 => ⟨S2048x32, .f32⟩
  | 110 => ⟨S8x2048x8x64, .f32⟩
  | 111 => ⟨S8x2048x8x64, .f32⟩
  | 112 => ⟨S8x2048x8x32, .f32⟩
  | 113 => ⟨S8x2048x8x32, .f32⟩
  | 114 => ⟨S2048x32, .f32⟩
  | 115 => ⟨S1x2048x1x32, .f32⟩
  | 116 => ⟨S2048x32, .f32⟩
  | 117 => ⟨S1x2048x1x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x4608, .f32⟩

abbrev hbmTy0_1 (i : Nat) : BufTy := match i % 128 with
  | 0 => ⟨S8x2048x8x64, .f32⟩
  | 1 => ⟨S8x2048x8x32, .f32⟩
  | 2 => ⟨S8x2048x8x32, .f32⟩
  | 3 => ⟨S2048x32, .f32⟩
  | 4 => ⟨S1x2048x1x32, .f32⟩
  | 5 => ⟨S2048x32, .f32⟩
  | 6 => ⟨S1x2048x1x32, .f32⟩
  | 7 => ⟨S8x2048x8x32, .f32⟩
  | 8 => ⟨S8x2048x8x32, .f32⟩
  | 9 => ⟨S8x2048x8x32, .f32⟩
  | 10 => ⟨S8x2048x8x32, .f32⟩
  | 11 => ⟨S8x2048x8x32, .f32⟩
  | 12 => ⟨S8x2048x8x32, .f32⟩
  | 13 => ⟨S8x2048x8x32, .f32⟩
  | 14 => ⟨S8x2048x8x32, .f32⟩
  | 15 => ⟨S8x2048x8x32, .f32⟩
  | 16 => ⟨S8x2048x8x32, .f32⟩
  | 17 => ⟨S8x2048x8x64, .f32⟩
  | 18 => ⟨S8x2048x8x128, .f32⟩
  | 19 => ⟨S8x2048x2x4x128, .f32⟩
  | 20 => ⟨S8x2048x2x64, .f32⟩
  | 21 => ⟨S8x2048x2x64, .f32⟩
  | 22 => ⟨S8x2048x2x32, .f32⟩
  | 23 => ⟨S8x2048x2x32, .f32⟩
  | 24 => ⟨S2048x32, .f32⟩
  | 25 => ⟨S1x2048x1x32, .f32⟩
  | 26 => ⟨S2048x32, .f32⟩
  | 27 => ⟨S1x2048x1x32, .f32⟩
  | 28 => ⟨S8x2048x2x32, .f32⟩
  | 29 => ⟨S8x2048x2x32, .f32⟩
  | 30 => ⟨S8x2048x2x32, .f32⟩
  | 31 => ⟨S8x2048x2x32, .f32⟩
  | 32 => ⟨S8x2048x2x32, .f32⟩
  | 33 => ⟨S8x2048x2x32, .f32⟩
  | 34 => ⟨S8x2048x2x32, .f32⟩
  | 35 => ⟨S8x2048x2x32, .f32⟩
  | 36 => ⟨S8x2048x2x32, .f32⟩
  | 37 => ⟨S8x2048x2x32, .f32⟩
  | 38 => ⟨S8x2048x2x64, .f32⟩
  | 39 => ⟨S8x2048x2x32, .f32⟩
  | 40 => ⟨S8x2048x2x32, .f32⟩
  | 41 => ⟨S2048x32, .f32⟩
  | 42 => ⟨S1x2048x1x32, .f32⟩
  | 43 => ⟨S2048x32, .f32⟩
  | 44 => ⟨S1x2048x1x32, .f32⟩
  | 45 => ⟨S8x2048x2x32, .f32⟩
  | 46 => ⟨S8x2048x2x32, .f32⟩
  | 47 => ⟨S8x2048x2x32, .f32⟩
  | 48 => ⟨S8x2048x2x32, .f32⟩
  | 49 => ⟨S8x2048x2x32, .f32⟩
  | 50 => ⟨S8x2048x2x32, .f32⟩
  | 51 => ⟨S8x2048x2x32, .f32⟩
  | 52 => ⟨S8x2048x2x32, .f32⟩
  | 53 => ⟨S8x2048x2x32, .f32⟩
  | 54 => ⟨S8x2048x2x32, .f32⟩
  | 55 => ⟨S8x2048x2x64, .f32⟩
  | 56 => ⟨S8x2048x2x128, .f32⟩
  | 57 => ⟨S8x2x2048x2048x4, .f32⟩
  | 58 => ⟨S8x2x4x2048x2048, .f32⟩
  | 59 => ⟨S_, .f32⟩
  | 60 => ⟨S_, .f32⟩
  | 61 => ⟨S8x2x4x2048x2048, .f32⟩
  | 62 => ⟨S8x2x4x2048x2048, .f32⟩
  | 63 => ⟨S_, .f32⟩
  | 64 => ⟨S8x2x4x2048, .f32⟩
  | 65 => ⟨S_, .f32⟩
  | 66 => ⟨S8x2x4x2048, .f32⟩
  | 67 => ⟨S8x2x4x2048, .f32⟩
  | 68 => ⟨S8x2x4x2048x1, .f32⟩
  | 69 => ⟨S8x2x4x2048x2048, .f32⟩
  | 70 => ⟨S8x2x4x2048x2048, .f32⟩
  | 71 => ⟨S8x2x4x2048x2048, .f32⟩
  | 72 => ⟨S_, .f32⟩
  | 73 => ⟨S8x2x4x2048, .f32⟩
  | 74 => ⟨S8x2x4x2048x1, .f32⟩
  | 75 => ⟨S8x2x4x2048x2048, .f32⟩
  | 76 => ⟨S8x2x4x2048x2048, .f32⟩
  | 77 => ⟨S8x2x128x4x2048, .f32⟩
  | 78 => ⟨S8x2048x2x4x128, .f32⟩
  | 79 => ⟨S8x2048x1024, .f32⟩
  | 80 => ⟨S8x2048x1024, .f32⟩
  | 81 => ⟨S_, .f32⟩
  | 82 => ⟨S8x2048x1024, .f32⟩
  | 83 => ⟨S8x2048x1024, .f32⟩
  | 84 => ⟨S8x2048x1024, .f32⟩
  | 85 => ⟨S8x2048x1024, .f32⟩
  | 86 => ⟨S_, .f32⟩
  | 87 => ⟨S8x2048x1024, .f32⟩
  | 88 => ⟨S8x2048x1024, .f32⟩
  | 89 => ⟨S_, .f32⟩
  | 90 => ⟨S8x2048x1024, .f32⟩
  | 91 => ⟨S8x2048x1024, .f32⟩
  | 92 => ⟨S8x2048x1024, .f32⟩
  | 93 => ⟨S8x2048x1024, .f32⟩
  | 94 => ⟨S8x2048x1024, .bf16⟩
  | _ => ⟨S8x2048x4608, .f32⟩

abbrev hbmTy (i : Nat) : BufTy := match i / 128 with
  | 0 => hbmTy0_0 i
  | 1 => hbmTy0_1 i
  | _ => ⟨S8x2048x4608, .f32⟩

abbrev bufTy : (tb : Table) → Fin (tcTables nBuf tb) → BufTy
  | .hbm, ⟨i, _⟩ => hbmTy i
  | _, _ => ⟨S8x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_call1_v0 : Ref sig .tc := ⟨.hbm, 83, rfl⟩
abbrev main_call1_c : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_c_1 : Ref sig .tc := ⟨.hbm, 90, rfl⟩
abbrev main_call1_v5 : Ref sig .tc := ⟨.hbm, 91, rfl⟩
abbrev main_call1_v6 : Ref sig .tc := ⟨.hbm, 92, rfl⟩
abbrev main_call1_c_2 : Ref sig .tc := ⟨.hbm, 93, rfl⟩
abbrev main_call1_v7 : Ref sig .tc := ⟨.hbm, 94, rfl⟩
abbrev main_call1_v8 : Ref sig .tc := ⟨.hbm, 95, rfl⟩
abbrev main_call1_c_3 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_10 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_11 : Ref sig .tc := ⟨.hbm, 191, rfl⟩
abbrev main_v139 : Ref sig .tc := ⟨.hbm, 192, rfl⟩
abbrev main_cst_12 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_13 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_14 : Ref sig .tc := ⟨.hbm, 209, rfl⟩
abbrev main_v154 : Ref sig .tc := ⟨.hbm, 210, rfl⟩
abbrev main_v155 : Ref sig .tc := ⟨.hbm, 211, rfl⟩
abbrev main_call2_v0 : Ref sig .tc := ⟨.hbm, 212, rfl⟩
abbrev main_call2_v1 : Ref sig .tc := ⟨.hbm, 213, rfl⟩
abbrev main_call2_cst : Ref sig .tc := ⟨.hbm, 214, rfl⟩
abbrev main_call2_v2 : Ref sig .tc := ⟨.hbm, 215, rfl⟩
abbrev main_call2_v3 : Ref sig .tc := ⟨.hbm, 216, rfl⟩
abbrev main_call2_cst_0 : Ref sig .tc := ⟨.hbm, 217, rfl⟩
abbrev main_call2_v4 : Ref sig .tc := ⟨.hbm, 218, rfl⟩
abbrev main_call2_v5 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩

abbrev nD : Nat := 1
abbrev τ : Topo := Topo.v7x

variable {F : FTy → Type} [FloatOps F]
-- ==== InZero.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S2048x2048 : Shape := ⟨2, ![2048, 2048]⟩
abbrev S2048x768 : Shape := ⟨2, ![2048, 768]⟩
abbrev S1x768 : Shape := ⟨2, ![1, 768]⟩
abbrev S128x768 : Shape := ⟨2, ![128, 768]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x4608, .f32⟩
  | .hbm, ⟨2, _⟩ => ⟨S2048x4608, .f32⟩
  | .hbm, ⟨3, _⟩ => ⟨S16384x4608, .f32⟩
  | .local _ .vmem, ⟨0, _⟩ => ⟨S2048x2048, .bf16⟩
  | .local _ .vmem, ⟨1, _⟩ => ⟨S2048x2048, .bf16⟩
  | .local _ .vmem, ⟨2, _⟩ => ⟨S2048x768, .f32⟩
  | .local _ .vmem, ⟨3, _⟩ => ⟨S2048x768, .f32⟩
  | .local _ .vmem, ⟨4, _⟩ => ⟨S2048x768, .f32⟩
  | .local _ .vmem, ⟨5, _⟩ => ⟨S2048x768, .f32⟩
  | .local _ .vmem, ⟨6, _⟩ => ⟨S2048x768, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c16_i32 : BitVec 32 := 16#32
  let v26 : BitVec 32 := Scalar.addi c0_i32_9 c16_i32
  let c1_i32 : BitVec 32 := 1#32
  ⟨c0_i32_9, v26, c1_i32⟩
def k0_mult1 (k0_t1 : Fin k0_t1_loop.trips) : BitVec 32 :=
  let c0_i32_9 : BitVec 32 := 0#32
  let c1_i32 : BitVec 32 := 1#32
  let arg6 : BitVec 32 := Scf.iv c0_i32_9 c1_i32 k0_t1
  let c128_i32 : BitVec 32 := 128#32
  let v27 : BitVec 32 := Scalar.muli arg6 c128_i32
  v27
def k0_off1 (k0_t1 : Fin k0_t1_loop.trips) : Fin 2 → Nat :=
  let c0_i32_9 : BitVec 32 := 0#32
  let c1_i32 : BitVec 32 := 1#32
  let arg6 : BitVec 32 := Scf.iv c0_i32_9 c1_i32 k0_t1
  let c128_i32 : BitVec 32 := 128#32
  let v27 : BitVec 32 := Scalar.muli arg6 c128_i32
  let v28 : BitVec 32 := v27
  let v29 : Index := Scalar.indexCast v28
  let c0_11 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InZeroRefIdeal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S4608 : Shape := ⟨1, ![4608]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x4608, .f32⟩
  | .hbm, ⟨2, _⟩ => ⟨S16384x2048, .f32⟩
  | .hbm, ⟨3, _⟩ => ⟨S2048x4608, .f32⟩
  | .hbm, ⟨4, _⟩ => ⟨S16384x4608, .f32⟩
  | .hbm, ⟨5, _⟩ => ⟨S4608, .i32⟩
  | .hbm, ⟨6, _⟩ => ⟨S_, .i32⟩
  | .hbm, ⟨7, _⟩ => ⟨S4608, .i32⟩
  | .hbm, ⟨8, _⟩ => ⟨S4608, .i1⟩
  | .hbm, ⟨9, _⟩ => ⟨S_, .i32⟩
  | .hbm, ⟨10, _⟩ => ⟨S4608, .i32⟩
  | .hbm, ⟨11, _⟩ => ⟨S4608, .i1⟩
  | .hbm, ⟨12, _⟩ => ⟨S4608, .i1⟩
  | .hbm, ⟨13, _⟩ => ⟨S_, .i32⟩
  | .hbm, ⟨14, _⟩ => ⟨S4608, .i32⟩
  | .hbm, ⟨15, _⟩ => ⟨S4608, .i1⟩
  | .hbm, ⟨16, _⟩ => ⟨S4608, .i1⟩
  | .hbm, ⟨17, _⟩ => ⟨S_, .f32⟩
  | .hbm, ⟨18, _⟩ => ⟨S16384x4608, .f32⟩
  | .hbm, ⟨19, _⟩ => ⟨S16384x4608, .f32⟩
  | .hbm, ⟨20, _⟩ => ⟨S16384x4608, .i1⟩
  | .hbm, ⟨21, _⟩ => ⟨S16384x4608, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Qkv.lean ====
abbrev S16384x2048 : Shape := ⟨2, ![16384, 2048]⟩
abbrev S1x2048x8224 : Shape := ⟨3, ![1, 2048, 8224]⟩
abbrev S2048x8224 : Shape := ⟨2, ![2048, 8224]⟩
abbrev S8224x2048 : Shape := ⟨2, ![8224, 2048]⟩
abbrev S16384x4096 : Shape := ⟨2, ![16384, 4096]⟩
abbrev S2048x2048 : Shape := ⟨2, ![2048, 2048]⟩
abbrev S1024x2048 : Shape := ⟨2, ![1024, 2048]⟩
abbrev S2048x1024 : Shape := ⟨2, ![2048, 1024]⟩
abbrev S64x2048 : Shape := ⟨2, ![64, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x8224, .f32⟩
  | .hbm, ⟨2, _⟩ => ⟨S2048x8224, .f32⟩
  | .hbm, ⟨3, _⟩ => ⟨S8224x2048, .f32⟩
  | .hbm, ⟨4, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v8 : BitVec 32 := Scalar.addi c0_i32_6 c16_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg6 : BitVec 32 := Scf.iv c0_i32_6 c1_i32 k0_t1
  let c64_i32 : BitVec 32 := 64#32
  let v9 : BitVec 32 := Scalar.muli arg6 c64_i32
  v9
def k0_off1 (k0_t1 : Fin k0_t1_loop.trips) : Fin 2 → Nat :=
  let c0_i32_6 : BitVec 32 := 0#32
  let c1_i32 : BitVec 32 := 1#32
  let arg6 : BitVec 32 := Scf.iv c0_i32_6 c1_i32 k0_t1
  let c64_i32 : BitVec 32 := 64#32
  let v9 : BitVec 32 := Scalar.muli arg6 c64_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S16384x2048 : Shape := ⟨2, ![16384, 2048]⟩
abbrev S1x2048x8224 : Shape := ⟨3, ![1, 2048, 8224]⟩
abbrev S2048x8224 : Shape := ⟨2, ![2048, 8224]⟩
abbrev S2048x4096 : Shape := ⟨2, ![2048, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x8224, .f32⟩
  | .hbm, ⟨2, _⟩ => ⟨S16384x2048, .f32⟩
  | .hbm, ⟨3, _⟩ => ⟨S2048x8224, .f32⟩
  | .hbm, ⟨4, _⟩ => ⟨S2048x4096, .f32⟩
  | .hbm, ⟨5, _⟩ => ⟨S16384x4096, .f32⟩
  | .hbm, ⟨6, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Oz.lean ====
abbrev S16384x2048 : Shape := ⟨2, ![16384, 2048]⟩
abbrev S1x2048x8224 : Shape := ⟨3, ![1, 2048, 8224]⟩
abbrev S2048x8224 : Shape := ⟨2, ![2048, 8224]⟩
abbrev S8224x2048 : Shape := ⟨2, ![8224, 2048]⟩
abbrev S16384x4096 : Shape := ⟨2, ![16384, 4096]⟩
abbrev S1024x2048 : Shape := ⟨2, ![1024, 2048]⟩
abbrev S1024x1024 : Shape := ⟨2, ![1024, 1024]⟩
abbrev S64x2048 : Shape := ⟨2, ![64, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x8224, .f32⟩
  | .hbm, ⟨2, _⟩ => ⟨S2048x8224, .f32⟩
  | .hbm, ⟨3, _⟩ => ⟨S8224x2048, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v7 : BitVec 32 := Scalar.addi c0_i32_6 c16_i32
  let c1_i32 : BitVec 32 := 1#32
  ⟨c0_i32_6, v7, c1_i32⟩
def k0_mult1 (k0_t1 : Fin k0_t1_loop.trips) : BitVec 32 :=
  let c0_i32_6 : BitVec 32 := 0#32
  let c1_i32 : BitVec 32 := 1#32
  let arg6 : BitVec 32 := Scf.iv c0_i32_6 c1_i32 k0_t1
  let c64_i32 : BitVec 32 := 64#32
  let v8 : BitVec 32 := Scalar.muli arg6 c64_i32
  v8
def k0_off1 (k0_t1 : Fin k0_t1_loop.trips) : Fin 2 → Nat :=
  let c0_i32_6 : BitVec 32 := 0#32
  let c1_i32 : BitVec 32 := 1#32
  let arg6 : BitVec 32 := Scf.iv c0_i32_6 c1_i32 k0_t1
  let c64_i32 : BitVec 32 := 64#32
  let v8 : BitVec 32 := Scalar.muli arg6 c64_i32
  let v9 : BitVec 32 := v8
  let v10 : Index := Scalar.indexCast v9
  let c0_8 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OzRefIdeal.lean ====
abbrev S16384x2048 : Shape := ⟨2, ![16384, 2048]⟩
abbrev S1x2048x8224 : Shape := ⟨3, ![1, 2048, 8224]⟩
abbrev S2048x8224 : Shape := ⟨2, ![2048, 8224]⟩
abbrev S2048x4096 : Shape := ⟨2, ![2048, 4096]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x8224, .f32⟩
  | .hbm, ⟨2, _⟩ => ⟨S16384x2048, .f32⟩
  | .hbm, ⟨3, _⟩ => ⟨S2048x8224, .f32⟩
  | .hbm, ⟨4, _⟩ => ⟨S2048x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutZero.lean ====
abbrev S8x2048x1024 : Shape := ⟨3, ![8, 2048, 1024]⟩
abbrev S1x2048x2048 : Shape := ⟨3, ![1, 2048, 2048]⟩
abbrev S8x2048x2048 : Shape := ⟨3, ![8, 2048, 2048]⟩
abbrev S2x2048 : Shape := ⟨2, ![2, 2048]⟩
abbrev S1x2048x8224 : Shape := ⟨3, ![1, 2048, 8224]⟩
abbrev S2048x8224 : Shape := ⟨2, ![2048, 8224]⟩
abbrev S8224x2048 : Shape := ⟨2, ![8224, 2048]⟩
abbrev S16384x1024 : Shape := ⟨2, ![16384, 1024]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S32x2048 : Shape := ⟨2, ![32, 2048]⟩
abbrev S32x16384 : Shape := ⟨2, ![32, 16384]⟩
abbrev S512x1024 : Shape := ⟨2, ![512, 1024]⟩
abbrev S512x2048 : Shape := ⟨2, ![512, 2048]⟩
abbrev S32x512 : Shape := ⟨2, ![32, 512]⟩
abbrev S2048x512 : Shape := ⟨2, ![2048, 512]⟩
abbrev S512x512 : Shape := ⟨2, ![512, 512]⟩
abbrev S64x2048 : Shape := ⟨2, ![64, 2048]⟩
abbrev S64 : Shape := ⟨1, ![64]⟩
abbrev S64x1 : Shape := ⟨2, ![64, 1]⟩
abbrev S128x2048 : Shape := ⟨2, ![128, 2048]⟩
abbrev S32x128 : Shape := ⟨2, ![32, 128]⟩

abbrev nBuf : Space → Nat
  | .hbm => 21
  | .vmem => 17
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S1x2048x2048, .f32⟩
  | .hbm, ⟨3, _⟩ => ⟨S8x2048x2048, .f32⟩
  | .hbm, ⟨4, _⟩ => ⟨S2x2048, .f32⟩
  | .hbm, ⟨5, _⟩ => ⟨S1x2048x8224, .f32⟩
  | .hbm, ⟨6, _⟩ => ⟨S2048x8224, .f32⟩
  | .hbm, ⟨7, _⟩ => ⟨S8224x2048, .f32⟩
  | .hbm, ⟨8, _⟩ => ⟨S16384x1024, .bf16⟩
  | .hbm, ⟨9, _⟩ => ⟨S16384x1024, .bf16⟩
  | .hbm, ⟨10, _⟩ => ⟨S2048x2048, .f32⟩
  | .hbm, ⟨11, _⟩ => ⟨S2048x2048, .bf16⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32x2048, .f32⟩
  | .hbm, ⟨17, _⟩ => ⟨S32x2048, .bf16⟩
  | .hbm, ⟨18, _⟩ => ⟨S16384x2048, .f32⟩
  | .hbm, ⟨19, _⟩ => ⟨S16384x2048, .bf16⟩
  | .hbm, ⟨20, _⟩ => ⟨S32x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S32x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S32x512, .f32⟩
  | .local _ .vmem, ⟨14, _⟩ => ⟨S32x512, .f32⟩
  | .local _ .vmem, ⟨15, _⟩ => ⟨S512x2048, .f32⟩
  | .local _ .vmem, ⟨16, _⟩ => ⟨S512x2048, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutZeroRefIdeal.lean ====
abbrev S8x2048x1024 : Shape := ⟨3, ![8, 2048, 1024]⟩
abbrev S1x2048x2048 : Shape := ⟨3, ![1, 2048, 2048]⟩
abbrev S8x2048x2048 : Shape := ⟨3, ![8, 2048, 2048]⟩
abbrev S2x2048 : Shape := ⟨2, ![2, 2048]⟩
abbrev S1x2048x8224 : Shape := ⟨3, ![1, 2048, 8224]⟩
abbrev S16384x1024 : Shape := ⟨2, ![16384, 1024]⟩
abbrev S16384x2048 : Shape := ⟨2, ![16384, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x8224 : Shape := ⟨2, ![2048, 8224]⟩
abbrev S2048x32 : Shape := ⟨2, ![2048, 32]⟩
abbrev S16384x32 : Shape := ⟨2, ![16384, 32]⟩
abbrev S32x16384 : Shape := ⟨2, ![32, 16384]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S1x2048x2048, .f32⟩
  | .hbm, ⟨3, _⟩ => ⟨S8x2048x2048, .f32⟩
  | .hbm, ⟨4, _⟩ => ⟨S2x2048, .f32⟩
  | .hbm, ⟨5, _⟩ => ⟨S1x2048x8224, .f32⟩
  | .hbm, ⟨6, _⟩ => ⟨S16384x1024, .bf16⟩
  | .hbm, ⟨7, _⟩ => ⟨S16384x1024, .bf16⟩
  | .hbm, ⟨8, _⟩ => ⟨S16384x2048, .bf16⟩
  | .hbm, ⟨9, _⟩ => ⟨S16384x2048, .f32⟩
  | .hbm, ⟨10, _⟩ => ⟨S16384x2048, .f32⟩
  | .hbm, ⟨11, _⟩ => ⟨S2048x2048, .f32⟩
  | .hbm, ⟨12, _⟩ => ⟨S16384x2048, .f32⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S2048x8224, .f32⟩
  | .hbm, ⟨33, _⟩ => ⟨S2048x32, .f32⟩
  | .hbm, ⟨34, _⟩ => ⟨S16384x32, .f32⟩
  | .hbm, ⟨35, _⟩ => ⟨S16384x2048, .bf16⟩
  | .hbm, ⟨36, _⟩ => ⟨S32x16384, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== OutOne.lean ====
abbrev S8x2048x2048 : Shape := ⟨3, ![8, 2048, 2048]⟩
abbrev S1x2048x2048 : Shape := ⟨3, ![1, 2048, 2048]⟩
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S64x2048 : Shape := ⟨2, ![64, 2048]⟩
abbrev S64 : Shape := ⟨1, ![64]⟩
abbrev S64x1 : Shape := ⟨2, ![64, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x2048, .f32⟩
  | .hbm, ⟨2, _⟩ => ⟨S16384x2048, .f32⟩
  | .hbm, ⟨3, _⟩ => ⟨S2048, .f32⟩
  | .hbm, ⟨4, _⟩ => ⟨S16384x2048, .bf16⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutOneRefIdeal.lean ====
abbrev S8x2048x2048 : Shape := ⟨3, ![8, 2048, 2048]⟩
abbrev S1x2048x2048 : Shape := ⟨3, ![1, 2048, 2048]⟩
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x2048, .f32⟩
  | .hbm, ⟨2, _⟩ => ⟨S16384x2048, .f32⟩
  | .hbm, ⟨3, _⟩ => ⟨S2048, .f32⟩
  | .hbm, ⟨4, _⟩ => ⟨S16384x2048, .bf16⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S8x2048x2048 : Shape := ⟨3, ![8, 2048, 2048]⟩
abbrev S2x2048 : Shape := ⟨2, ![2, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S64x2048 : Shape := ⟨2, ![64, 2048]⟩
abbrev S64 : Shape := ⟨1, ![64]⟩
abbrev S64x1 : Shape := ⟨2, ![64, 1]⟩

abbrev nBuf : Space → Nat
  | .hbm => 7
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S16384x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c64_i32 : BitVec 32 := 64#32
  let v3 : BitVec 32 := Scalar.muli arg4 c64_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c64_i32 : BitVec 32 := 64#32
  let v3 : BitVec 32 := Scalar.muli arg4 c64_i32
  let v4 : BitVec 32 := v3
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8x2048x2048 : Shape := ⟨3, ![8, 2048, 2048]⟩
abbrev S2x2048 : Shape := ⟨2, ![2, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S16384x2048, .f32⟩
  | .hbm, ⟨3, _⟩ => ⟨S1x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.AttentionFinite.lean ====
module

public import proofs.«01_k».proof.Pre_finite
public import Idealize.ShloMosaic.Lib.ReduceAll
public import Idealize.ShloMosaic.PureOps.Ideal.Laws

/-! The precondition of the attention: arguments it holds of are real numbers. -/

@[expose] public section

noncomputable section

namespace Cert.Pre_finite.Attention

open Idealize.ShloMosaic Cert.Pre_finite

instance facts : Cert.Pre_finite.Facts where
  bcast_S_S8x2048x4608 := by decide
  reducesTo_S8x2048x4608_S_d0_1_2 := by decide
  h_S_ := by decide
  bcast_S_S1x128 := by decide
  reducesTo_S1x128_S_d0_1 := by decide

instance : Subsingleton S_.Idx := ⟨fun a b => funext fun i => i.elim0⟩

theorem top_bits : Ideal.ofBits FTy.f32 0x7F800000#32 = ⊤ := by simp [Ideal.ofBits, Ideal.ieee]

/-- An extended real whose absolute value is below infinity is real. -/
theorem real_of_lt (x : EReal) (h : Ideal.cmp .olt (max x (-x)) (Ideal.ofBits FTy.f32 0x7F800000#32) = 1#1) : ∃ r : ℝ, x = r := by
  rw [top_bits] at h
  have lt : max x (-x) < ⊤ := by
    by_contra hn
    simp [Ideal.cmp, hn] at h
  obtain ⟨h1, h2⟩ := max_lt_iff.mp lt
  refine ⟨x.toReal, (EReal.coe_toReal h1.ne ?_).symm⟩
  rintro rfl
  simp at h2

variable (x0 : FVec Ideal S8x2048x4608 .f32) (x1 x2 : FVec Ideal S1x128 .f32)

theorem reals (e : Cert.Pre_finite.fn (F := Ideal) x0 x1 x2 = fun _ => 1#1) :
    (∀ j, ∃ r : ℝ, x0 j = r) ∧ (∀ j, ∃ r : ℝ, x1 j = r) ∧ ∀ j, ∃ r : ℝ, x2 j = r := by
  have h := congrFun e fun i => i.elim0
  dsimp only [Cert.Pre_finite.fn] at h
  obtain ⟨h, h2⟩ := IntOp.andi_eq_one.mp h
  obtain ⟨h0, h1⟩ := IntOp.andi_eq_one.mp h
  exact ⟨fun j => real_of_lt _ (Host.reduce_andi_all _ _ _ _ _ h0 j), fun j => real_of_lt _ (Host.reduce_andi_all _ _ _ _ _ h1 j),
    fun j => real_of_lt _ (Host.reduce_andi_all _ _ _ _ _ h2 j)⟩

end Cert.Pre_finite.Attention

end
-- ==== Proof.AttentionIdealLoops.lean ====
module

public import proofs.«01_k».proof.Proof.Gen.KernelIdeal.Frame
public import proofs.«01_k».proof.Proof.Gen.KernelIdeal.Loops

/-! The two loops of the attention kernel, as far as the frame needs them: each trip reads
the buffers it reads and leaves them as they were, and leaves the buffers it writes at some contents. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What a trip of the preparing loop keeps: the blocks of the queries, keys, values and rotary tables,
and, at some contents, the buffers of the rotated keys, the transposed values and the rotated queries. -/
abbrev prepareKept (c : Dev nD) (arg2 : Memref sig .tc .vmem S1x2048x512 .f32) (arg3 : Memref sig .tc .vmem S1x2048x128 .f32) (arg4 : Memref sig .tc .vmem S1x2048x128 .f32) (arg8 : Memref sig .tc .vmem S2048x128 .f32) (arg9 : Memref sig .tc .vmem S2048x128 .f32) (arg11 : Memref sig .tc .vmem S2048x128 .bf16) (arg12 : Memref sig .tc .vmem S128x2048 .bf16) (arg13 : Memref sig .tc .vmem S8192x128 .bf16) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option warn.classDefReducibility false in
/-- The preparing loop: one trip normalizes and rotates 256 rows of the keys and of the four query heads
and transposes 256 rows of the values. -/
@[sl_loop] def prepareLoop (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v0 : Vec F S1x128 .f32) (v2 : Vec F S1x128 .f32) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v0 v2 where
  inv _ _ := prepareKept (F := F) c arg2 arg3 arg4 arg8 arg9 arg11 arg12 arg13 X2 X3 X4 X8 X9
  step k acc := by
    have hk : k.val < 8 := Nat.lt_of_lt_of_le k.isLt k0_t1_abs.2.1
    unfold k0_t1_body
    iintro ⟨H2, H3, H4, H8, H9, ⟨%f11, H11⟩, ⟨%f12, H12⟩, ⟨%f13, H13⟩⟩
    sl_exec
    sl_step
    isplitl [H2]; · iexact H2
    isplitl [H3]; · iexact H3
    isplitl [H4]; · iexact H4
    isplitl [H8]; · iexact H8
    isplitl [H9]; · iexact H9
    isplitl [H11]; · iexists _; iexact H11
    isplitl [H12]; · iexists _; iexact H12
    iexists _; iexact H13

/-- What a trip of the attending loop keeps: the gate's block, the rotated keys, the transposed values and the
rotated queries, and, at some contents, the output block and the score buffer. -/
abbrev attendKept (c : Dev nD) (arg5 : Memref sig .tc .vmem S1x2048x512 .f32) (arg11 : Memref sig .tc .vmem S2048x128 .bf16) (arg12 : Memref sig .tc .vmem S128x2048 .bf16) (arg13 : Memref sig .tc .vmem S8192x128 .bf16) (arg10 : Memref sig .tc .vmem S1x2048x512 .bf16) (arg14 : Memref sig .tc .vmem S2x4x512x256 .f32) (X5 : BufTy.Contents (Elt F) arg5.view.ty) (X11 : BufTy.Contents (Elt F) arg11.view.ty) (X12 : BufTy.Contents (Elt F) arg12.view.ty) (X13 : BufTy.Contents (Elt F) arg13.view.ty) : sProp 𝕄 :=
  iprop((arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (∃ f, (arg10.view.loc (c : Thread nD τ) ↦[arg10.view.set]{fullShare} f)) ∗ (∃ f, (arg14.view.loc (c : Thread nD τ) ↦[arg14.view.set]{fullShare} f)))

set_option warn.classDefReducibility false in
/-- The attending loop: one trip computes the outputs of sixteen blocks of 256 query rows and the scores of the
block after the last of them. -/
@[sl_loop] def attendLoop (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec F S8x256 .f32) (X5 : BufTy.Contents (Elt F) arg5.view.ty) (X11 : BufTy.Contents (Elt F) arg11.view.ty) (X12 : BufTy.Contents (Elt F) arg12.view.ty) (X13 : BufTy.Contents (Elt F) arg13.view.ty) (init : FVec F S8x256 .f32) :
    Gen.LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v12 v12 (constant S512x256 .f32 0x00000000#32) init where
  inv _ _ := attendKept (F := F) c arg5 arg11 arg12 arg13 arg10 arg14 X5 X11 X12 X13
  step k acc := by
    have hk : k.val < 2 := Nat.lt_of_lt_of_le k.isLt k0_t2_abs.2.1
    unfold k0_t2_body
    iintro ⟨H5, H11, H12, H13, ⟨%f10, H10⟩, ⟨%f14, H14⟩⟩
    sl_exec
    sl_step
    isplitl [H5]; · iexact H5
    isplitl [H11]; · iexact H11
    isplitl [H12]; · iexact H12
    isplitl [H13]; · iexact H13
    isplitl [H10]; · iexists _; iexact H10
    iexists _; iexact H14

end Cert.KernelIdeal.Attention

end
-- ==== Proof.AttentionIdealFrame.lean ====
module

public import proofs.«01_k».proof.Proof.AttentionIdealLoops

/-! The frame of the attention kernel: the body of one grid point runs from any contents of its output
block and scratch buffers and leaves every block it reads as it was; so the launch ends, the arguments unchanged. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The staging buffer of window 0 at point `t`. -/
abbrev stage0 (t : Fin cfg0.N) : Memref sig .tc .vmem S1x2048x512 .f32 := win0_0.stage (cfg0.slots t 0)
/-- It is a whole buffer. -/
abbrev whole0 (t : Fin cfg0.N) : (stage0 t).IsWhole := hstage0_0 ((cfg0.slots t 0).cast nbuf0_0)
/-- The staging buffer of window 1 at point `t`. -/
abbrev stage1 (t : Fin cfg0.N) : Memref sig .tc .vmem S1x2048x128 .f32 := win0_1.stage (cfg0.slots t 1)
/-- It is a whole buffer. -/
abbrev whole1 (t : Fin cfg0.N) : (stage1 t).IsWhole := hstage0_1 ((cfg0.slots t 1).cast nbuf0_1)
/-- The staging buffer of window 2 at point `t`. -/
abbrev stage2 (t : Fin cfg0.N) : Memref sig .tc .vmem S1x2048x128 .f32 := win0_2.stage (cfg0.slots t 2)
/-- It is a whole buffer. -/
abbrev whole2 (t : Fin cfg0.N) : (stage2 t).IsWhole := hstage0_2 ((cfg0.slots t 2).cast nbuf0_2)
/-- The staging buffer of window 3 at point `t`. -/
abbrev stage3 (t : Fin cfg0.N) : Memref sig .tc .vmem S1x2048x512 .f32 := win0_3.stage (cfg0.slots t 3)
/-- It is a whole buffer. -/
abbrev whole3 (t : Fin cfg0.N) : (stage3 t).IsWhole := hstage0_3 ((cfg0.slots t 3).cast nbuf0_3)
/-- The staging buffer of window 4 at point `t`. -/
abbrev stage4 (t : Fin cfg0.N) : Memref sig .tc .vmem S1x128 .f32 := win0_4.stage (cfg0.slots t 4)
/-- It is a whole buffer. -/
abbrev whole4 (t : Fin cfg0.N) : (stage4 t).IsWhole := hstage0_4 ((cfg0.slots t 4).cast nbuf0_4)
/-- The staging buffer of window 5 at point `t`. -/
abbrev stage5 (t : Fin cfg0.N) : Memref sig .tc .vmem S1x128 .f32 := win0_5.stage (cfg0.slots t 5)
/-- It is a whole buffer. -/
abbrev whole5 (t : Fin cfg0.N) : (stage5 t).IsWhole := hstage0_5 ((cfg0.slots t 5).cast nbuf0_5)
/-- The staging buffer of window 6 at point `t`. -/
abbrev stage6 (t : Fin cfg0.N) : Memref sig .tc .vmem S2048x128 .f32 := win0_6.stage (cfg0.slots t 6)
/-- It is a whole buffer. -/
abbrev whole6 (t : Fin cfg0.N) : (stage6 t).IsWhole := hstage0_6 ((cfg0.slots t 6).cast nbuf0_6)
/-- The staging buffer of window 7 at point `t`. -/
abbrev stage7 (t : Fin cfg0.N) : Memref sig .tc .vmem S2048x128 .f32 := win0_7.stage (cfg0.slots t 7)
/-- It is a whole buffer. -/
abbrev whole7 (t : Fin cfg0.N) : (stage7 t).IsWhole := hstage0_7 ((cfg0.slots t 7).cast nbuf0_7)
/-- The staging buffer of window 8 at point `t`. -/
abbrev stage8 (t : Fin cfg0.N) : Memref sig .tc .vmem S1x2048x512 .bf16 := win0_8.stage (cfg0.slots t 8)
/-- It is a whole buffer. -/
abbrev whole8 (t : Fin cfg0.N) : (stage8 t).IsWhole := hstage0_8 ((cfg0.slots t 8).cast nbuf0_8)
/-- Scratch buffer 0. -/
abbrev scratch0 : Memref sig .tc .vmem S2048x128 .bf16 := Memref.whole cc0_scratch0
/-- Scratch buffer 1. -/
abbrev scratch1 : Memref sig .tc .vmem S128x2048 .bf16 := Memref.whole cc0_scratch1
/-- Scratch buffer 2. -/
abbrev scratch2 : Memref sig .tc .vmem S8192x128 .bf16 := Memref.whole cc0_scratch2
/-- Scratch buffer 3. -/
abbrev scratch3 : Memref sig .tc .vmem S2x4x512x256 .f32 := Memref.whole cc0_scratch3

/-- The launch's invariant with the scratch buffers owned at some contents. -/
theorem scratch_rest (c : Dev nD) :
    (Pipeline.ΦA spec0 c : sProp 𝕄)
      = iprop(iprop((∃ d, owns (c : Thread nD τ) scratch0 fullShare d) ∗ (∃ d, owns (c : Thread nD τ) scratch1 fullShare d)
          ∗ (∃ d, owns (c : Thread nD τ) scratch2 fullShare d) ∗ (∃ d, owns (c : Thread nD τ) scratch3 fullShare d)) ∗ (∃ r, prngReg c r)) := by
  unfold Pipeline.ΦA; rw [scopedRest0_eq]; simp only [scratch0, scratch1, scratch2, scratch3, owns_whole]; try rfl

/-- The body of one grid point: from the input blocks' contents, and any contents of the output block and
the four scratch buffers, it runs and hands the input blocks back as they were. -/
theorem body_run (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole)
    (x2 : Vec F S1x2048x512 .f32) (x3 : Vec F S1x2048x128 .f32) (x4 : Vec F S1x2048x128 .f32) (x5 : Vec F S1x2048x512 .f32) (x6 : Vec F S1x128 .f32) (x7 : Vec F S1x128 .f32) (x8 : Vec F S2048x128 .f32) (x9 : Vec F S2048x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14) K := by
  simp only [cc0_attention_eq_skeleton]; unfold cc0_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

variable (m : (ℓ : Loc nD τ sig) → Buf (Elt F) ℓ) (ρ : Dev nD → PrngReg)

/-- The output window is the one nothing is named of here. -/
def forgets0 : Fin 9 → Bool := fun w => w.val == 8

/-- The launch's proof data: the input windows' buffers hold their blocks, the output is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The arrays the pipeline starts from are those of the memory. -/
theorem A_eq (c : Dev nD) (w : Fin cfg0.W) : (dats m 0 c).A w = V m c (Pipeline.arrRef spec0 w) := by
  dsimp only [dats]

/-- An input's window is left as the point found it, for each of the eight inputs. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

/-- Before a point an input's window holds the block that the point reads, for each of the eight inputs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare d))

/-- What it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ (∃ d, owns (c : Thread nD τ) (stage8 t) fullShare d))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, scratch_rest]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body at that point. -/
theorem body_row (t : Fin cfg0.N) :
    defs₀ (F := F) .tc cfg0.body (cfg0.bodyArgs t (cfg0.slots t)) = bodyAt0 t := by
  unfold defs₀; rw [Defs.onTc_tc]

/-- The launch's obligation of the body. -/
theorem body_obligation (c : Dev nD) : BodyObligation (dats (F := F) m 0 c) (defs₀ (F := F)) Variants.none () Set.univ forgets0 := fun t => by
  rw [bigSep_W0, bigSep_W0, body_row]
  exact triple_restated (sound_body m c t) rfl .rfl fun _ => .rfl

set_option backward.isDefEq.respectTransparency.types false in
/-- The launch: every final state has the arrays the windows read unchanged and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: every execution ends, the three arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 3 rfl).trans ((A_eq m c 3).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Attention

end
-- ==== Proof.Sums.lean ====
module
public import Mathlib.Data.EReal.Inv
public import Mathlib.Algebra.BigOperators.Fin

@[expose] public section

/-! A nonnegative finite factor moves out of a finite sum of extended reals. -/

namespace Cert.Sums

open Finset

/-- `c · Σ f = Σ c · f` for a nonnegative finite `c`, whatever the terms. -/
theorem mul_sum {ι : Type*} (s : Finset ι) (f : ι → EReal) (c : EReal) (h0 : 0 ≤ c) (ht : c ≠ ⊤) :
    c * ∑ k ∈ s, f k = ∑ k ∈ s, c * f k := by
  classical
  induction s using Finset.induction_on with
  | empty => simp
  | insert a s ha ih =>
    rw [sum_insert ha, sum_insert ha, EReal.left_distrib_of_nonneg_of_ne_top h0 ht, ih]

/-- A factor on the second operand of every product of a contraction moves in front of the contraction. -/
theorem dot_scaled {n : ℕ} (f g : Fin n → EReal) (c : EReal) (h0 : 0 ≤ c) (ht : c ≠ ⊤) :
    ∑ k, f k * (g k * c) = c * ∑ k, f k * g k := by
  rw [mul_sum _ _ _ h0 ht]
  exact sum_congr rfl fun k _ => by rw [mul_comm (g k) c]; exact mul_left_comm (f k) c (g k)

end Cert.Sums
-- ==== Proof.InZeroValue.lean ====
module
public import proofs.«01_k».proof.Proof.Gen.InZeroIdeal.Frame
public import proofs.«01_k».proof.Proof.Gen.InZeroIdeal.Value
public import proofs.«01_k».proof.Proof.Gen.InZeroRefIdeal.Run
public import proofs.«01_k».proof.Proof.Sums
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.InZeroIdeal.Value
open Cert.InZeroIdeal Cert.InZeroIdeal.Gen

variable (m : (ℓ : Loc nD τ sig) → Buf (Elt Ideal) ℓ)

/-- The factor of an output column: one half for the gate columns, one elsewhere. -/
def factor (n : ℕ) : EReal :=
  if (1536 ≤ n ∧ n < 2560) ∨ 3584 ≤ n then Ideal.ofBits .f32 0x3F000000#32 else Ideal.ofBits .f32 0x3F800000#32

/-- A tile of column block `b` with every column times its factor. -/
def scaled (b : ℕ) (x : Vec Ideal S2048x768 .f32) : Vec Ideal S2048x768 .bf16 :=
  fun y => (x y * factor (768 * b + (y 1 : ℕ)) : EReal)

/-- The factor's word is the number one half. -/
theorem half_eq : Ideal.ofBits .f32 0x3F000000#32 = ((1 / 2 : ℝ) : EReal) := by
  simp [Ideal.ofBits, Ideal.ieee, -EReal.coe_mul]; norm_num

/-- The constant one half is not negative. -/
theorem half_nonneg : 0 ≤ Ideal.ofBits .f32 0x3F000000#32 := by
  rw [half_eq]; exact EReal.coe_nonneg.mpr (by norm_num)

/-- The constant one half is finite. -/
theorem half_ne_top : Ideal.ofBits .f32 0x3F000000#32 ≠ (⊤ : EReal) := by
  rw [half_eq]; exact EReal.coe_ne_top _

/-- The constant one is one. -/
theorem one_eq : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- A column's factor is not negative. -/
theorem factor_nonneg (n : ℕ) : 0 ≤ factor n := by
  unfold factor; split
  · exact half_nonneg
  · rw [one_eq]; exact zero_le_one

/-- A column's factor is finite. -/
theorem factor_ne_top (n : ℕ) : factor n ≠ (⊤ : EReal) := by
  unfold factor; split
  · exact half_ne_top
  · rw [one_eq]; exact EReal.coe_ne_top 1

/-- The kernel's two selections on a column's number give the column's factor. -/
theorem select_factor (n : ℕ) (hn : n < 4608) (a b : EReal) (ha : a = Ideal.ofBits .f32 0x3F000000#32) (hb : b = 1) :
    Scalar.select
      (IntOp.andi (IntOp.cmpi .sge (BitVec.ofNat 32 n) 3584#32) (IntOp.cmpi .slt (BitVec.ofNat 32 n) 4608#32)) a
      (Scalar.select (IntOp.andi (IntOp.cmpi .sge (BitVec.ofNat 32 n) 1536#32) (IntOp.cmpi .slt (BitVec.ofNat 32 n) 2560#32)) a b)
    = factor n := by
  subst ha hb
  rw [WordCmp.cmpi_sge_ofNat (by omega) (by omega), WordCmp.cmpi_slt_ofNat (by omega) (by omega),
    WordCmp.cmpi_sge_ofNat (by omega) (by omega), WordCmp.cmpi_slt_ofNat (by omega) (by omega)]
  unfold factor Scalar.select
  rw [one_eq]
  by_cases h1 : 3584 ≤ n <;> by_cases h2 : 1536 ≤ n <;> by_cases h3 : n < 2560 <;>
    simp [h1, h2, h3, hn, IntOp.andi] <;> omega

/-- The reference's selection on a column's number multiplies by the column's factor. -/
theorem select_ref (n : ℕ) (hn : n < 4608) (x : EReal) :
    Scalar.select
      (IntOp.ori (IntOp.andi (IntOp.cmpi .sge (BitVec.ofNat 32 n) 1536#32) (IntOp.cmpi .slt (BitVec.ofNat 32 n) 2560#32))
        (IntOp.cmpi .sge (BitVec.ofNat 32 n) 3584#32)) (Ideal.ofBits .f32 0x3F000000#32 * x) x
    = factor n * x := by
  rw [WordCmp.cmpi_sge_ofNat (by omega) (by omega), WordCmp.cmpi_slt_ofNat (by omega) (by omega), WordCmp.cmpi_sge_ofNat (by omega) (by omega)]
  unfold factor Scalar.select
  rw [one_eq]
  by_cases h1 : 3584 ≤ n <;> by_cases h2 : 1536 ≤ n <;> by_cases h3 : n < 2560 <;>
    simp [h1, h2, h3, hn, IntOp.andi, IntOp.ori] <;> omega

/-- The number of a column of block `i`, as the kernel computes it. -/
theorem column (i z : ℕ) :
    IntOp.addi (Scalar.muli (BitVec.ofNat 32 i) 768#32) (BitVec.ofNat 32 z) = BitVec.ofNat 32 (768 * i + z) := by
  show BitVec.ofNat 32 i * BitVec.ofNat 32 768 + BitVec.ofNat 32 z = _
  rw [← BitVec.ofNat_mul, ← BitVec.ofNat_add, Nat.mul_comm]

/-- One pass of the cast loop stores one band of 64 rows of the tile it reads. -/
theorem trip_pieces (𝒱 : Variants) (c : Dev nD) (bd : Option 𝒱.V) (i : grid0.Coords) (arg2 : Memref sig .tc .vmem S2048x2048 .bf16) (harg2 : arg2.IsWhole) (arg3 : Memref sig .tc .vmem S2048x768 .f32) (harg3 : arg3.IsWhole) (arg4 : Memref sig .tc .vmem S2048x768 .f32) (harg4 : arg4.IsWhole) (arg5 : Memref sig .tc .vmem S2048x768 .bf16) (harg5 : arg5.IsWhole) (k0_h1 : k0_cond1 i = 1#1) (x : Vec Ideal S2048x768 .f32) (k : Fin k0_t1_loop.trips) :
    ∀ p ∈ tripL_k0_t1 (F := Ideal) 𝒱 c bd i arg2 harg2 arg3 harg3 arg4 harg4 arg5 harg5 k0_h1 (harg3.unread x) k,
      ∀ z : p.1.shape.Idx, p.2 z = scaled (i 0).val x (p.1.emb z) := by
  unfold tripL_k0_t1 trip_k0_t1
  intro p hp z
  obtain rfl := List.mem_singleton.mp hp
  show k0_pay1 (F := Ideal) i _ z = _
  rw [View.readAt_eq_ld, harg3.read_unread]
  pointwise [k0_pay1, scaled]
  have hi : (i 0 : ℕ) < 6 := (i 0).isLt
  have hz : (z 1 : ℕ) < 768 := (z 1).isLt
  rw [column, select_factor _ (by omega) _ _ rfl rfl]
  refine congrArg₂ (fun a b : EReal => a * b) (by blk_ext) (congrArg factor ?_)
  blk_simp
  have h0 : k0_off1 k 1 = 0 := rfl
  omega

/-- The copying loop writes its bands of rows of the weight block, each scaled as the scratch should hold it. -/
theorem loop_pieces (𝒱 : Variants) (c : Dev nD) (bd : Option 𝒱.V) (i : grid0.Coords) (arg2 : Memref sig .tc .vmem S2048x2048 .bf16) (harg2 : arg2.IsWhole) (arg3 : Memref sig .tc .vmem S2048x768 .f32) (harg3 : arg3.IsWhole) (arg4 : Memref sig .tc .vmem S2048x768 .f32) (harg4 : arg4.IsWhole) (arg5 : Memref sig .tc .vmem S2048x768 .bf16) (harg5 : arg5.IsWhole) (k0_h1 : k0_cond1 i = 1#1) (x : Vec Ideal S2048x768 .f32) (n : ℕ) (hn : n ≤ k0_t1_loop.trips) :
    ∀ p ∈ pb_k0_t1 (F := Ideal) 𝒱 c bd i arg2 harg2 arg3 harg3 arg4 harg4 arg5 harg5 k0_h1 (harg3.unread x) n,
      ∀ z : p.1.shape.Idx, p.2 z = scaled (i 0).val x (p.1.emb z) := by
  induction n with
  | zero => intro p hp; exact absurd hp List.not_mem_nil
  | succ n ih =>
    intro p hp
    have e := pb_k0_t1_succ (F := Ideal) 𝒱 c bd i arg2 harg2 arg3 harg3 arg4 harg4 arg5 harg5 k0_h1 (harg3.unread x) ⟨n, hn⟩
    dsimp only at e
    rw [e] at hp
    rcases List.mem_append.mp hp with h | h
    · exact trip_pieces 𝒱 c bd i arg2 harg2 arg3 harg3 arg4 harg4 arg5 harg5 k0_h1 x ⟨n, hn⟩ p h
    · exact ih (Nat.le_of_succ_le hn) p h

/-- After the first point of a column the scratch holds the weight tile. -/
theorem scratch_A (c : Dev nD) (i : grid0.Coords) (arg2 : Memref sig .tc .vmem S2048x2048 .bf16) (harg2 : arg2.IsWhole) (arg3 : Memref sig .tc .vmem S2048x768 .f32) (harg3 : arg3.IsWhole) (arg4 : Memref sig .tc .vmem S2048x768 .f32) (harg4 : arg4.IsWhole) (arg5 : Memref sig .tc .vmem S2048x768 .bf16) (harg5 : arg5.IsWhole) (hc0 : cond0_0 i)
    (x0 : Vec Ideal S2048x2048 .bf16) (x1 : Vec Ideal S2048x768 .f32) (y : S2048x768.Idx) :
    sout0_A_0 (F := Ideal) c i arg2 harg2 arg3 harg3 arg4 harg4 arg5 harg5 hc0 x0 x1 y = scaled (i 0).val x1 y := by
  have hcov := scover0_A_0 (F := Ideal) c i arg2 harg2 arg3 harg3 arg4 harg4 arg5 harg5 hc0 x0 x1 y
  unfold sout0_A_0
  rw [View.read_writes_junk_eq_canon]
  refine View.canon_apply_of_pieces (Val := Elt Ideal) (S := S2048x768) (e := .bf16) (scaled (i 0).val x1) _ ?_ y hcov
  exact loop_pieces Variants.none c none i arg2 harg2 arg3 harg3 arg4 harg4 arg5 harg5 hc0 x1 _ le_rfl

/-- The first point of a column writes the product of its activations with the weight tile it has just copied. -/
theorem out_A (c : Dev nD) (i : grid0.Coords) (arg2 : Memref sig .tc .vmem S2048x2048 .bf16) (harg2 : arg2.IsWhole) (arg3 : Memref sig .tc .vmem S2048x768 .f32) (harg3 : arg3.IsWhole) (arg4 : Memref sig .tc .vmem S2048x768 .f32) (harg4 : arg4.IsWhole) (arg5 : Memref sig .tc .vmem S2048x768 .bf16) (harg5 : arg5.IsWhole) (hc0 : cond0_0 i)
    (x0 : Vec Ideal S2048x2048 .bf16) (x1 : Vec Ideal S2048x768 .f32) :
    out0_A_2 (F := Ideal) c i arg2 harg2 arg3 harg3 arg4 harg4 arg5 harg5 hc0 x0 x1 = k0_pay2 x0 (scaled (i 0).val x1) := by
  have hcov := scover0_A_0 (F := Ideal) c i arg2 harg2 arg3 harg3 arg4 harg4 arg5 harg5 hc0 x0 x1
  frame_out
  refine congrArg (k0_pay2 x0) ?_
  refine (View.readCov_eq_canon_ld _ _ _ hcov).trans ?_
  rw [View.ld_unit_zero (by decide)]
  funext y
  exact View.canon_apply_of_pieces (Val := Elt Ideal) (S := S2048x768) (e := .bf16) (scaled (i 0).val x1) _
    (loop_pieces Variants.none c none i arg2 harg2 arg3 harg3 arg4 harg4 arg5 harg5 hc0 x1 _ le_rfl) y (hcov y)

/-- A later point of a column writes the product of its activations with the weight tile the scratch holds. -/
theorem out_B (c : Dev nD) (i : grid0.Coords) (arg2 : Memref sig .tc .vmem S2048x2048 .bf16) (harg2 : arg2.IsWhole) (arg3 : Memref sig .tc .vmem S2048x768 .f32) (harg3 : arg3.IsWhole) (arg4 : Memref sig .tc .vmem S2048x768 .f32) (harg4 : arg4.IsWhole) (arg5 : Memref sig .tc .vmem S2048x768 .bf16) (harg5 : arg5.IsWhole) (hc0 : ¬cond0_0 i)
    (x0 : Vec Ideal S2048x2048 .bf16) (x1 : Vec Ideal S2048x768 .f32) (xs : Vec Ideal S2048x768 .bf16) :
    out0_B_2 (F := Ideal) c i arg2 harg2 arg3 harg3 arg4 harg4 arg5 harg5 hc0 x0 x1 xs = k0_pay2 x0 xs := by
  frame_out

/-- The weight tile a point's column uses: the block of the column's first point. -/
theorem held (c : Dev nD) (t : Fin cfg0.N) (y : S2048x768.Idx) :
    (outsAt0 m c t.val t.isLt).2 y = scaled (grid0.coords ⟨8 * (t.val / 8), Pipeline.run_start_lt t⟩ 0).val (iblk m c 1 ⟨8 * (t.val / 8), Pipeline.run_start_lt t⟩) y := by
  refine Pipeline.eq_of_write_hold_apply (fun n h => (outsAt0 m c n h).2) 8 (fun t => scaled (grid0.coords t 0).val (iblk m c 1 t : Vec Ideal S2048x768 .f32)) ?_ ?_ t y
  · intro t h y
    rw [outsAt0_A m c t h]
    exact scratch_A ..
  · intro t h y
    rw [outsAt0_B m c t h]
    rfl

/-- The reference's function. -/
abbrev REF (X : FVec Ideal S16384x2048 .bf16) (W : FVec Ideal S1x2048x4608 .f32) : FVec Ideal S16384x4608 .f32 := select (broadcastInDim Cert.InZeroRefIdeal.S16384x4608 ![1] Cert.InZeroRefIdeal.Gen.bcast_S4608_S16384x4608_1 (ori (andi (cmpi .sge (iotaInDim Cert.InZeroRefIdeal.S4608 32 0) (broadcastInDim Cert.InZeroRefIdeal.S4608 ![] Cert.InZeroRefIdeal.Gen.bcast_S_S4608 (constantI Cert.InZeroRefIdeal.S_ 32 1536#32))) (cmpi .slt (iotaInDim Cert.InZeroRefIdeal.S4608 32 0) (broadcastInDim Cert.InZeroRefIdeal.S4608 ![] Cert.InZeroRefIdeal.Gen.bcast_S_S4608 (constantI Cert.InZeroRefIdeal.S_ 32 2560#32)))) (cmpi .sge (iotaInDim Cert.InZeroRefIdeal.S4608 32 0) (broadcastInDim Cert.InZeroRefIdeal.S4608 ![] Cert.InZeroRefIdeal.Gen.bcast_S_S4608 (constantI Cert.InZeroRefIdeal.S_ 32 3584#32))))) (mulf (broadcastInDim Cert.InZeroRefIdeal.S16384x4608 ![] Cert.InZeroRefIdeal.Gen.bcast_S_S16384x4608 (constant Cert.InZeroRefIdeal.S_ .f32 0x3F000000#32)) (Host.dotGeneral Cert.InZeroRefIdeal.dot_S16384x2048_S2048x4608_S16384x4608_1_0_0_1_n_n none (extf .f32 X Cert.InZeroRefIdeal.Gen.bitsLt_bf16_f32) (shapeCast _ W Cert.InZeroRefIdeal.Gen.shapeCasts_S1x2048x4608_S2048x4608))) (Host.dotGeneral Cert.InZeroRefIdeal.dot_S16384x2048_S2048x4608_S16384x4608_1_0_0_1_n_n none (extf .f32 X Cert.InZeroRefIdeal.Gen.bitsLt_bf16_f32) (shapeCast _ W Cert.InZeroRefIdeal.Gen.shapeCasts_S1x2048x4608_S2048x4608))

/-- The blocks that the windows of a point read and write. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- A point's column. -/
theorem coord : ∀ t : Fin cfg0.N, (grid0.coords t 0).val = t.val / 8 :=
  (by decide +kernel : ∀ t : Fin grid0.N, _)

/-- An entry of the reference: the column's factor times the row's product with the column. -/
theorem ref_apply (X : FVec Ideal S16384x2048 .bf16) (W : FVec Ideal S1x2048x4608 .f32) (j : S16384x4608.Idx) :
    REF X W j = factor (j 1).val * ∑ k : Fin 2048, X (ix2 (j 0) k) * W (ix3 0 k (j 1)) := by
  pointwise [REF]
  exact select_ref _ (j 1).isLt _

/-- What a point writes is its block of the reference's function. -/
theorem point (c : Dev nD) (t t₀ : Fin cfg0.N) (ht : t₀.val = 8 * (t.val / 8)) (y : S2048x768.Idx) :
    k0_pay2 (F := Ideal) (iblk m c 0 t) (scaled (grid0.coords t₀ 0).val (iblk m c 1 t₀)) y = REF (m ((c : Thread nD τ).loc main_arg0)) (m ((c : Thread nD τ).loc main_arg1)) (((cfg0.win 2).blk t).view.emb y) := by
  rw [ref_apply, coord]
  pointwise [k0_pay2, scaled]
  refine (Cert.Sums.dot_scaled (n := 2048) _ _ _ (factor_nonneg _) (factor_ne_top _)).trans ?_
  refine congrArg₂ (fun a b : EReal => a * b) ?_ (Fin.sum_fin_congr fun k => ?_)
  · refine congrArg factor ?_
    blk_simp [idx t]
    omega
  · blk_point [iblk, V, idx t, idx t₀]

/-- What a point writes: the product of its activations with its column's weight tile. -/
theorem outs (c : Dev nD) (t : Fin cfg0.N) :
    (outsAt0 m c t.val t.isLt).1 = k0_pay2 (F := Ideal) (iblk m c 0 t) (scaled (grid0.coords ⟨8 * (t.val / 8), Pipeline.run_start_lt t⟩ 0).val (iblk m c 1 ⟨8 * (t.val / 8), Pipeline.run_start_lt t⟩)) := by
  by_cases h : t.val % 8 = 0
  · have h1 := congrArg Prod.fst (outsAt0_A m c t h)
    dsimp only at h1
    rw [h1, out_A]
    have e : (⟨8 * (t.val / 8), Pipeline.run_start_lt t⟩ : Fin cfg0.N) = t := Fin.ext (by show 8 * (t.val / 8) = t.val; omega)
    rw [e]
  · have e := funext (held m c t)
    rw [outsAt0_B m c t h] at e
    have h1 := congrArg Prod.fst (outsAt0_B m c t h)
    dsimp only at h1
    unfold sout0_B_0 at e
    rw [h1, out_B, e]

/-- After the last point the result array is the reference's function. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2, outs]
  exact point m c t _ rfl y

end Cert.InZeroIdeal.Value
-- ==== Proof.QkvValue.lean ====
module
public import proofs.«01_k».proof.Proof.Gen.QkvIdeal.Frame
public import proofs.«01_k».proof.Proof.Gen.QkvIdeal.Value
public import proofs.«01_k».proof.Proof.Gen.QkvRefIdeal.Run
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.QkvIdeal.Value
open Cert.QkvIdeal Cert.QkvIdeal.Gen

variable (m : (ℓ : Loc nD τ sig) → Buf (Elt Ideal) ℓ)

/-- One pass of the cast loop stores one band of 64 rows of the tile it reads. -/
theorem trip_pieces (𝒱 : Variants) (c : Dev nD) (bd : Option 𝒱.V) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (k0_h1 : k0_cond1 i = 1#1) (x : Vec Ideal S1024x2048 .f32) (k : Fin k0_t1_loop.trips) :
    ∀ p ∈ tripL_k0_t1 (F := Ideal) 𝒱 c bd i arg2 harg2 arg3 harg3 arg4 harg4 arg5 harg5 k0_h1 (harg3.unread x) k,
      ∀ z : p.1.shape.Idx, p.2 z = x (p.1.emb z) := by
  unfold tripL_k0_t1 trip_k0_t1
  intro p hp z
  obtain rfl := List.mem_singleton.mp hp
  show k0_pay1 (F := Ideal) _ z = _
  rw [View.readAt_eq_ld, harg3.read_unread]
  pointwise [k0_pay1]
  blk_ext

/-- The copying loop writes its bands of rows of the weight block, each scaled as the scratch should hold it. -/
theorem loop_pieces (𝒱 : Variants) (c : Dev nD) (bd : Option 𝒱.V) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (k0_h1 : k0_cond1 i = 1#1) (x : Vec Ideal S1024x2048 .f32) (n : ℕ) (hn : n ≤ k0_t1_loop.trips) :
    ∀ p ∈ pb_k0_t1 (F := Ideal) 𝒱 c bd i arg2 harg2 arg3 harg3 arg4 harg4 arg5 harg5 k0_h1 (harg3.unread x) n,
      ∀ z : p.1.shape.Idx, p.2 z = x (p.1.emb z) := by
  induction n with
  | zero => intro p hp; exact absurd hp List.not_mem_nil
  | succ n ih =>
    intro p hp
    have e := pb_k0_t1_succ (F := Ideal) 𝒱 c bd i arg2 harg2 arg3 harg3 arg4 harg4 arg5 harg5 k0_h1 (harg3.unread x) ⟨n, hn⟩
    dsimp only at e
    rw [e] at hp
    rcases List.mem_append.mp hp with h | h
    · exact trip_pieces 𝒱 c bd i arg2 harg2 arg3 harg3 arg4 harg4 arg5 harg5 k0_h1 x ⟨n, hn⟩ p h
    · exact ih (Nat.le_of_succ_le hn) p h

/-- After the first point of a column the scratch holds the weight tile. -/
theorem scratch_A (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (hc0 : cond0_0 i)
    (x0 : Vec Ideal S2048x2048 .bf16) (x1 : Vec Ideal S1024x2048 .f32) (y : S1024x2048.Idx) :
    sout0_A_0 (F := Ideal) c i arg2 harg2 arg3 harg3 arg4 harg4 arg5 harg5 hc0 x0 x1 y = x1 y := by
  have hcov := scover0_A_0 (F := Ideal) c i arg2 harg2 arg3 harg3 arg4 harg4 arg5 harg5 hc0 x0 x1 y
  unfold sout0_A_0
  rw [View.read_writes_junk_eq_canon]
  refine View.canon_apply_of_pieces (Val := Elt Ideal) (S := S1024x2048) (e := .bf16) x1 _ ?_ y hcov
  exact loop_pieces Variants.none c none i arg2 harg2 arg3 harg3 arg4 harg4 arg5 harg5 hc0 x1 _ le_rfl

/-- The first point of a column writes the product of its activations with the weight tile it has just copied. -/
theorem out_A (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (hc0 : cond0_0 i)
    (x0 : Vec Ideal S2048x2048 .bf16) (x1 : Vec Ideal S1024x2048 .f32) :
    out0_A_2 (F := Ideal) c i arg2 harg2 arg3 harg3 arg4 harg4 arg5 harg5 hc0 x0 x1 = k0_pay2 x0 x1 := by
  have hcov := scover0_A_0 (F := Ideal) c i arg2 harg2 arg3 harg3 arg4 harg4 arg5 harg5 hc0 x0 x1
  frame_out
  refine congrArg (k0_pay2 x0) ?_
  refine (View.readCov_eq_canon_ld _ _ _ hcov).trans ?_
  rw [View.ld_unit_zero (by decide)]
  funext y
  exact View.canon_apply_of_pieces (Val := Elt Ideal) (S := S1024x2048) (e := .bf16) x1 _
    (loop_pieces Variants.none c none i arg2 harg2 arg3 harg3 arg4 harg4 arg5 harg5 hc0 x1 _ le_rfl) y (hcov y)

/-- A later point of a column writes the product of its activations with the weight tile the scratch holds. -/
theorem out_B (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (hc0 : ¬cond0_0 i)
    (x0 : Vec Ideal S2048x2048 .bf16) (x1 : Vec Ideal S1024x2048 .f32) (xs : Vec Ideal S1024x2048 .bf16) :
    out0_B_2 (F := Ideal) c i arg2 harg2 arg3 harg3 arg4 harg4 arg5 harg5 hc0 x0 x1 xs = k0_pay2 x0 xs := by
  frame_out

/-- The weight tile a point's column uses: the block of the column's first point. -/
theorem held (c : Dev nD) (t : Fin cfg0.N) (y : S1024x2048.Idx) :
    (outsAt0 m c t.val t.isLt).2 y = X0_1 m c ⟨8 * (t.val / 8), Pipeline.run_start_lt t⟩ y := by
  refine Pipeline.eq_of_write_hold_apply (fun n h => (outsAt0 m c n h).2) 8 (fun t => (X0_1 m c t : Vec Ideal S1024x2048 .f32)) ?_ ?_ t y
  · intro t h y
    rw [outsAt0_A m c t h]
    exact scratch_A ..
  · intro t h y
    rw [outsAt0_B m c t h]
    rfl

/-- The reference's function. -/
abbrev REF (X : FVec Ideal S16384x2048 .bf16) (W : FVec Ideal S1x2048x8224 .f32) : FVec Ideal S16384x4096 .bf16 :=
  truncf .bf16 (Host.dotGeneral Cert.QkvRefIdeal.dot_S16384x2048_S2048x4096_S16384x4096_1_0_0_1_n_n none (extf .f32 X Cert.QkvRefIdeal.Gen.bitsLt_bf16_f32) (extractStridedSlice Cert.QkvRefIdeal.S2048x4096 ![0, 0] (shapeCast _ W Cert.QkvRefIdeal.Gen.shapeCasts_S1x2048x8224_S2048x8224) Cert.QkvRefIdeal.Gen.slices_S2048x8224_S2048x4096_0_0)) Cert.QkvRefIdeal.Gen.bitsLt_bf16_f32

/-- The blocks that the windows of a point read and write. -/
theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

/-- An entry of the weight block of a column, as an entry of the weight array. -/
theorem tile (c : Dev nD) (t : Fin cfg0.N) (y : S1024x2048.Idx) (j : S1x2048x8224.Idx)
    (h1 : (j 1 : ℕ) = y 1) (h2 : (j 2 : ℕ) = 1024 * (t.val / 8) + y 0) :
    X0_1 m c t y = m ((c : Thread nD τ).loc main_arg1) j := by
  unfold X0_1 Pipeline.Window.fill
  rw [dif_pos (moved0_1 t y)]
  blk_point [iblk, V, idx t]

/-- What a point writes is its block of the reference's function. -/
theorem point (c : Dev nD) (t t₀ : Fin cfg0.N) (ht : t₀.val = 8 * (t.val / 8)) (y : S2048x1024.Idx) :
    k0_pay2 (F := Ideal) (iblk m c 0 t) (X0_1 m c t₀) y = REF (m ((c : Thread nD τ).loc main_arg0)) (m ((c : Thread nD τ).loc main_arg1)) (((cfg0.win 2).blk t).view.emb y) := by
  pointwise [k0_pay2, REF]
  refine Fin.sum_fin_congr fun k => ?_
  refine congrArg₂ (· * ·) ?_ (tile m c t₀ _ _ ?_ ?_)
  · blk_point [iblk, V, idx t]
  · blk_simp [idx t]
  · blk_simp [idx t]
    show (t.val / 8 * 1024 + (y 1 : ℕ)) = 1024 * (t₀.val / 8) + y 1
    omega

/-- What a point writes: the product of its activations with its column's weight tile. -/
theorem outs (c : Dev nD) (t : Fin cfg0.N) :
    (outsAt0 m c t.val t.isLt).1 = k0_pay2 (F := Ideal) (iblk m c 0 t) (X0_1 m c ⟨8 * (t.val / 8), Pipeline.run_start_lt t⟩) := by
  by_cases h : t.val % 8 = 0
  · have h1 := congrArg Prod.fst (outsAt0_A m c t h)
    dsimp only at h1
    rw [h1, out_A]
    have e : (⟨8 * (t.val / 8), Pipeline.run_start_lt t⟩ : Fin cfg0.N) = t := Fin.ext (by show 8 * (t.val / 8) = t.val; omega)
    rw [e]
  · have e := funext (held m c t)
    rw [outsAt0_B m c t h] at e
    have h1 := congrArg Prod.fst (outsAt0_B m c t h)
    dsimp only at h1
    unfold sout0_B_0 at e
    rw [h1, out_B, e]

/-- After the last point the result array is the reference's function. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2, outs]
  exact point m c t _ rfl y

end Cert.QkvIdeal.Value
-- ==== Proof.OzValue.lean ====
module
public import proofs.«01_k».proof.Proof.Gen.OzIdeal.Frame
public import proofs.«01_k».proof.Proof.Gen.OzIdeal.Value
public import proofs.«01_k».proof.Proof.Gen.OzRefIdeal.Run
public import proofs.«01_k».proof.Proof.Sums
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.OzIdeal.Value
open Cert.OzIdeal Cert.OzIdeal.Gen

variable (m : (ℓ : Loc nD τ sig) → Buf (Elt Ideal) ℓ)

/-- The tile with every entry halved. -/
def half (x : Vec Ideal S1024x2048 .f32) : Vec Ideal S1024x2048 .bf16 := fun y => (x y * Ideal.ofBits .f32 0x3F000000#32 : EReal)

/-- One pass of the cast loop stores one band of 64 rows of the tile it reads. -/
theorem trip_pieces (𝒱 : Variants) (c : Dev nD) (bd : Option 𝒱.V) (i : grid0.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (k0_h1 : k0_cond1 i = 1#1) (x : Vec Ideal S1024x2048 .f32) (k : Fin k0_t1_loop.trips) :
    ∀ p ∈ tripL_k0_t1 (F := Ideal) 𝒱 c bd i arg2 harg2 arg3 harg3 arg4 harg4 arg5 harg5 k0_h1 (harg3.unread x) k,
      ∀ z : p.1.shape.Idx, p.2 z = half x (p.1.emb z) := by
  unfold tripL_k0_t1 trip_k0_t1
  intro p hp z
  obtain rfl := List.mem_singleton.mp hp
  show k0_pay1 (F := Ideal) _ z = _
  rw [View.readAt_eq_ld, harg3.read_unread]
  pointwise [k0_pay1, half]
  exact congrArg (fun a : EReal => a * Ideal.ofBits .f32 0x3F000000#32) (by blk_ext)

/-- The copying loop writes its bands of rows of the weight block, each scaled as the scratch should hold it. -/
theorem loop_pieces (𝒱 : Variants) (c : Dev nD) (bd : Option 𝒱.V) (i : grid0.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (k0_h1 : k0_cond1 i = 1#1) (x : Vec Ideal S1024x2048 .f32) (n : ℕ) (hn : n ≤ k0_t1_loop.trips) :
    ∀ p ∈ pb_k0_t1 (F := Ideal) 𝒱 c bd i arg2 harg2 arg3 harg3 arg4 harg4 arg5 harg5 k0_h1 (harg3.unread x) n,
      ∀ z : p.1.shape.Idx, p.2 z = half x (p.1.emb z) := by
  induction n with
  | zero => intro p hp; exact absurd hp List.not_mem_nil
  | succ n ih =>
    intro p hp
    have e := pb_k0_t1_succ (F := Ideal) 𝒱 c bd i arg2 harg2 arg3 harg3 arg4 harg4 arg5 harg5 k0_h1 (harg3.unread x) ⟨n, hn⟩
    dsimp only at e
    rw [e] at hp
    rcases List.mem_append.mp hp with h | h
    · exact trip_pieces 𝒱 c bd i arg2 harg2 arg3 harg3 arg4 harg4 arg5 harg5 k0_h1 x ⟨n, hn⟩ p h
    · exact ih (Nat.le_of_succ_le hn) p h

/-- After the first point of a column the scratch holds the weight tile. -/
theorem scratch_A (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : cond0_0 i)
    (x0 : Vec Ideal S1024x2048 .bf16) (x1 : Vec Ideal S1024x2048 .f32) (y : S1024x2048.Idx) :
    sout0_A_0 (F := Ideal) c i arg2 harg2 arg3 harg3 arg4 harg4 arg5 harg5 hc0 x0 x1 y = half x1 y := by
  have hcov := scover0_A_0 (F := Ideal) c i arg2 harg2 arg3 harg3 arg4 harg4 arg5 harg5 hc0 x0 x1 y
  unfold sout0_A_0
  rw [View.read_writes_junk_eq_canon]
  refine View.canon_apply_of_pieces (Val := Elt Ideal) (S := S1024x2048) (e := .bf16) (half x1) _ ?_ y hcov
  exact loop_pieces Variants.none c none i arg2 harg2 arg3 harg3 arg4 harg4 arg5 harg5 hc0 x1 _ le_rfl

/-- The first point of a column writes the product of its activations with the weight tile it has just copied. -/
theorem out_A (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : cond0_0 i)
    (x0 : Vec Ideal S1024x2048 .bf16) (x1 : Vec Ideal S1024x2048 .f32) :
    out0_A_2 (F := Ideal) c i arg2 harg2 arg3 harg3 arg4 harg4 arg5 harg5 hc0 x0 x1 = k0_pay2 x0 (half x1) := by
  have hcov := scover0_A_0 (F := Ideal) c i arg2 harg2 arg3 harg3 arg4 harg4 arg5 harg5 hc0 x0 x1
  frame_out
  refine congrArg (k0_pay2 x0) ?_
  refine (View.readCov_eq_canon_ld _ _ _ hcov).trans ?_
  rw [View.ld_unit_zero (by decide)]
  funext y
  exact View.canon_apply_of_pieces (Val := Elt Ideal) (S := S1024x2048) (e := .bf16) (half x1) _
    (loop_pieces Variants.none c none i arg2 harg2 arg3 harg3 arg4 harg4 arg5 harg5 hc0 x1 _ le_rfl) y (hcov y)

/-- A later point of a column writes the product of its activations with the weight tile the scratch holds. -/
theorem out_B (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : ¬cond0_0 i)
    (x0 : Vec Ideal S1024x2048 .bf16) (x1 : Vec Ideal S1024x2048 .f32) (xs : Vec Ideal S1024x2048 .bf16) :
    out0_B_2 (F := Ideal) c i arg2 harg2 arg3 harg3 arg4 harg4 arg5 harg5 hc0 x0 x1 xs = k0_pay2 x0 xs := by
  frame_out

/-- The weight tile a point's column uses: the block of the column's first point. -/
theorem held (c : Dev nD) (t : Fin cfg0.N) (y : S1024x2048.Idx) :
    (outsAt0 m c t.val t.isLt).2 y = half (X0_1 m c ⟨16 * (t.val / 16), Pipeline.run_start_lt t⟩) y := by
  refine Pipeline.eq_of_write_hold_apply (fun n h => (outsAt0 m c n h).2) 16 (fun t => half (X0_1 m c t : Vec Ideal S1024x2048 .f32)) ?_ ?_ t y
  · intro t h y
    rw [outsAt0_A m c t h]
    exact scratch_A ..
  · intro t h y
    rw [outsAt0_B m c t h]
    rfl

/-- The factor's word is the number one half. -/
theorem half_eq : Ideal.ofBits .f32 0x3F000000#32 = ((1 / 2 : ℝ) : EReal) := by
  simp [Ideal.ofBits, Ideal.ieee, -EReal.coe_mul]; norm_num

/-- The constant one half is not negative. -/
theorem half_nonneg : 0 ≤ Ideal.ofBits .f32 0x3F000000#32 := by
  rw [half_eq]; exact EReal.coe_nonneg.mpr (by norm_num)

/-- The constant one half is finite. -/
theorem half_ne_top : Ideal.ofBits .f32 0x3F000000#32 ≠ (⊤ : EReal) := by
  rw [half_eq]; exact EReal.coe_ne_top _

/-- The reference's function. -/
abbrev REF (X : FVec Ideal S16384x2048 .bf16) (W : FVec Ideal S1x2048x8224 .f32) : FVec Ideal S16384x4096 .f32 :=
  mulf (broadcastInDim Cert.OzRefIdeal.S16384x4096 ![] Cert.OzRefIdeal.Gen.bcast_S_S16384x4096 (constant Cert.OzRefIdeal.S_ .f32 0x3F000000#32)) (Host.dotGeneral Cert.OzRefIdeal.dot_S16384x2048_S2048x4096_S16384x4096_1_0_0_1_n_n none (extf .f32 X Cert.OzRefIdeal.Gen.bitsLt_bf16_f32) (extractStridedSlice Cert.OzRefIdeal.S2048x4096 ![0, 4096] (shapeCast _ W Cert.OzRefIdeal.Gen.shapeCasts_S1x2048x8224_S2048x8224) Cert.OzRefIdeal.Gen.slices_S2048x8224_S2048x4096_0_4096))

/-- The blocks that the windows of a point read and write. -/
theorem idx : ∀ t : Fin cfg0.N, win0_0.index t = ![t.val % 16, 0] ∧ win0_1.index t = ![t.val / 16 + 4, 0] ∧ win0_2.index t = ![t.val % 16, t.val / 16] :=
  (by decide +kernel : ∀ t : Fin grid0.N, _)

/-- An entry of the weight block of a column, as an entry of the weight array. -/
theorem tile (c : Dev nD) (t : Fin cfg0.N) (y : S1024x2048.Idx) (j : S1x2048x8224.Idx)
    (h1 : (j 1 : ℕ) = y 1) (h2 : (j 2 : ℕ) = 4096 + 1024 * (t.val / 16) + y 0) :
    X0_1 m c t y = m ((c : Thread nD τ).loc main_arg1) j := by
  unfold X0_1 Pipeline.Window.fill
  rw [dif_pos (moved0_1 t y)]
  blk_point [iblk, V, idx t]

/-- What a point writes is its block of the reference's function. -/
theorem point (c : Dev nD) (t t₀ : Fin cfg0.N) (ht : t₀.val = 16 * (t.val / 16)) (y : S1024x1024.Idx) :
    k0_pay2 (F := Ideal) (iblk m c 0 t) (half (X0_1 m c t₀)) y = REF (m ((c : Thread nD τ).loc main_arg0)) (m ((c : Thread nD τ).loc main_arg1)) (((cfg0.win 2).blk t).view.emb y) := by
  pointwise [k0_pay2, half, REF]
  refine (Cert.Sums.dot_scaled (n := 2048) _ _ _ half_nonneg half_ne_top).trans ?_
  refine congrArg (fun a : EReal => Ideal.ofBits .f32 0x3F000000#32 * a) ?_
  refine Fin.sum_fin_congr fun k => ?_
  refine congrArg₂ (· * ·) ?_ (tile m c t₀ _ _ ?_ ?_)
  · blk_point [iblk, V, idx t]
  · blk_simp [idx t]
  · blk_simp [idx t]
    show (4096 + (t.val / 16 * 1024 + (y 1 : ℕ))) = 4096 + 1024 * (t₀.val / 16) + y 1
    omega

/-- What a point writes: the product of its activations with its column's weight tile. -/
theorem outs (c : Dev nD) (t : Fin cfg0.N) :
    (outsAt0 m c t.val t.isLt).1 = k0_pay2 (F := Ideal) (iblk m c 0 t) (half (X0_1 m c ⟨16 * (t.val / 16), Pipeline.run_start_lt t⟩)) := by
  by_cases h : t.val % 16 = 0
  · have h1 := congrArg Prod.fst (outsAt0_A m c t h)
    dsimp only at h1
    rw [h1, out_A]
    have e : (⟨16 * (t.val / 16), Pipeline.run_start_lt t⟩ : Fin cfg0.N) = t := Fin.ext (by show 16 * (t.val / 16) = t.val; omega)
    rw [e]
  · have e := funext (held m c t)
    rw [outsAt0_B m c t h] at e
    have h1 := congrArg Prod.fst (outsAt0_B m c t h)
    dsimp only at h1
    unfold sout0_B_0 at e
    rw [h1, out_B, e]

/-- After the last point the result array is the reference's function. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2, outs]
  exact point m c t _ rfl y

end Cert.OzIdeal.Value
-- ==== Proof.NormValue.lean ====
module
public import proofs.«01_k».proof.Proof.Gen.NormIdeal.Frame
public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Value
open Cert.NormIdeal Cert.NormIdeal.Gen

variable (m : (ℓ : Loc nD τ sig) → Buf (Elt Ideal) ℓ)

/-- The rows of a block, each scaled to unit mean square and by the gain. -/
def normed (x : Vec Ideal S1024x2048 .f32) (g : Vec Ideal S1x2048 .f32) : Vec Ideal S1024x2048 .bf16 := fun y =>
  (x y * Ideal.rsqrt (Ideal.div (∑ k : Fin 2048, x (ix2 (y 0) k) * x (ix2 (y 0) k)) (Ideal.ofBits .f32 0x45000000#32) + Ideal.ofBits .f32 0x358637BD#32)
    * g (ix2 0 (y 1)) : EReal)

/-- One pass of the loop stores one band of 64 normalised rows. -/
theorem trip_pieces (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S1024x2048 .bf16) (harg3 : arg3.IsWhole) (g : Vec Ideal S1x2048 .f32) (x : Vec Ideal S1024x2048 .f32) (k : Fin k0_t1_loop.trips) :
    ∀ p ∈ tripL_k0_t1 (F := Ideal) 𝒱 c bd i arg1 harg1 arg2 harg2 arg3 harg3 g (harg1.unread x) k,
      ∀ z : p.1.shape.Idx, p.2 z = normed x g (p.1.emb z) := by
  unfold tripL_k0_t1 trip_k0_t1
  intro p hp z
  obtain rfl := List.mem_singleton.mp hp
  show k0_pay1 (F := Ideal) g _ z = _
  rw [View.readAt_eq_ld, harg1.read_unread]
  pointwise [k0_pay1, normed]
  refine congrArg₂ (fun a b : EReal => a * b) (congrArg₂ (fun a b : EReal => a * b) ?_
    (congrArg (fun s : EReal => Ideal.rsqrt (Ideal.div s (Ideal.ofBits .f32 0x45000000#32) + Ideal.ofBits .f32 0x358637BD#32))
      (Fin.sum_fin_congr fun q => congrArg (fun a : EReal => a * a) ?_))) ?_
  · blk_ext
  · have h0 : k0_off1 k 1 = 0 := rfl
    blk_ext
  · have h0 : k0_off1 k 1 = 0 := rfl
    blk_ext

/-- The bands stored by the first passes agree with the normalised block. -/
theorem loop_pieces (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S1024x2048 .bf16) (harg3 : arg3.IsWhole) (g : Vec Ideal S1x2048 .f32) (x : Vec Ideal S1024x2048 .f32) (n : ℕ) (hn : n ≤ k0_t1_loop.trips) :
    ∀ p ∈ pb_k0_t1 (F := Ideal) 𝒱 c bd i arg1 harg1 arg2 harg2 arg3 harg3 g (harg1.unread x) n,
      ∀ z : p.1.shape.Idx, p.2 z = normed x g (p.1.emb z) := by
  induction n with
  | zero => intro p hp; exact absurd hp List.not_mem_nil
  | succ n ih =>
    intro p hp
    have e := pb_k0_t1_succ (F := Ideal) 𝒱 c bd i arg1 harg1 arg2 harg2 arg3 harg3 g (harg1.unread x) ⟨n, hn⟩
    dsimp only at e
    rw [e] at hp
    rcases List.mem_append.mp hp with h | h
    · exact trip_pieces 𝒱 c bd i arg1 harg1 arg2 harg2 arg3 harg3 g x ⟨n, hn⟩ p h
    · exact ih (Nat.le_of_succ_le hn) p h

/-- A point leaves its block normalised. -/
theorem out_A (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1024x2048 .bf16) (harg3 : arg3.IsWhole) (x : Vec Ideal S1024x2048 .f32) (g : Vec Ideal S1x2048 .f32) (y : S1024x2048.Idx) :
    out0_A_2 (F := Ideal) c i arg1 harg1 arg2 harg2 arg3 harg3 x g y = normed x g y := by
  have hcov := cover0_A_2 (F := Ideal) c i arg1 harg1 arg2 harg2 arg3 harg3 x g y
  unfold out0_A_2
  rw [View.read_writes_junk_eq_canon]
  refine View.canon_apply_of_pieces (Val := Elt Ideal) (S := S1024x2048) (e := .bf16) (normed x g) _ ?_ y hcov
  have e : (arg2.view.readAt (Elt Ideal) (Rect.unit ![0, 0] S1x2048.size inb_S1x2048_S1x2048_0_0).toLoadRect (harg2.unread g)) = g := by
    rw [View.readAt_eq_ld, harg2.read_unread, View.ld_unit_zero (by decide)]
  have h := loop_pieces Variants.none c none i arg1 harg1 arg2 harg2 arg3 harg3 (arg2.view.readAt (Elt Ideal) (Rect.unit ![0, 0] S1x2048.size inb_S1x2048_S1x2048_0_0).toLoadRect (harg2.unread g)) x _ le_rfl
  intro p hp z
  exact (h p hp z).trans (by rw [e])

/-- The reference's function. -/
abbrev REF (X : FVec Ideal S8x2048x2048 .f32) (W : FVec Ideal S2x2048 .f32) : FVec Ideal S16384x2048 .bf16 :=
  truncf .bf16 (mulf (mulf (shapeCast _ X Cert.NormRefIdeal.Gen.shapeCasts_S8x2048x2048_S16384x2048) (broadcastInDim Cert.NormRefIdeal.S16384x2048 ![0, 1] Cert.NormRefIdeal.Gen.bcast_S16384x1_S16384x2048_0_1 (Host.rsqrt (addf (Host.divf (broadcastInDim Cert.NormRefIdeal.S16384x1 ![0] Cert.NormRefIdeal.Gen.bcast_S16384_S16384x1_0 (Host.reduceAdd (mulf (shapeCast _ X Cert.NormRefIdeal.Gen.shapeCasts_S8x2048x2048_S16384x2048) (shapeCast _ X Cert.NormRefIdeal.Gen.shapeCasts_S8x2048x2048_S16384x2048)) (constant Cert.NormRefIdeal.S_ .f32 0x00000000#32) Cert.NormRefIdeal.Gen.reducesTo_S16384x2048_S16384_d1 Cert.NormRefIdeal.Gen.h_S_)) (broadcastInDim Cert.NormRefIdeal.S16384x1 ![] Cert.NormRefIdeal.Gen.bcast_S_S16384x1 (constant Cert.NormRefIdeal.S_ .f32 0x45000000#32))) (broadcastInDim Cert.NormRefIdeal.S16384x1 ![] Cert.NormRefIdeal.Gen.bcast_S_S16384x1 (constant Cert.NormRefIdeal.S_ .f32 0x358637BD#32)))))) (broadcastInDim Cert.NormRefIdeal.S16384x2048 ![0, 1] Cert.NormRefIdeal.Gen.bcast_S1x2048_S16384x2048_0_1 (broadcastInDim Cert.NormRefIdeal.S1x2048 ![1] Cert.NormRefIdeal.Gen.bcast_S2048_S1x2048_1 (shapeCast _ (extractStridedSlice Cert.NormRefIdeal.S1x2048 ![0, 0] W Cert.NormRefIdeal.Gen.slices_S2x2048_S1x2048_0_0) Cert.NormRefIdeal.Gen.shapeCasts_S1x2048_S2048)))) Cert.NormRefIdeal.Gen.bitsLt_bf16_f32

/-- The blocks that the windows of a point read and write. -/
theorem idx : ∀ t : Fin cfg0.N, win0_0.index t = ![t.val, 0] ∧ win0_1.index t = ![0, 0] ∧ win0_2.index t = ![t.val, 0] :=
  (by decide +kernel : ∀ t : Fin grid0.N, _)

/-- An entry of the flattened activations. -/
theorem flat (X : FVec Ideal S8x2048x2048 .f32) (z : S16384x2048.Idx) (j : S8x2048x2048.Idx)
    (h0 : (j 0 : ℕ) * 2048 + (j 1 : ℕ) = z 0) (h1 : (j 2 : ℕ) = z 1) :
    shapeCast S16384x2048 X shapeCasts_S8x2048x2048_S16384x2048 z = X j := by
  have hj : (j 1 : ℕ) < 2048 := (j 1).isLt
  pointwise
  blk_ext

/-- Input window 0 holds rows of the flattened activations. -/
theorem rows (c : Dev nD) (t : Fin cfg0.N) (y : S1024x2048.Idx) (j : S8x2048x2048.Idx)
    (h0 : (j 0 : ℕ) * 2048 + (j 1 : ℕ) = t.val * 1024 + y 0) (h1 : (j 2 : ℕ) = y 1) :
    (show FVec Ideal S1024x2048 .f32 from iblk m c 0 t) y = m ((c : Thread nD τ).loc main_arg0) j := by
  unfold iblk
  entry_read
  refine flat (m ((c : Thread nD τ).loc main_arg0)) (((cfg0.win 0).blk t).view.emb y) j ?_ ?_ <;> blk_simp [idx t]
  · exact h0
  · exact h1

/-- Input window 1 holds the first row of the gains. -/
theorem gain (c : Dev nD) (t : Fin cfg0.N) (y : S1x2048.Idx) (j : S2x2048.Idx)
    (h0 : (j 0 : ℕ) = 0) (h1 : (j 1 : ℕ) = y 1) :
    (show FVec Ideal S1x2048 .f32 from iblk m c 1 t) y = m ((c : Thread nD τ).loc main_arg1) j := by
  unfold iblk
  entry_read
  show (broadcastInDim S1x2048 ![1] bcast_S2048_S1x2048_1 (shapeCast S2048
              (extractStridedSlice S1x2048 ![0, 0] (m (c, Proc.tc.devRef main_arg1)) slices_S2x2048_S1x2048_0_0)
              shapeCasts_S1x2048_S2048) : FVec Ideal S1x2048 .f32) (((cfg0.win 1).blk t).view.emb y) = _
  pointwise
  blk_ext [idx t]

/-- What a point writes is its block of the reference's function. -/
theorem point (c : Dev nD) (t : Fin cfg0.N) (y : S1024x2048.Idx) :
    normed (iblk m c 0 t) (iblk m c 1 t) y = REF (m ((c : Thread nD τ).loc main_arg0)) (m ((c : Thread nD τ).loc main_arg1)) (((cfg0.win 2).blk t).view.emb y) := by
  pointwise [normed, REF]
  refine congrArg₂ (fun a b : EReal => a * b) (congrArg₂ (fun a b : EReal => a * b) ?_
    (congrArg (fun s : EReal => Ideal.rsqrt (Ideal.div s (Ideal.ofBits .f32 0x45000000#32) + Ideal.ofBits .f32 0x358637BD#32))
      (Fin.sum_fin_congr fun q => congrArg (fun a : EReal => a * a) ?_))) ?_
  · refine rows m c t _ _ ?_ ?_ <;> blk_simp [idx t]
    exact Nat.div_add_mod' _ _
  · refine rows m c t _ _ ?_ ?_ <;> blk_simp [idx t]
    exact Nat.div_add_mod' _ _
  · refine gain m c t _ _ ?_ ?_ <;> blk_simp [idx t]
    rfl

/-- After the last point the result array is the reference's function. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  rw [out_A]
  exact point m c t y

end Cert.NormIdeal.Value
-- ==== Proof.OutOneValue.lean ====
module
public import proofs.«01_k».proof.Proof.Gen.OutOneIdeal.Frame
public import proofs.«01_k».proof.Proof.Gen.OutOneIdeal.Value
public import proofs.«01_k».proof.Proof.Gen.OutOneRefIdeal.Run
public import Idealize.ShloMosaic.Lib.Pipeline.ValueKit.Held
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutOneIdeal.Value
open Cert.OutOneIdeal Cert.OutOneIdeal.Gen

variable (m : (ℓ : Loc nD τ sig) → Buf (Elt Ideal) ℓ)

/-- The rows of the sum of two blocks, each scaled to unit mean square and by the gain. -/
def normed (x y : Vec Ideal S512x2048 .f32) (g : Vec Ideal S1x2048 .f32) : Vec Ideal S512x2048 .f32 := fun z =>
  ((x z + y z) * Ideal.rsqrt (Ideal.div (∑ k : Fin 2048, (x (ix2 (z 0) k) + y (ix2 (z 0) k)) * (x (ix2 (z 0) k) + y (ix2 (z 0) k))) (Ideal.ofBits .f32 0x45000000#32) + Ideal.ofBits .f32 0x358637BD#32)
    * g (ix2 0 (z 1)) : EReal)

/-- The product of a block of rows with the weight. -/
def prod (a : Vec Ideal S512x2048 .bf16) (w : Vec Ideal S2048x2048 .bf16) : Vec Ideal S512x2048 .f32 := fun z =>
  (∑ k : Fin 2048, a (ix2 (z 0) k) * w (ix2 k (z 1)) : EReal)

/-- One band of 64 normalised rows. -/
theorem band (arg3 : Memref sig .tc .vmem S512x2048 .f32) (harg3 : arg3.IsWhole) (arg6 : Memref sig .tc .vmem S512x2048 .f32) (harg6 : arg6.IsWhole) (arg4 : Memref sig .tc .vmem S1x2048 .f32) (harg4 : arg4.IsWhole) (x y : Vec Ideal S512x2048 .f32) (g : Vec Ideal S1x2048 .f32) (r : ℕ)
    (h : ∀ a : Fin 2, (![r, 0] : Fin 2 → ℕ) a + S64x2048.size a ≤ S512x2048.size a) (z : S64x2048.Idx) :
    k0_pay3 (F := Ideal) (k0_pay21 (arg4.view.readAt (Elt Ideal) (Rect.unit ![0, 0] S1x2048.size inb_S1x2048_S1x2048_0_0).toLoadRect (harg4.unread g)))
      (arg3.view.readAt (Elt Ideal) (Rect.unit (s := S512x2048) ![r, 0] S64x2048.size h).toLoadRect (harg3.unread x))
      (arg6.view.readAt (Elt Ideal) (Rect.unit (s := S512x2048) ![r, 0] S64x2048.size h).toLoadRect (harg6.unread y)) z
      = normed x y g ((Rect.unit (s := S512x2048) ![r, 0] S64x2048.size h).emb z) := by
  rw [View.readAt_eq_ld, View.readAt_eq_ld, View.readAt_eq_ld, harg4.read_unread, harg3.read_unread, harg6.read_unread, View.ld_unit_zero (by decide)]
  pointwise [k0_pay3, k0_pay21, normed]
  refine congrArg₂ (fun a b : EReal => a * b) (congrArg₂ (fun a b : EReal => a * b) (congrArg₂ (fun a b : EReal => a + b) ?_ ?_)
    (congrArg (fun s : EReal => Ideal.rsqrt (Ideal.div s (Ideal.ofBits .f32 0x45000000#32) + Ideal.ofBits .f32 0x358637BD#32))
      (Fin.sum_fin_congr fun q => congrArg (fun a : EReal => a * a) (congrArg₂ (fun a b : EReal => a + b) ?_ ?_)))) ?_
  all_goals blk_ext

/-- One band of 512 columns of the product. -/
theorem cols (arg1 : Memref sig .tc .vmem S512x2048 .bf16) (harg1 : arg1.IsWhole) (arg2 : Memref sig .tc .vmem S2048x2048 .bf16) (harg2 : arg2.IsWhole) (a : Vec Ideal S512x2048 .bf16) (w : Vec Ideal S2048x2048 .bf16) (r : ℕ)
    (h : ∀ a : Fin 2, (![0, r] : Fin 2 → ℕ) a + S2048x512.size a ≤ S2048x2048.size a) (h' : ∀ a : Fin 2, (![0, r] : Fin 2 → ℕ) a + S512x512.size a ≤ S512x2048.size a) (z : S512x512.Idx) :
    k0_pay19 (F := Ideal) (k0_pay5 (arg1.view.readAt (Elt Ideal) (Rect.unit ![0, 0] S512x2048.size inb_S512x2048_S512x2048_0_0).toLoadRect (harg1.unread a)))
      (arg2.view.readAt (Elt Ideal) (Rect.unit (s := S2048x2048) ![0, r] S2048x512.size h).toLoadRect (harg2.unread w)) z
      = prod a w ((Rect.unit (s := S512x2048) ![0, r] S512x512.size h').emb z) := by
  rw [View.readAt_eq_ld, View.readAt_eq_ld, harg1.read_unread, harg2.read_unread, View.ld_unit_zero (by decide)]
  pointwise [k0_pay19, k0_pay5, prod]
  refine Fin.sum_fin_congr fun k => congrArg₂ (fun a b : EReal => a * b) ?_ ?_
  all_goals blk_ext

/-- A point writes the block before, normalised over what the point before left. -/
theorem out_B (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (hc2 : cond0_2 i) (x0 : Vec Ideal S512x2048 .bf16) (x1 : Vec Ideal S2048x2048 .bf16) (x2 : Vec Ideal S512x2048 .f32) (x3 : Vec Ideal S1x2048 .f32) (xs0 : Vec Ideal S512x2048 .f32) (z : S512x2048.Idx) :
    out0_B_4 (F := Ideal) c i arg1 harg1 arg2 harg2 arg3 harg3 arg4 harg4 arg5 harg5 arg6 harg6 arg7 harg7 hc0 hc1 hc2 x0 x1 x2 x3 xs0 z = normed x2 xs0 x3 z := by
  have hcov := cover0_B_4 (F := Ideal) c i arg1 harg1 arg2 harg2 arg3 harg3 arg4 harg4 arg5 harg5 arg6 harg6 arg7 harg7 hc0 hc1 hc2 x0 x1 x2 x3 xs0 z
  unfold out0_B_4
  rw [View.read_writes_junk_eq_canon]
  refine View.canon_apply_of_pieces (Val := Elt Ideal) (S := S512x2048) (e := .f32) (normed x2 xs0 x3) _ ?_ z hcov
  unfold kernelRun0_B
  dsimp only
  intro p hp z
  simp only [List.mem_cons, List.not_mem_nil, or_false] at hp
  rcases hp with rfl | rfl | rfl | rfl | rfl | rfl | rfl | rfl <;>
    exact band arg3 harg3 arg6 harg6 arg4 harg4 x2 xs0 x3 _ _ z

/-- A point writes the block before, normalised over what the point before left. -/
theorem out_C (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (hc2 : ¬cond0_2 i) (x0 : Vec Ideal S512x2048 .bf16) (x1 : Vec Ideal S2048x2048 .bf16) (x2 : Vec Ideal S512x2048 .f32) (x3 : Vec Ideal S1x2048 .f32) (xs1 : Vec Ideal S512x2048 .f32) (z : S512x2048.Idx) :
    out0_C_4 (F := Ideal) c i arg1 harg1 arg2 harg2 arg3 harg3 arg4 harg4 arg5 harg5 arg6 harg6 arg7 harg7 hc0 hc1 hc2 x0 x1 x2 x3 xs1 z = normed x2 xs1 x3 z := by
  have hcov := cover0_C_4 (F := Ideal) c i arg1 harg1 arg2 harg2 arg3 harg3 arg4 harg4 arg5 harg5 arg6 harg6 arg7 harg7 hc0 hc1 hc2 x0 x1 x2 x3 xs1 z
  unfold out0_C_4
  rw [View.read_writes_junk_eq_canon]
  refine View.canon_apply_of_pieces (Val := Elt Ideal) (S := S512x2048) (e := .f32) (normed x2 xs1 x3) _ ?_ z hcov
  unfold kernelRun0_C
  dsimp only
  intro p hp z
  simp only [List.mem_cons, List.not_mem_nil, or_false] at hp
  rcases hp with rfl | rfl | rfl | rfl | rfl | rfl | rfl | rfl <;>
    exact band arg3 harg3 arg7 harg7 arg4 harg4 x2 xs1 x3 _ _ z

/-- A point leaves the product of its block of rows with the weight. -/
theorem left_A (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : cond0_1 i) (hc2 : ¬cond0_2 i) (x0 : Vec Ideal S512x2048 .bf16) (x1 : Vec Ideal S2048x2048 .bf16) (x2 : Vec Ideal S512x2048 .f32) (x3 : Vec Ideal S1x2048 .f32) (z : S512x2048.Idx) :
    sout0_A_0 (F := Ideal) c i arg1 harg1 arg2 harg2 arg3 harg3 arg4 harg4 arg5 harg5 arg6 harg6 arg7 harg7 hc0 hc1 hc2 x0 x1 x2 x3 z = prod x0 x1 z := by
  have hcov := scover0_A_0 (F := Ideal) c i arg1 harg1 arg2 harg2 arg3 harg3 arg4 harg4 arg5 harg5 arg6 harg6 arg7 harg7 hc0 hc1 hc2 x0 x1 x2 x3 z
  unfold sout0_A_0
  rw [View.read_writes_junk_eq_canon]
  refine View.canon_apply_of_pieces (Val := Elt Ideal) (S := S512x2048) (e := .f32) (prod x0 x1) _ ?_ z hcov
  unfold kernelRun0_A
  dsimp only
  intro p hp z
  simp only [List.mem_cons, List.not_mem_nil, or_false] at hp
  rcases hp with rfl | rfl | rfl | rfl
  · exact cols arg1 harg1 arg2 harg2 x0 x1 _ _ inb_S512x2048_S512x512_0_1536 z
  · exact cols arg1 harg1 arg2 harg2 x0 x1 _ _ inb_S512x2048_S512x512_0_1024 z
  · exact cols arg1 harg1 arg2 harg2 x0 x1 _ _ inb_S512x2048_S512x512_0_512 z
  · exact cols arg1 harg1 arg2 harg2 x0 x1 _ _ inb_S512x2048_S512x512_0_0 z

/-- A point leaves the product of its block of rows with the weight. -/
theorem left_C (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (hc2 : ¬cond0_2 i) (x0 : Vec Ideal S512x2048 .bf16) (x1 : Vec Ideal S2048x2048 .bf16) (x2 : Vec Ideal S512x2048 .f32) (x3 : Vec Ideal S1x2048 .f32) (xs1 : Vec Ideal S512x2048 .f32) (z : S512x2048.Idx) :
    sout0_C_0 (F := Ideal) c i arg1 harg1 arg2 harg2 arg3 harg3 arg4 harg4 arg5 harg5 arg6 harg6 arg7 harg7 hc0 hc1 hc2 x0 x1 x2 x3 xs1 z = prod x0 x1 z := by
  have hcov := scover0_C_0 (F := Ideal) c i arg1 harg1 arg2 harg2 arg3 harg3 arg4 harg4 arg5 harg5 arg6 harg6 arg7 harg7 hc0 hc1 hc2 x0 x1 x2 x3 xs1 z
  unfold sout0_C_0
  rw [View.read_writes_junk_eq_canon]
  refine View.canon_apply_of_pieces (Val := Elt Ideal) (S := S512x2048) (e := .f32) (prod x0 x1) _ ?_ z hcov
  unfold kernelRun0_C
  dsimp only
  intro p hp z
  simp only [List.mem_cons, List.not_mem_nil, or_false] at hp
  rcases hp with rfl | rfl | rfl | rfl
  · exact cols arg1 harg1 arg2 harg2 x0 x1 _ _ inb_S512x2048_S512x512_0_1536 z
  · exact cols arg1 harg1 arg2 harg2 x0 x1 _ _ inb_S512x2048_S512x512_0_1024 z
  · exact cols arg1 harg1 arg2 harg2 x0 x1 _ _ inb_S512x2048_S512x512_0_512 z
  · exact cols arg1 harg1 arg2 harg2 x0 x1 _ _ inb_S512x2048_S512x512_0_0 z

/-- A point leaves the product of its block of rows with the weight. -/
theorem left_B (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (hc2 : cond0_2 i) (x0 : Vec Ideal S512x2048 .bf16) (x1 : Vec Ideal S2048x2048 .bf16) (x2 : Vec Ideal S512x2048 .f32) (x3 : Vec Ideal S1x2048 .f32) (xs0 : Vec Ideal S512x2048 .f32) (z : S512x2048.Idx) :
    sout0_B_1 (F := Ideal) c i arg1 harg1 arg2 harg2 arg3 harg3 arg4 harg4 arg5 harg5 arg6 harg6 arg7 harg7 hc0 hc1 hc2 x0 x1 x2 x3 xs0 z = prod x0 x1 z := by
  have hcov := scover0_B_1 (F := Ideal) c i arg1 harg1 arg2 harg2 arg3 harg3 arg4 harg4 arg5 harg5 arg6 harg6 arg7 harg7 hc0 hc1 hc2 x0 x1 x2 x3 xs0 z
  unfold sout0_B_1
  rw [View.read_writes_junk_eq_canon]
  refine View.canon_apply_of_pieces (Val := Elt Ideal) (S := S512x2048) (e := .f32) (prod x0 x1) _ ?_ z hcov
  unfold kernelRun0_B
  dsimp only
  intro p hp z
  simp only [List.mem_cons, List.not_mem_nil, or_false] at hp
  rcases hp with rfl | rfl | rfl | rfl
  · exact cols arg1 harg1 arg2 harg2 x0 x1 _ _ inb_S512x2048_S512x512_0_1536 z
  · exact cols arg1 harg1 arg2 harg2 x0 x1 _ _ inb_S512x2048_S512x512_0_1024 z
  · exact cols arg1 harg1 arg2 harg2 x0 x1 _ _ inb_S512x2048_S512x512_0_512 z
  · exact cols arg1 harg1 arg2 harg2 x0 x1 _ _ inb_S512x2048_S512x512_0_0 z

/-- The residual plus the product. -/
abbrev BASE (A : FVec Ideal S8x2048x2048 .bf16) (W : FVec Ideal S1x2048x2048 .f32) (X : FVec Ideal S16384x2048 .f32) : FVec Ideal S16384x2048 .f32 :=
  addf X (Host.dotGeneral Cert.OutOneRefIdeal.dot_S16384x2048_S2048x2048_S16384x2048_1_0_0_1_n_n none (extf .f32 (shapeCast _ A Cert.OutOneRefIdeal.Gen.shapeCasts_S8x2048x2048_S16384x2048) Cert.OutOneRefIdeal.Gen.bitsLt_bf16_f32) (shapeCast _ W Cert.OutOneRefIdeal.Gen.shapeCasts_S1x2048x2048_S2048x2048))

/-- The reference's result of the four arrays. -/
abbrev REF (A : FVec Ideal S8x2048x2048 .bf16) (W : FVec Ideal S1x2048x2048 .f32) (X : FVec Ideal S16384x2048 .f32) (G : FVec Ideal S2048 .f32) : FVec Ideal S16384x2048 .f32 :=
  mulf (mulf (BASE A W X) (broadcastInDim Cert.OutOneRefIdeal.S16384x2048 ![0, 1] Cert.OutOneRefIdeal.Gen.bcast_S16384x1_S16384x2048_0_1 (Host.rsqrt (addf (Host.divf (broadcastInDim Cert.OutOneRefIdeal.S16384x1 ![0] Cert.OutOneRefIdeal.Gen.bcast_S16384_S16384x1_0 (Host.reduceAdd (mulf (BASE A W X) (BASE A W X)) (constant Cert.OutOneRefIdeal.S_ .f32 0x00000000#32) Cert.OutOneRefIdeal.Gen.reducesTo_S16384x2048_S16384_d1 Cert.OutOneRefIdeal.Gen.h_S_)) (broadcastInDim Cert.OutOneRefIdeal.S16384x1 ![] Cert.OutOneRefIdeal.Gen.bcast_S_S16384x1 (constant Cert.OutOneRefIdeal.S_ .f32 0x45000000#32))) (broadcastInDim Cert.OutOneRefIdeal.S16384x1 ![] Cert.OutOneRefIdeal.Gen.bcast_S_S16384x1 (constant Cert.OutOneRefIdeal.S_ .f32 0x358637BD#32)))))) (broadcastInDim Cert.OutOneRefIdeal.S16384x2048 ![0, 1] Cert.OutOneRefIdeal.Gen.bcast_S1x2048_S16384x2048_0_1 (broadcastInDim Cert.OutOneRefIdeal.S1x2048 ![1] Cert.OutOneRefIdeal.Gen.bcast_S2048_S1x2048_1 G))

/-- Where the blocks of a point lie. -/
theorem idx : ∀ t : Fin cfg0.N, win0_0.index t = ![min t.val 31, 0] ∧ win0_1.index t = ![0, 0] ∧ win0_2.index t = ![t.val - 1, 0] ∧ win0_3.index t = ![0, 0] ∧ win0_4.index t = ![t.val - 1, 0] :=
  (by decide +kernel : ∀ t : Fin grid0.N, _)

/-- No block leaves at the first point. -/
theorem flush_pos : ∀ t : Fin cfg0.N, (cfg0.win 4).flush t = true → t.val ≠ 0 :=
  (by decide +kernel : ∀ t : Fin grid0.N, _)

/-- An entry of the flattened activations. -/
theorem flat (X : FVec Ideal S8x2048x2048 .bf16) (z : S16384x2048.Idx) (j : S8x2048x2048.Idx)
    (h0 : (j 0 : ℕ) * 2048 + (j 1 : ℕ) = z 0) (h1 : (j 2 : ℕ) = z 1) :
    shapeCast S16384x2048 X shapeCasts_S8x2048x2048_S16384x2048 z = X j := by
  have hj : (j 1 : ℕ) < 2048 := (j 1).isLt
  pointwise
  blk_ext

/-- Input window 0 holds rows of the flattened activations. -/
theorem rows (c : Dev nD) (t : Fin cfg0.N) (y : S512x2048.Idx) (j : S8x2048x2048.Idx)
    (h0 : (j 0 : ℕ) * 2048 + (j 1 : ℕ) = min t.val 31 * 512 + y 0) (h1 : (j 2 : ℕ) = y 1) :
    (show FVec Ideal S512x2048 .bf16 from iblk m c 0 t) y = m ((c : Thread nD τ).loc main_arg0) j := by
  unfold iblk
  entry_read
  refine flat (m ((c : Thread nD τ).loc main_arg0)) (((cfg0.win 0).blk t).view.emb y) j ?_ ?_ <;> blk_simp [idx t]
  · exact h0
  · exact h1

/-- Input window 1 holds the weight. -/
theorem weight (c : Dev nD) (t : Fin cfg0.N) (y : S2048x2048.Idx) (j : S1x2048x2048.Idx)
    (h0 : (j 1 : ℕ) = y 0) (h1 : (j 2 : ℕ) = y 1) :
    (show FVec Ideal S2048x2048 .bf16 from iblk m c 1 t) y = m ((c : Thread nD τ).loc main_arg1) j := by
  blk_point [iblk, V, idx t]

/-- Input window 2 holds rows of the residual. -/
theorem residual (c : Dev nD) (t : Fin cfg0.N) (y : S512x2048.Idx) (j : S16384x2048.Idx)
    (h0 : (j 0 : ℕ) = (t.val - 1) * 512 + y 0) (h1 : (j 1 : ℕ) = y 1) :
    (show FVec Ideal S512x2048 .f32 from iblk m c 2 t) y = m ((c : Thread nD τ).loc main_arg2) j := by
  blk_point [iblk, V, idx t]

/-- Input window 3 holds the gain. -/
theorem gain (c : Dev nD) (t : Fin cfg0.N) (y : S1x2048.Idx) (j : S2048.Idx) (h : (j 0 : ℕ) = y 1) :
    (show FVec Ideal S1x2048 .f32 from iblk m c 3 t) y = m ((c : Thread nD τ).loc main_arg3) j := by
  blk_point [iblk, V, idx t]

/-- A point with an even number leaves its product in the first scratch. -/
theorem left_even (c : Dev nD) (t : Fin cfg0.N) (h : t.val % 2 = 0) :
    (outsAt0 m c t.val t.isLt).2.1 = prod (iblk m c 0 t) (iblk m c 1 t) := by
  by_cases h0 : t.val % 33 = 0
  · have h1 := congrArg (fun p => p.2.1) (outsAt0_A m c t h0 h (by omega))
    dsimp only at h1
    rw [h1]
    funext z
    exact left_A ..
  · have h1 := congrArg (fun p => p.2.1) (outsAt0_C m c t h0 h (by omega))
    dsimp only at h1
    rw [h1]
    funext z
    exact left_C ..

/-- A point with an odd number leaves its product in the second scratch. -/
theorem left_odd (c : Dev nD) (t : Fin cfg0.N) (h : t.val % 2 = 1) :
    (outsAt0 m c t.val t.isLt).2.2 = prod (iblk m c 0 t) (iblk m c 1 t) := by
  have hN : t.val < 33 := lt_of_lt_of_eq t.isLt (show cfg0.N = 33 from N_0)
  have h1 := congrArg (fun p => p.2.2) (outsAt0_B m c t (by omega) (by omega) h)
  dsimp only at h1
  rw [h1]
  funext z
  exact left_B ..

/-- A point after the first writes the block before, normalised over the product of the point before. -/
theorem outs (c : Dev nD) (t : Fin cfg0.N) (ht : t.val ≠ 0) (z : S512x2048.Idx) :
    (outsAt0 m c t.val t.isLt).1 z = normed (iblk m c 2 t)
      (prod (iblk m c 0 ⟨t.val - 1, Nat.lt_of_le_of_lt (Nat.sub_le _ _) t.isLt⟩) (iblk m c 1 ⟨t.val - 1, Nat.lt_of_le_of_lt (Nat.sub_le _ _) t.isLt⟩)) (iblk m c 3 t) z := by
  have hN : t.val < 33 := lt_of_lt_of_eq t.isLt (show cfg0.N = 33 from N_0)
  by_cases h : t.val % 2 = 0
  · have h1 := congrArg Prod.fst (outsAt0_C m c t (by omega) h (by omega))
    dsimp only at h1
    rw [h1, out_C, left_odd m c ⟨t.val - 1, Nat.lt_of_le_of_lt (Nat.sub_le _ _) t.isLt⟩ (by show (t.val - 1) % 2 = 1; omega)]
  · have h1 := congrArg Prod.fst (outsAt0_B m c t (by omega) h (by omega))
    dsimp only at h1
    rw [h1, out_B, left_even m c ⟨t.val - 1, Nat.lt_of_le_of_lt (Nat.sub_le _ _) t.isLt⟩ (by show (t.val - 1) % 2 = 0; omega)]

/-- The residual plus the product, at a row of a block. -/
theorem sum (c : Dev nD) (t t' : Fin cfg0.N) (h : t'.val + 1 = t.val) (y : S512x2048.Idx) (j : S16384x2048.Idx)
    (h0 : (j 0 : ℕ) = (t.val - 1) * 512 + y 0) (h1 : (j 1 : ℕ) = y 1) :
    ((show FVec Ideal S512x2048 .f32 from iblk m c 2 t) y + prod (iblk m c 0 t') (iblk m c 1 t') y : EReal)
      = BASE (m ((c : Thread nD τ).loc main_arg0)) (m ((c : Thread nD τ).loc main_arg1)) (m ((c : Thread nD τ).loc main_arg2)) j := by
  have hN : t.val < 33 := lt_of_lt_of_eq t.isLt (show cfg0.N = 33 from N_0)
  pointwise [prod, BASE]
  refine congrArg₂ (fun a b : EReal => a + b) (residual m c t _ _ h0 h1) (Fin.sum_fin_congr fun k => congrArg₂ (fun a b : EReal => a * b) (rows m c t' _ _ ?_ ?_) (weight m c t' _ _ ?_ ?_))
  · refine (Nat.div_add_mod' _ _).trans ?_
    rw [h0]
    show (t.val - 1) * 512 + _ = min t'.val 31 * 512 + _
    rw [show min t'.val 31 = t.val - 1 by omega]
    rfl
  · blk_simp
  · blk_simp
  · blk_simp [h1]

/-- A point writes its block of the reference's result. -/
theorem point (c : Dev nD) (t t' : Fin cfg0.N) (h : t'.val + 1 = t.val) (y : S512x2048.Idx) :
    normed (iblk m c 2 t) (prod (iblk m c 0 t') (iblk m c 1 t')) (iblk m c 3 t) y
      = REF (m ((c : Thread nD τ).loc main_arg0)) (m ((c : Thread nD τ).loc main_arg1)) (m ((c : Thread nD τ).loc main_arg2)) (m ((c : Thread nD τ).loc main_arg3)) (((cfg0.win 4).blk t).view.emb y) := by
  have e := sum m c t t' h
  unfold REF
  generalize BASE _ _ _ = B at e ⊢
  pointwise [normed]
  refine congrArg₂ (fun a b : EReal => a * b) (congrArg₂ (fun a b : EReal => a * b) (e _ _ ?_ ?_)
    (congrArg (fun s : EReal => Ideal.rsqrt (Ideal.div s (Ideal.ofBits .f32 0x45000000#32) + Ideal.ofBits .f32 0x358637BD#32))
      (Fin.sum_fin_congr fun q => congrArg (fun a : EReal => a * a) (e _ _ ?_ ?_)))) (gain m c t _ _ ?_)
  all_goals blk_simp [idx t]

/-- The result array ends at the reference's. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have ht := flush_pos t hf
  rw [outs m c t ht]
  exact point m c t _ (Nat.succ_pred_eq_of_ne_zero ht) y

end Cert.OutOneIdeal.Value
-- ==== Proof.OutZeroValue.lean ====
module
public import proofs.«01_k».proof.Proof.Gen.OutZeroIdeal.Frame
public import proofs.«01_k».proof.Proof.Gen.OutZeroIdeal.Value
public import proofs.«01_k».proof.Proof.Gen.OutZeroRefIdeal.Run
public import Idealize.ShloMosaic.Lib.Pipeline.ValueKit.Held
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutZeroIdeal.Value
open Cert.OutZeroIdeal Cert.OutZeroIdeal.Gen

variable (m : (ℓ : Loc nD τ sig) → Buf (Elt Ideal) ℓ)

/-- The rows of a block, scaled to unit mean square and by the gain. -/
def normed (x : Vec Ideal S512x2048 .f32) (g : Vec Ideal S1x2048 .f32) : Vec Ideal S512x2048 .bf16 := fun z =>
  (x z * Ideal.rsqrt (Ideal.div (∑ k : Fin 2048, x (ix2 (z 0) k) * x (ix2 (z 0) k)) (Ideal.ofBits .f32 0x45000000#32) + Ideal.ofBits .f32 0x358637BD#32)
    * g (ix2 0 (z 1)) : EReal)

/-- The sum of two blocks. -/
def plus (x y : Vec Ideal S512x2048 .f32) : Vec Ideal S512x2048 .f32 := fun z => (x z + y z : EReal)

/-- The gates of a block of rows, one row of `w` to a gate. -/
def gates (w : Vec Ideal S32x2048 .bf16) (h : Vec Ideal S512x2048 .bf16) : Vec Ideal S32x512 .f32 := fun z =>
  (∑ k : Fin 2048, w (ix2 (z 0) k) * h (ix2 (z 1) k) : EReal)

/-- The rows of two blocks side by side. -/
def pair (a b : Vec Ideal S512x1024 .bf16) : Vec Ideal S512x2048 .bf16 :=
  concatenate S512x2048 1 [⟨S512x1024, a⟩, ⟨S512x1024, b⟩] concatenates_S512x1024_S512x1024_S512x2048_d1

/-- The product of a block of rows with the weight. -/
def prod (a : Vec Ideal S512x2048 .bf16) (w : Vec Ideal S2048x2048 .bf16) : Vec Ideal S512x2048 .f32 := fun z =>
  (∑ k : Fin 2048, a (ix2 (z 0) k) * w (ix2 k (z 1)) : EReal)

/-- One band of 64 rows of the sum. -/
theorem sums (arg4 : Memref sig .tc .vmem S512x2048 .f32) (harg4 : arg4.IsWhole) (arg10 : Memref sig .tc .vmem S512x2048 .f32) (harg10 : arg10.IsWhole) (x y : Vec Ideal S512x2048 .f32) (r : ℕ)
    (h : ∀ a : Fin 2, (![r, 0] : Fin 2 → ℕ) a + S64x2048.size a ≤ S512x2048.size a) (z : S64x2048.Idx) :
    k0_pay34 (F := Ideal) (arg4.view.readAt (Elt Ideal) (Rect.unit (s := S512x2048) ![r, 0] S64x2048.size h).toLoadRect (harg4.unread x))
      (arg10.view.readAt (Elt Ideal) (Rect.unit (s := S512x2048) ![r, 0] S64x2048.size h).toLoadRect (harg10.unread y)) z
      = plus x y ((Rect.unit (s := S512x2048) ![r, 0] S64x2048.size h).emb z) := by
  rw [View.readAt_eq_ld, View.readAt_eq_ld, harg4.read_unread, harg10.read_unread]
  pointwise [k0_pay34, plus]
  refine congrArg₂ (fun a b : EReal => a + b) ?_ ?_
  all_goals blk_ext

/-- One band of 64 normalised rows. -/
theorem band (arg4 : Memref sig .tc .vmem S512x2048 .f32) (harg4 : arg4.IsWhole) (arg10 : Memref sig .tc .vmem S512x2048 .f32) (harg10 : arg10.IsWhole) (arg5 : Memref sig .tc .vmem S1x2048 .f32) (harg5 : arg5.IsWhole) (x y : Vec Ideal S512x2048 .f32) (g : Vec Ideal S1x2048 .f32) (r : ℕ)
    (h : ∀ a : Fin 2, (![r, 0] : Fin 2 → ℕ) a + S64x2048.size a ≤ S512x2048.size a) (z : S64x2048.Idx) :
    k0_pay35 (F := Ideal) (arg5.view.readAt (Elt Ideal) (Rect.unit ![0, 0] S1x2048.size inb_S1x2048_S1x2048_0_0).toLoadRect (harg5.unread g))
      (arg4.view.readAt (Elt Ideal) (Rect.unit (s := S512x2048) ![r, 0] S64x2048.size h).toLoadRect (harg4.unread x))
      (arg10.view.readAt (Elt Ideal) (Rect.unit (s := S512x2048) ![r, 0] S64x2048.size h).toLoadRect (harg10.unread y)) z
      = normed (plus x y) g ((Rect.unit (s := S512x2048) ![r, 0] S64x2048.size h).emb z) := by
  rw [View.readAt_eq_ld, View.readAt_eq_ld, View.readAt_eq_ld, harg4.read_unread, harg10.read_unread, harg5.read_unread, View.ld_unit_zero (by decide)]
  pointwise [k0_pay35, k0_pay34, k0_pay31, normed, plus]
  refine congrArg₂ (fun a b : EReal => a * b) (congrArg₂ (fun a b : EReal => a * b) (congrArg₂ (fun a b : EReal => a + b) ?_ ?_)
    (congrArg (fun s : EReal => Ideal.rsqrt (Ideal.div s (Ideal.ofBits .f32 0x45000000#32) + Ideal.ofBits .f32 0x358637BD#32))
      (Fin.sum_fin_congr fun q => congrArg (fun a : EReal => a * a) (congrArg₂ (fun a b : EReal => a + b) ?_ ?_)))) ?_
  all_goals blk_ext

/-- Two stored bands of 64 rows, read back as one of 128 rows. -/
theorem back (arg8 : Memref sig .tc .vmem S512x2048 .bf16) (harg8 : arg8.IsWhole) (N : Vec Ideal S512x2048 .bf16) (r r' : ℕ) (hr : r' = r + 64)
    (h : ∀ a : Fin 2, (![r, 0] : Fin 2 → ℕ) a + S64x2048.size a ≤ S512x2048.size a) (h' : ∀ a : Fin 2, (![r', 0] : Fin 2 → ℕ) a + S64x2048.size a ≤ S512x2048.size a)
    (h₂ : ∀ a : Fin 2, (![r, 0] : Fin 2 → ℕ) a + S128x2048.size a ≤ S512x2048.size a)
    (w w' : S64x2048.Idx → Elt Ideal .bf16) (L : List (View.Piece (Elt Ideal) S512x2048 .bf16))
    (hL : ∀ p ∈ (⟨Rect.unit (s := S512x2048) ![r', 0] S64x2048.size h', w'⟩ :: ⟨Rect.unit (s := S512x2048) ![r, 0] S64x2048.size h, w⟩ :: L : List (View.Piece (Elt Ideal) S512x2048 .bf16)), ∀ z, p.2 z = N (p.1.emb z)) :
    arg8.view.readCov (⟨Rect.unit (s := S512x2048) ![r', 0] S64x2048.size h', w'⟩ :: ⟨Rect.unit (s := S512x2048) ![r, 0] S64x2048.size h, w⟩ :: L) (Rect.unit (s := S512x2048) ![r, 0] S128x2048.size h₂).toLoadRect
      = View.ld N (Rect.unit (s := S512x2048) ![r, 0] S128x2048.size h₂) := by
  have hc : ∀ y : S128x2048.Idx, ∃ p ∈ (⟨Rect.unit (s := S512x2048) ![r', 0] S64x2048.size h', w'⟩ :: ⟨Rect.unit (s := S512x2048) ![r, 0] S64x2048.size h, w⟩ :: L : List (View.Piece (Elt Ideal) S512x2048 .bf16)),
      (Rect.unit (s := S512x2048) ![r, 0] S128x2048.size h₂).toLoadRect.idx y ∈ p.1.set := by
    intro y
    have hy : (y 0 : ℕ) < 128 := (y 0).isLt
    have hy1 : (y 1 : ℕ) < 2048 := (y 1).isLt
    have e0 : ((Rect.unit (s := S512x2048) ![r, 0] S128x2048.size h₂).toLoadRect.idx y 0 : ℕ) = r + 1 * (y 0 : ℕ) := rfl
    have e1 : ((Rect.unit (s := S512x2048) ![r, 0] S128x2048.size h₂).toLoadRect.idx y 1 : ℕ) = 0 + 1 * (y 1 : ℕ) := rfl
    by_cases h0 : (y 0 : ℕ) < 64
    · refine ⟨_, List.mem_cons_of_mem _ List.mem_cons_self, (Rect.mem_set_unit (inb := h)).mpr fun a => ?_⟩
      match a with
      | 0 => constructor <;> blk_simp <;> omega
      | 1 => constructor <;> blk_simp <;> omega
    · refine ⟨_, List.mem_cons_self, (Rect.mem_set_unit (inb := h')).mpr fun a => ?_⟩
      match a with
      | 0 => constructor <;> blk_simp <;> omega
      | 1 => constructor <;> blk_simp <;> omega
  rw [View.readCov_eq_canon _ _ _ hc]
  funext y
  exact View.canon_apply_of_pieces N _ hL _ (hc y)

/-- One band of 128 columns of the gates. -/
theorem gate (arg6 : Memref sig .tc .vmem S32x2048 .bf16) (harg6 : arg6.IsWhole) (w : Vec Ideal S32x2048 .bf16) (N : Vec Ideal S512x2048 .bf16) (r : ℕ)
    (h : ∀ a : Fin 2, (![r, 0] : Fin 2 → ℕ) a + S128x2048.size a ≤ S512x2048.size a) (h' : ∀ a : Fin 2, (![0, r] : Fin 2 → ℕ) a + S32x128.size a ≤ S32x512.size a) (z : S32x128.Idx)
    (b : Vec Ideal S128x2048 .bf16) (hb : b = View.ld N (Rect.unit (s := S512x2048) ![r, 0] S128x2048.size h)) :
    k0_pay3 (F := Ideal) (arg6.view.readAt (Elt Ideal) (Rect.unit ![0, 0] S32x2048.size inb_S32x2048_S32x2048_0_0).toLoadRect (harg6.unread w)) b z
      = gates w N ((Rect.unit (s := S32x512) ![0, r] S32x128.size h').emb z) := by
  subst hb
  rw [View.readAt_eq_ld, harg6.read_unread, View.ld_unit_zero (by decide)]
  pointwise [k0_pay3, gates]
  refine Fin.sum_fin_congr fun k => congrArg₂ (fun a b : EReal => a * b) ?_ ?_
  all_goals blk_ext

/-- One band of 512 columns of the product. -/
theorem cols (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (a b : Vec Ideal S512x1024 .bf16) (w : Vec Ideal S2048x2048 .bf16) (r : ℕ)
    (h : ∀ a : Fin 2, (![0, r] : Fin 2 → ℕ) a + S2048x512.size a ≤ S2048x2048.size a) (h' : ∀ a : Fin 2, (![0, r] : Fin 2 → ℕ) a + S512x512.size a ≤ S512x2048.size a) (z : S512x512.Idx) :
    k0_pay33 (F := Ideal) (arg1.view.readAt (Elt Ideal) (Rect.unit ![0, 0] S512x1024.size inb_S512x1024_S512x1024_0_0).toLoadRect (harg1.unread a))
      (arg2.view.readAt (Elt Ideal) (Rect.unit ![0, 0] S512x1024.size inb_S512x1024_S512x1024_0_0).toLoadRect (harg2.unread b))
      (arg3.view.readAt (Elt Ideal) (Rect.unit (s := S2048x2048) ![0, r] S2048x512.size h).toLoadRect (harg3.unread w)) z
      = prod (pair a b) w ((Rect.unit (s := S512x2048) ![0, r] S512x512.size h').emb z) := by
  rw [View.readAt_eq_ld, View.readAt_eq_ld, View.readAt_eq_ld, harg1.read_unread, harg2.read_unread, harg3.read_unread, View.ld_unit_zero (by decide), View.ld_unit_zero (by decide)]
  have e : k0_pay32 (F := Ideal) a b = pair a b := by
    unfold k0_pay32 pair
    rw [shapeCast_self, shapeCast_self]
  unfold k0_pay33
  rw [e]
  generalize pair a b = p
  pointwise [prod]
  refine Fin.sum_fin_congr fun k => congrArg₂ (fun a b : EReal => a * b) ?_ ?_
  all_goals blk_ext

/-- A point writes the residual plus what the point before left. -/
theorem out_B_6 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i) (hc2 : cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs0 : Vec Ideal S512x2048 .f32) (z : S512x2048.Idx) :
    out0_B_6 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z = plus x3 xs0 z := by
  have hcov := cover0_B_6 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z
  unfold out0_B_6
  rw [View.read_writes_junk_eq_canon]
  refine View.canon_apply_of_pieces (Val := Elt Ideal) (S := S512x2048) (e := .f32) (plus x3 xs0) _ ?_ z hcov
  unfold kernelRun0_B
  dsimp only
  intro p hp z
  simp only [List.mem_cons, List.not_mem_nil, or_false] at hp
  rcases hp with rfl | rfl | rfl | rfl | rfl | rfl | rfl | rfl <;>
    exact sums arg4 harg4 arg10 harg10 x3 xs0 _ _ z

/-- Every band of rows stored in output window 7 is that band of the normalised sum. -/
theorem norms_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i) (hc2 : cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs0 : Vec Ideal S512x2048 .f32) :
    ∀ p ∈ (kernelRun0_B (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0).2.1, ∀ z, p.2 z = normed (plus x3 xs0) x4 (p.1.emb z) := by
  unfold kernelRun0_B
  dsimp only
  unfold kernelRun0_B.sl.H7_8 kernelRun0_B.sl.H7_6 kernelRun0_B.sl.H7_4 kernelRun0_B.sl.H7_2
  intro p hp z
  simp only [List.mem_cons, List.not_mem_nil, or_false] at hp
  rcases hp with rfl | rfl | rfl | rfl | rfl | rfl | rfl | rfl <;>
    exact band arg4 harg4 arg10 harg10 arg5 harg5 x3 xs0 x4 _ _ z

/-- A point writes the normalised sum. -/
theorem out_B_7 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i) (hc2 : cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs0 : Vec Ideal S512x2048 .f32) (z : S512x2048.Idx) :
    out0_B_7 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z = normed (plus x3 xs0) x4 z := by
  have hcov := cover0_B_7 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z
  unfold out0_B_7
  rw [View.read_writes_junk_eq_canon]
  refine View.canon_apply_of_pieces (Val := Elt Ideal) (S := S512x2048) (e := .bf16) (normed (plus x3 xs0) x4) _ (norms_B c i arg1 harg1 arg2 harg2 arg3 harg3 arg4 harg4 arg5 harg5 arg6 harg6 arg7 harg7 arg8 harg8 arg9 harg9 arg10 harg10 arg11 harg11 hc0 hc1 hc2 x0 x1 x2 x3 x4 x5 xs0) z hcov

/-- A point writes the gates of the normalised sum. -/
theorem out_B_8 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i) (hc2 : cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs0 : Vec Ideal S512x2048 .f32) (z : S32x512.Idx) :
    out0_B_8 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z = gates x5 (normed (plus x3 xs0) x4) z := by
  have hcov := cover0_B_8 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z
  have hn := norms_B c i arg1 harg1 arg2 harg2 arg3 harg3 arg4 harg4 arg5 harg5 arg6 harg6 arg7 harg7 arg8 harg8 arg9 harg9 arg10 harg10 arg11 harg11 hc0 hc1 hc2 x0 x1 x2 x3 x4 x5 xs0
  unfold out0_B_8
  rw [View.read_writes_junk_eq_canon]
  refine View.canon_apply_of_pieces (Val := Elt Ideal) (S := S32x512) (e := .f32) (gates x5 (normed (plus x3 xs0) x4)) _ ?_ z hcov
  unfold kernelRun0_B at hn ⊢
  dsimp only at hn ⊢
  intro p hp z
  simp only [List.mem_cons, List.not_mem_nil, or_false] at hp
  rcases hp with rfl | rfl | rfl | rfl
  · exact gate arg6 harg6 x5 _ 384 inb_S512x2048_S128x2048_384_0 inb_S32x512_S32x128_0_384 z _ (back arg8 harg8 (normed (plus x3 xs0) x4) 384 448 rfl _ _ _ _ _ _ (hn))
  · exact gate arg6 harg6 x5 _ 256 inb_S512x2048_S128x2048_256_0 inb_S32x512_S32x128_0_256 z _ (back arg8 harg8 (normed (plus x3 xs0) x4) 256 320 rfl _ _ _ _ _ _ (fun p hp => hn p (List.mem_cons_of_mem _ (List.mem_cons_of_mem _ (hp)))))
  · exact gate arg6 harg6 x5 _ 128 inb_S512x2048_S128x2048_128_0 inb_S32x512_S32x128_0_128 z _ (back arg8 harg8 (normed (plus x3 xs0) x4) 128 192 rfl _ _ _ _ _ _ (fun p hp => hn p (List.mem_cons_of_mem _ (List.mem_cons_of_mem _ (List.mem_cons_of_mem _ (List.mem_cons_of_mem _ (hp)))))))
  · exact gate arg6 harg6 x5 _ 0 inb_S512x2048_S128x2048_0_0 inb_S32x512_S32x128_0_0 z _ (back arg8 harg8 (normed (plus x3 xs0) x4) 0 64 rfl _ _ _ _ _ _ (fun p hp => hn p (List.mem_cons_of_mem _ (List.mem_cons_of_mem _ (List.mem_cons_of_mem _ (List.mem_cons_of_mem _ (List.mem_cons_of_mem _ (List.mem_cons_of_mem _ (hp)))))))))

/-- A point writes the residual plus what the point before left. -/
theorem out_C_6 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (hc2 : ¬cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs1 : Vec Ideal S512x2048 .f32) (z : S512x2048.Idx) :
    out0_C_6 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z = plus x3 xs1 z := by
  have hcov := cover0_C_6 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z
  unfold out0_C_6
  rw [View.read_writes_junk_eq_canon]
  refine View.canon_apply_of_pieces (Val := Elt Ideal) (S := S512x2048) (e := .f32) (plus x3 xs1) _ ?_ z hcov
  unfold kernelRun0_C
  dsimp only
  intro p hp z
  simp only [List.mem_cons, List.not_mem_nil, or_false] at hp
  rcases hp with rfl | rfl | rfl | rfl | rfl | rfl | rfl | rfl <;>
    exact sums arg4 harg4 arg11 harg11 x3 xs1 _ _ z

/-- Every band of rows stored in output window 7 is that band of the normalised sum. -/
theorem norms_C (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (hc2 : ¬cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs1 : Vec Ideal S512x2048 .f32) :
    ∀ p ∈ (kernelRun0_C (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1).2.1, ∀ z, p.2 z = normed (plus x3 xs1) x4 (p.1.emb z) := by
  unfold kernelRun0_C
  dsimp only
  unfold kernelRun0_C.sl.H7_8 kernelRun0_C.sl.H7_6 kernelRun0_C.sl.H7_4 kernelRun0_C.sl.H7_2
  intro p hp z
  simp only [List.mem_cons, List.not_mem_nil, or_false] at hp
  rcases hp with rfl | rfl | rfl | rfl | rfl | rfl | rfl | rfl <;>
    exact band arg4 harg4 arg11 harg11 arg5 harg5 x3 xs1 x4 _ _ z

/-- A point writes the normalised sum. -/
theorem out_C_7 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (hc2 : ¬cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs1 : Vec Ideal S512x2048 .f32) (z : S512x2048.Idx) :
    out0_C_7 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z = normed (plus x3 xs1) x4 z := by
  have hcov := cover0_C_7 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z
  unfold out0_C_7
  rw [View.read_writes_junk_eq_canon]
  refine View.canon_apply_of_pieces (Val := Elt Ideal) (S := S512x2048) (e := .bf16) (normed (plus x3 xs1) x4) _ (norms_C c i arg1 harg1 arg2 harg2 arg3 harg3 arg4 harg4 arg5 harg5 arg6 harg6 arg7 harg7 arg8 harg8 arg9 harg9 arg10 harg10 arg11 harg11 hc0 hc1 hc2 x0 x1 x2 x3 x4 x5 xs1) z hcov

/-- A point writes the gates of the normalised sum. -/
theorem out_C_8 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (hc2 : ¬cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs1 : Vec Ideal S512x2048 .f32) (z : S32x512.Idx) :
    out0_C_8 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z = gates x5 (normed (plus x3 xs1) x4) z := by
  have hcov := cover0_C_8 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z
  have hn := norms_C c i arg1 harg1 arg2 harg2 arg3 harg3 arg4 harg4 arg5 harg5 arg6 harg6 arg7 harg7 arg8 harg8 arg9 harg9 arg10 harg10 arg11 harg11 hc0 hc1 hc2 x0 x1 x2 x3 x4 x5 xs1
  unfold out0_C_8
  rw [View.read_writes_junk_eq_canon]
  refine View.canon_apply_of_pieces (Val := Elt Ideal) (S := S32x512) (e := .f32) (gates x5 (normed (plus x3 xs1) x4)) _ ?_ z hcov
  unfold kernelRun0_C at hn ⊢
  dsimp only at hn ⊢
  intro p hp z
  simp only [List.mem_cons, List.not_mem_nil, or_false] at hp
  rcases hp with rfl | rfl | rfl | rfl
  · exact gate arg6 harg6 x5 _ 384 inb_S512x2048_S128x2048_384_0 inb_S32x512_S32x128_0_384 z _ (back arg8 harg8 (normed (plus x3 xs1) x4) 384 448 rfl _ _ _ _ _ _ (hn))
  · exact gate arg6 harg6 x5 _ 256 inb_S512x2048_S128x2048_256_0 inb_S32x512_S32x128_0_256 z _ (back arg8 harg8 (normed (plus x3 xs1) x4) 256 320 rfl _ _ _ _ _ _ (fun p hp => hn p (List.mem_cons_of_mem _ (List.mem_cons_of_mem _ (hp)))))
  · exact gate arg6 harg6 x5 _ 128 inb_S512x2048_S128x2048_128_0 inb_S32x512_S32x128_0_128 z _ (back arg8 harg8 (normed (plus x3 xs1) x4) 128 192 rfl _ _ _ _ _ _ (fun p hp => hn p (List.mem_cons_of_mem _ (List.mem_cons_of_mem _ (List.mem_cons_of_mem _ (List.mem_cons_of_mem _ (hp)))))))
  · exact gate arg6 harg6 x5 _ 0 inb_S512x2048_S128x2048_0_0 inb_S32x512_S32x128_0_0 z _ (back arg8 harg8 (normed (plus x3 xs1) x4) 0 64 rfl _ _ _ _ _ _ (fun p hp => hn p (List.mem_cons_of_mem _ (List.mem_cons_of_mem _ (List.mem_cons_of_mem _ (List.mem_cons_of_mem _ (List.mem_cons_of_mem _ (List.mem_cons_of_mem _ (hp)))))))))

/-- A point leaves the product of its block of rows with the weight. -/
theorem left_A (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : cond0_0 i) (hc1 : cond0_1 i) (hc2 : ¬cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (z : S512x2048.Idx) :
    sout0_A_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 z = prod (pair x0 x1) x2 z := by
  have hcov := scover0_A_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 z
  unfold sout0_A_0
  rw [View.read_writes_junk_eq_canon]
  refine View.canon_apply_of_pieces (Val := Elt Ideal) (S := S512x2048) (e := .f32) (prod (pair x0 x1) x2) _ ?_ z hcov
  unfold kernelRun0_A
  dsimp only
  intro p hp z
  simp only [List.mem_cons, List.not_mem_nil, or_false] at hp
  rcases hp with rfl | rfl | rfl | rfl
  · exact cols arg1 harg1 arg2 harg2 arg3 harg3 x0 x1 x2 _ _ inb_S512x2048_S512x512_0_1536 z
  · exact cols arg1 harg1 arg2 harg2 arg3 harg3 x0 x1 x2 _ _ inb_S512x2048_S512x512_0_1024 z
  · exact cols arg1 harg1 arg2 harg2 arg3 harg3 x0 x1 x2 _ _ inb_S512x2048_S512x512_0_512 z
  · exact cols arg1 harg1 arg2 harg2 arg3 harg3 x0 x1 x2 _ _ inb_S512x2048_S512x512_0_0 z

/-- A point leaves the product of its block of rows with the weight. -/
theorem left_C (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i) (hc2 : ¬cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs1 : Vec Ideal S512x2048 .f32) (z : S512x2048.Idx) :
    sout0_C_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z = prod (pair x0 x1) x2 z := by
  have hcov := scover0_C_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs1 z
  unfold sout0_C_0
  rw [View.read_writes_junk_eq_canon]
  refine View.canon_apply_of_pieces (Val := Elt Ideal) (S := S512x2048) (e := .f32) (prod (pair x0 x1) x2) _ ?_ z hcov
  unfold kernelRun0_C
  dsimp only
  intro p hp z
  simp only [List.mem_cons, List.not_mem_nil, or_false] at hp
  rcases hp with rfl | rfl | rfl | rfl
  · exact cols arg1 harg1 arg2 harg2 arg3 harg3 x0 x1 x2 _ _ inb_S512x2048_S512x512_0_1536 z
  · exact cols arg1 harg1 arg2 harg2 arg3 harg3 x0 x1 x2 _ _ inb_S512x2048_S512x512_0_1024 z
  · exact cols arg1 harg1 arg2 harg2 arg3 harg3 x0 x1 x2 _ _ inb_S512x2048_S512x512_0_512 z
  · exact cols arg1 harg1 arg2 harg2 arg3 harg3 x0 x1 x2 _ _ inb_S512x2048_S512x512_0_0 z

/-- A point leaves the product of its block of rows with the weight. -/
theorem left_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S32x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S32x512 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i) (hc2 : cond0_2 i) (x0 : Vec Ideal S512x1024 .bf16) (x1 : Vec Ideal S512x1024 .bf16) (x2 : Vec Ideal S2048x2048 .bf16) (x3 : Vec Ideal S512x2048 .f32) (x4 : Vec Ideal S1x2048 .f32) (x5 : Vec Ideal S32x2048 .bf16) (xs0 : Vec Ideal S512x2048 .f32) (z : S512x2048.Idx) :
    sout0_B_1 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z = prod (pair x0 x1) x2 z := by
  have hcov := scover0_B_1 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 x5 xs0 z
  unfold sout0_B_1
  rw [View.read_writes_junk_eq_canon]
  refine View.canon_apply_of_pieces (Val := Elt Ideal) (S := S512x2048) (e := .f32) (prod (pair x0 x1) x2) _ ?_ z hcov
  unfold kernelRun0_B
  dsimp only
  intro p hp z
  simp only [List.mem_cons, List.not_mem_nil, or_false] at hp
  rcases hp with rfl | rfl | rfl | rfl
  · exact cols arg1 harg1 arg2 harg2 arg3 harg3 x0 x1 x2 _ _ inb_S512x2048_S512x512_0_1536 z
  · exact cols arg1 harg1 arg2 harg2 arg3 harg3 x0 x1 x2 _ _ inb_S512x2048_S512x512_0_1024 z
  · exact cols arg1 harg1 arg2 harg2 arg3 harg3 x0 x1 x2 _ _ inb_S512x2048_S512x512_0_512 z
  · exact cols arg1 harg1 arg2 harg2 arg3 harg3 x0 x1 x2 _ _ inb_S512x2048_S512x512_0_0 z

/-- The residual plus the product. -/
abbrev BASE (A B : FVec Ideal S8x2048x1024 .bf16) (W : FVec Ideal S1x2048x2048 .f32) (X : FVec Ideal S8x2048x2048 .f32) : FVec Ideal S16384x2048 .f32 :=
  addf (shapeCast _ X Cert.OutZeroRefIdeal.Gen.shapeCasts_S8x2048x2048_S16384x2048) (Host.dotGeneral Cert.OutZeroRefIdeal.dot_S16384x2048_S2048x2048_S16384x2048_1_0_0_1_n_n none (extf .f32 (concatenate Cert.OutZeroRefIdeal.S16384x2048 1 [⟨Cert.OutZeroRefIdeal.S16384x1024, (shapeCast _ A Cert.OutZeroRefIdeal.Gen.shapeCasts_S8x2048x1024_S16384x1024)⟩, ⟨Cert.OutZeroRefIdeal.S16384x1024, (shapeCast _ B Cert.OutZeroRefIdeal.Gen.shapeCasts_S8x2048x1024_S16384x1024)⟩] Cert.OutZeroRefIdeal.Gen.concatenates_S16384x1024_S16384x1024_S16384x2048_d1) Cert.OutZeroRefIdeal.Gen.bitsLt_bf16_f32) (shapeCast _ W Cert.OutZeroRefIdeal.Gen.shapeCasts_S1x2048x2048_S2048x2048))

/-- Its rows, scaled to unit mean square and by the gain. -/
abbrev NORM (A B : FVec Ideal S8x2048x1024 .bf16) (W : FVec Ideal S1x2048x2048 .f32) (X : FVec Ideal S8x2048x2048 .f32) (G : FVec Ideal S2x2048 .f32) : FVec Ideal S16384x2048 .f32 :=
  mulf (mulf (BASE A B W X) (broadcastInDim Cert.OutZeroRefIdeal.S16384x2048 ![0, 1] Cert.OutZeroRefIdeal.Gen.bcast_S16384x1_S16384x2048_0_1 (Host.rsqrt (addf (Host.divf (broadcastInDim Cert.OutZeroRefIdeal.S16384x1 ![0] Cert.OutZeroRefIdeal.Gen.bcast_S16384_S16384x1_0 (Host.reduceAdd (mulf (BASE A B W X) (BASE A B W X)) (constant Cert.OutZeroRefIdeal.S_ .f32 0x00000000#32) Cert.OutZeroRefIdeal.Gen.reducesTo_S16384x2048_S16384_d1 Cert.OutZeroRefIdeal.Gen.h_S_)) (broadcastInDim Cert.OutZeroRefIdeal.S16384x1 ![] Cert.OutZeroRefIdeal.Gen.bcast_S_S16384x1 (constant Cert.OutZeroRefIdeal.S_ .f32 0x45000000#32))) (broadcastInDim Cert.OutZeroRefIdeal.S16384x1 ![] Cert.OutZeroRefIdeal.Gen.bcast_S_S16384x1 (constant Cert.OutZeroRefIdeal.S_ .f32 0x358637BD#32)))))) (broadcastInDim Cert.OutZeroRefIdeal.S16384x2048 ![0, 1] Cert.OutZeroRefIdeal.Gen.bcast_S1x2048_S16384x2048_0_1 (broadcastInDim Cert.OutZeroRefIdeal.S1x2048 ![1] Cert.OutZeroRefIdeal.Gen.bcast_S2048_S1x2048_1 (shapeCast _ (extractStridedSlice Cert.OutZeroRefIdeal.S1x2048 ![1, 0] G Cert.OutZeroRefIdeal.Gen.slices_S2x2048_S1x2048_1_0) Cert.OutZeroRefIdeal.Gen.shapeCasts_S1x2048_S2048)))

/-- The gates of those rows. -/
abbrev GATES (A B : FVec Ideal S8x2048x1024 .bf16) (W : FVec Ideal S1x2048x2048 .f32) (X : FVec Ideal S8x2048x2048 .f32) (G : FVec Ideal S2x2048 .f32) (V : FVec Ideal S1x2048x8224 .f32) : FVec Ideal S32x16384 .f32 :=
  transpose Cert.OutZeroRefIdeal.S32x16384 [1, 0] (Host.dotGeneral Cert.OutZeroRefIdeal.dot_S16384x2048_S2048x32_S16384x32_1_0_0_1_n_n none (NORM A B W X G) (extractStridedSlice Cert.OutZeroRefIdeal.S2048x32 ![0, 8192] (shapeCast _ V Cert.OutZeroRefIdeal.Gen.shapeCasts_S1x2048x8224_S2048x8224) Cert.OutZeroRefIdeal.Gen.slices_S2048x8224_S2048x32_0_8192)) Cert.OutZeroRefIdeal.Gen.transposes_S16384x32_S32x16384_1_0

/-- Where the blocks of a point lie. -/
theorem idx : ∀ t : Fin cfg0.N, win0_0.index t = ![min t.val 31, 0] ∧ win0_1.index t = ![min t.val 31, 0] ∧ win0_2.index t = ![0, 0] ∧ win0_3.index t = ![t.val - 1, 0] ∧ win0_4.index t = ![0, 0] ∧ win0_5.index t = ![0, 0]
    ∧ win0_6.index t = ![t.val - 1, 0] ∧ win0_7.index t = ![t.val - 1, 0] ∧ win0_8.index t = ![0, t.val - 1] :=
  (by decide +kernel : ∀ t : Fin grid0.N, _)

/-- No block of output window 6 leaves at the first point. -/
theorem flush_pos6 : ∀ t : Fin cfg0.N, (cfg0.win 6).flush t = true → t.val ≠ 0 :=
  (by decide +kernel : ∀ t : Fin grid0.N, _)

/-- No block of output window 7 leaves at the first point. -/
theorem flush_pos7 : ∀ t : Fin cfg0.N, (cfg0.win 7).flush t = true → t.val ≠ 0 :=
  (by decide +kernel : ∀ t : Fin grid0.N, _)

/-- No block of output window 8 leaves at the first point. -/
theorem flush_pos8 : ∀ t : Fin cfg0.N, (cfg0.win 8).flush t = true → t.val ≠ 0 :=
  (by decide +kernel : ∀ t : Fin grid0.N, _)

/-- An entry of the flattened activations. -/
theorem flat (X : FVec Ideal S8x2048x1024 .bf16) (z : S16384x1024.Idx) (j : S8x2048x1024.Idx)
    (h0 : (j 0 : ℕ) * 2048 + (j 1 : ℕ) = z 0) (h1 : (j 2 : ℕ) = z 1) :
    shapeCast S16384x1024 X shapeCasts_S8x2048x1024_S16384x1024 z = X j := by
  have hj : (j 1 : ℕ) < 2048 := (j 1).isLt
  pointwise
  blk_ext

/-- An entry of the flattened residual. -/
theorem flatRes (X : FVec Ideal S8x2048x2048 .f32) (z : S16384x2048.Idx) (j : S8x2048x2048.Idx)
    (h0 : (j 0 : ℕ) * 2048 + (j 1 : ℕ) = z 0) (h1 : (j 2 : ℕ) = z 1) :
    shapeCast S16384x2048 X shapeCasts_S8x2048x2048_S16384x2048 z = X j := by
  have hj : (j 1 : ℕ) < 2048 := (j 1).isLt
  pointwise
  blk_ext

/-- Input window 0 holds rows of the first flattened activations. -/
theorem left (c : Dev nD) (t : Fin cfg0.N) (y : S512x1024.Idx) (j : S8x2048x1024.Idx)
    (h0 : (j 0 : ℕ) * 2048 + (j 1 : ℕ) = min t.val 31 * 512 + y 0) (h1 : (j 2 : ℕ) = y 1) :
    (show FVec Ideal S512x1024 .bf16 from iblk m c 0 t) y = m ((c : Thread nD τ).loc main_arg0) j := by
  unfold iblk
  entry_read
  refine flat (m ((c : Thread nD τ).loc main_arg0)) (((cfg0.win 0).blk t).view.emb y) j ?_ ?_ <;> blk_simp [idx t]
  · exact h0
  · exact h1

/-- Input window 1 holds rows of the second flattened activations. -/
theorem right (c : Dev nD) (t : Fin cfg0.N) (y : S512x1024.Idx) (j : S8x2048x1024.Idx)
    (h0 : (j 0 : ℕ) * 2048 + (j 1 : ℕ) = min t.val 31 * 512 + y 0) (h1 : (j 2 : ℕ) = y 1) :
    (show FVec Ideal S512x1024 .bf16 from iblk m c 1 t) y = m ((c : Thread nD τ).loc main_arg1) j := by
  unfold iblk
  entry_read
  refine flat (m ((c : Thread nD τ).loc main_arg1)) (((cfg0.win 1).blk t).view.emb y) j ?_ ?_ <;> blk_simp [idx t]
  · exact h0
  · exact h1

/-- Input window 2 holds the weight. -/
theorem weight (c : Dev nD) (t : Fin cfg0.N) (y : S2048x2048.Idx) (j : S1x2048x2048.Idx)
    (h0 : (j 1 : ℕ) = y 0) (h1 : (j 2 : ℕ) = y 1) :
    (show FVec Ideal S2048x2048 .bf16 from iblk m c 2 t) y = m ((c : Thread nD τ).loc main_arg2) j := by
  blk_point [iblk, V, idx t]

/-- Input window 3 holds rows of the flattened residual. -/
theorem residual (c : Dev nD) (t : Fin cfg0.N) (y : S512x2048.Idx) (j : S8x2048x2048.Idx)
    (h0 : (j 0 : ℕ) * 2048 + (j 1 : ℕ) = (t.val - 1) * 512 + y 0) (h1 : (j 2 : ℕ) = y 1) :
    (show FVec Ideal S512x2048 .f32 from iblk m c 3 t) y = m ((c : Thread nD τ).loc main_arg3) j := by
  unfold iblk
  entry_read
  refine flatRes (m ((c : Thread nD τ).loc main_arg3)) (((cfg0.win 3).blk t).view.emb y) j ?_ ?_ <;> blk_simp [idx t]
  · exact h0
  · exact h1

/-- Input window 4 holds the gain. -/
theorem gain (c : Dev nD) (t : Fin cfg0.N) (y : S1x2048.Idx) (j : S2x2048.Idx) (h0 : (j 0 : ℕ) = 1) (h : (j 1 : ℕ) = y 1) :
    (show FVec Ideal S1x2048 .f32 from iblk m c 4 t) y = m ((c : Thread nD τ).loc main_arg4) j := by
  blk_point [iblk, V, idx t]

/-- Input window 5 holds the weight of the gates, one row to a gate. -/
theorem gateWeight (c : Dev nD) (t : Fin cfg0.N) (y : S32x2048.Idx) (j : S1x2048x8224.Idx) (h0 : (j 1 : ℕ) = y 1) (h : (j 2 : ℕ) = 8192 + y 0) :
    (show FVec Ideal S32x2048 .bf16 from iblk m c 5 t) y = m ((c : Thread nD τ).loc main_arg5) j := by
  blk_point [iblk, V, idx t]

/-- A point with an even number leaves its product in the first scratch. -/
theorem left_even (c : Dev nD) (t : Fin cfg0.N) (h : t.val % 2 = 0) :
    (outsAt0 m c t.val t.isLt).2.2.2.1 = prod (pair (iblk m c 0 t) (iblk m c 1 t)) (iblk m c 2 t) := by
  by_cases h0 : t.val % 33 = 0
  · have h1 := congrArg (fun p => p.2.2.2.1) (outsAt0_A m c t h0 h (by omega))
    dsimp only at h1
    rw [h1]
    funext z
    exact left_A ..
  · have h1 := congrArg (fun p => p.2.2.2.1) (outsAt0_C m c t h0 h (by omega))
    dsimp only at h1
    rw [h1]
    funext z
    exact left_C ..

/-- A point with an odd number leaves its product in the second scratch. -/
theorem left_odd (c : Dev nD) (t : Fin cfg0.N) (h : t.val % 2 = 1) :
    (outsAt0 m c t.val t.isLt).2.2.2.2 = prod (pair (iblk m c 0 t) (iblk m c 1 t)) (iblk m c 2 t) := by
  have hN : t.val < 33 := lt_of_lt_of_eq t.isLt (show cfg0.N = 33 from N_0)
  have h1 := congrArg (fun p => p.2.2.2.2) (outsAt0_B m c t (by omega) (by omega) h)
  dsimp only at h1
  rw [h1]
  funext z
  exact left_B ..

/-- What a point after the first writes to output window 6. -/
theorem outs6 (c : Dev nD) (t : Fin cfg0.N) (ht : t.val ≠ 0) (z : S512x2048.Idx) :
    (outsAt0 m c t.val t.isLt).1 z = plus (iblk m c 3 t) (prod (pair (iblk m c 0 ⟨t.val - 1, Nat.lt_of_le_of_lt (Nat.sub_le _ _) t.isLt⟩) (iblk m c 1 ⟨t.val - 1, Nat.lt_of_le_of_lt (Nat.sub_le _ _) t.isLt⟩)) (iblk m c 2 ⟨t.val - 1, Nat.lt_of_le_of_lt (Nat.sub_le _ _) t.isLt⟩)) z := by
  have hN : t.val < 33 := lt_of_lt_of_eq t.isLt (show cfg0.N = 33 from N_0)
  by_cases h : t.val % 2 = 0
  · have h1 := congrArg (fun p => p.1) (outsAt0_C m c t (by omega) h (by omega))
    dsimp only at h1
    rw [h1, out_C_6, left_odd m c ⟨t.val - 1, Nat.lt_of_le_of_lt (Nat.sub_le _ _) t.isLt⟩ (by show (t.val - 1) % 2 = 1; omega)]
  · have h1 := congrArg (fun p => p.1) (outsAt0_B m c t (by omega) h (by omega))
    dsimp only at h1
    rw [h1, out_B_6, left_even m c ⟨t.val - 1, Nat.lt_of_le_of_lt (Nat.sub_le _ _) t.isLt⟩ (by show (t.val - 1) % 2 = 0; omega)]

/-- What a point after the first writes to output window 7. -/
theorem outs7 (c : Dev nD) (t : Fin cfg0.N) (ht : t.val ≠ 0) (z : S512x2048.Idx) :
    (outsAt0 m c t.val t.isLt).2.1 z = normed (plus (iblk m c 3 t) (prod (pair (iblk m c 0 ⟨t.val - 1, Nat.lt_of_le_of_lt (Nat.sub_le _ _) t.isLt⟩) (iblk m c 1 ⟨t.val - 1, Nat.lt_of_le_of_lt (Nat.sub_le _ _) t.isLt⟩)) (iblk m c 2 ⟨t.val - 1, Nat.lt_of_le_of_lt (Nat.sub_le _ _) t.isLt⟩))) (iblk m c 4 t) z := by
  have hN : t.val < 33 := lt_of_lt_of_eq t.isLt (show cfg0.N = 33 from N_0)
  by_cases h : t.val % 2 = 0
  · have h1 := congrArg (fun p => p.2.1) (outsAt0_C m c t (by omega) h (by omega))
    dsimp only at h1
    rw [h1, out_C_7, left_odd m c ⟨t.val - 1, Nat.lt_of_le_of_lt (Nat.sub_le _ _) t.isLt⟩ (by show (t.val - 1) % 2 = 1; omega)]
  · have h1 := congrArg (fun p => p.2.1) (outsAt0_B m c t (by omega) h (by omega))
    dsimp only at h1
    rw [h1, out_B_7, left_even m c ⟨t.val - 1, Nat.lt_of_le_of_lt (Nat.sub_le _ _) t.isLt⟩ (by show (t.val - 1) % 2 = 0; omega)]

/-- What a point after the first writes to output window 8. -/
theorem outs8 (c : Dev nD) (t : Fin cfg0.N) (ht : t.val ≠ 0) (z : S32x512.Idx) :
    (outsAt0 m c t.val t.isLt).2.2.1 z = gates (iblk m c 5 t) (normed (plus (iblk m c 3 t) (prod (pair (iblk m c 0 ⟨t.val - 1, Nat.lt_of_le_of_lt (Nat.sub_le _ _) t.isLt⟩) (iblk m c 1 ⟨t.val - 1, Nat.lt_of_le_of_lt (Nat.sub_le _ _) t.isLt⟩)) (iblk m c 2 ⟨t.val - 1, Nat.lt_of_le_of_lt (Nat.sub_le _ _) t.isLt⟩))) (iblk m c 4 t)) z := by
  have hN : t.val < 33 := lt_of_lt_of_eq t.isLt (show cfg0.N = 33 from N_0)
  by_cases h : t.val % 2 = 0
  · have h1 := congrArg (fun p => p.2.2.1) (outsAt0_C m c t (by omega) h (by omega))
    dsimp only at h1
    rw [h1, out_C_8, left_odd m c ⟨t.val - 1, Nat.lt_of_le_of_lt (Nat.sub_le _ _) t.isLt⟩ (by show (t.val - 1) % 2 = 1; omega)]
  · have h1 := congrArg (fun p => p.2.2.1) (outsAt0_B m c t (by omega) h (by omega))
    dsimp only at h1
    rw [h1, out_B_8, left_even m c ⟨t.val - 1, Nat.lt_of_le_of_lt (Nat.sub_le _ _) t.isLt⟩ (by show (t.val - 1) % 2 = 0; omega)]

/-- The two activations side by side, at a row of a block. -/
theorem beside (c : Dev nD) (t : Fin cfg0.N) (y : S512x2048.Idx) (j : S16384x2048.Idx)
    (h0 : (j 0 : ℕ) = min t.val 31 * 512 + y 0) (h1 : (j 1 : ℕ) = y 1) :
    pair (iblk m c 0 t) (iblk m c 1 t) y
      = concatenate Cert.OutZeroRefIdeal.S16384x2048 1 [⟨S16384x1024, shapeCast S16384x1024 (show FVec Ideal S8x2048x1024 .bf16 from m ((c : Thread nD τ).loc main_arg0)) shapeCasts_S8x2048x1024_S16384x1024⟩, ⟨S16384x1024, shapeCast S16384x1024 (show FVec Ideal S8x2048x1024 .bf16 from m ((c : Thread nD τ).loc main_arg1)) shapeCasts_S8x2048x1024_S16384x1024⟩] Cert.OutZeroRefIdeal.Gen.concatenates_S16384x1024_S16384x1024_S16384x2048_d1 j := by
  pointwise [pair]
  by_cases hy : (y 1 : ℕ) < 1024
  · rw [dif_pos hy, dif_pos (lt_of_eq_of_lt h1 hy)]
    refine left m c t _ _ ?_ ?_
    · refine (Nat.div_add_mod' _ _).trans ?_
      blk_simp [h0]
    · blk_simp [h1]
  · rw [dif_neg hy, dif_neg fun h => hy (lt_of_eq_of_lt h1.symm h)]
    refine right m c t _ _ ?_ ?_
    · refine (Nat.div_add_mod' _ _).trans ?_
      blk_simp [h0]
    · blk_simp [h1]

/-- The residual plus the product, at a row of a block. -/
theorem sum (c : Dev nD) (t t' : Fin cfg0.N) (h : t'.val + 1 = t.val) (y : S512x2048.Idx) (j : S16384x2048.Idx)
    (h0 : (j 0 : ℕ) = (t.val - 1) * 512 + y 0) (h1 : (j 1 : ℕ) = y 1) :
    plus (iblk m c 3 t) (prod (pair (iblk m c 0 t') (iblk m c 1 t')) (iblk m c 2 t')) y
      = BASE (m ((c : Thread nD τ).loc main_arg0)) (m ((c : Thread nD τ).loc main_arg1)) (m ((c : Thread nD τ).loc main_arg2)) (m ((c : Thread nD τ).loc main_arg3)) j := by
  have hN : t.val < 33 := lt_of_lt_of_eq t.isLt (show cfg0.N = 33 from N_0)
  have e := beside m c t'
  unfold BASE
  generalize (pair _ _) = p at e ⊢
  generalize (concatenate _ _ _ _) = q at e ⊢
  pointwise [prod, plus]
  refine congrArg₂ (fun a b : EReal => a + b) (residual m c t _ _ ?_ ?_) (Fin.sum_fin_congr fun k => congrArg₂ (fun a b : EReal => a * b) (e _ _ ?_ ?_) (weight m c t' _ _ ?_ ?_))
  · exact (Nat.div_add_mod' _ _).trans h0
  · blk_simp [h1]
  · refine Eq.trans h0 ?_
    rw [show min t'.val 31 = t.val - 1 by omega]
    rfl
  · blk_simp
  · blk_simp
  · blk_simp [h1]

/-- The normalised sum, at a row of a block. -/
theorem norm (c : Dev nD) (t t' : Fin cfg0.N) (h : t'.val + 1 = t.val) (y : S512x2048.Idx) (j : S16384x2048.Idx)
    (h0 : (j 0 : ℕ) = (t.val - 1) * 512 + y 0) (h1 : (j 1 : ℕ) = y 1) :
    normed (plus (iblk m c 3 t) (prod (pair (iblk m c 0 t') (iblk m c 1 t')) (iblk m c 2 t'))) (iblk m c 4 t) y = NORM (m ((c : Thread nD τ).loc main_arg0)) (m ((c : Thread nD τ).loc main_arg1)) (m ((c : Thread nD τ).loc main_arg2)) (m ((c : Thread nD τ).loc main_arg3)) (m ((c : Thread nD τ).loc main_arg4)) j := by
  have e := sum m c t t' h
  unfold NORM
  generalize BASE _ _ _ _ = B at e ⊢
  generalize plus _ _ = S at e ⊢
  pointwise [normed]
  refine congrArg₂ (fun a b : EReal => a * b) (congrArg₂ (fun a b : EReal => a * b) (e _ _ h0 h1)
    (congrArg (fun s : EReal => Ideal.rsqrt (Ideal.div s (Ideal.ofBits .f32 0x45000000#32) + Ideal.ofBits .f32 0x358637BD#32))
      (Fin.sum_fin_congr fun q => congrArg (fun a : EReal => a * a) (e _ _ h0 rfl)))) (gain m c t _ _ rfl ?_)
  blk_simp [h1]

/-- The gates, at a row of a block. -/
theorem gatesAt (c : Dev nD) (t t' : Fin cfg0.N) (h : t'.val + 1 = t.val) (y : S32x512.Idx) (j : S32x16384.Idx)
    (h0 : (j 0 : ℕ) = y 0) (h1 : (j 1 : ℕ) = (t.val - 1) * 512 + y 1) :
    gates (iblk m c 5 t) (normed (plus (iblk m c 3 t) (prod (pair (iblk m c 0 t') (iblk m c 1 t')) (iblk m c 2 t'))) (iblk m c 4 t)) y = GATES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have e := norm m c t t' h
  unfold GATES
  generalize NORM _ _ _ _ _ = B at e ⊢
  generalize normed _ _ = S at e ⊢
  pointwise [gates]
  refine Fin.sum_fin_congr fun k => (mul_comm _ _).trans (congrArg₂ (fun a b : EReal => a * b) (e _ _ h1 rfl) (gateWeight m c t _ _ ?_ ?_))
  all_goals blk_simp [h0]

/-- The first result array ends at the reference's residual stream. -/
theorem final0 (c : Dev nD) : (dats m 0 c).arrAt 6 (cfgs 0).N = BASE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have ht := flush_pos6 t hf
  rw [outs6 m c t ht]
  refine sum m c t _ (Nat.succ_pred_eq_of_ne_zero ht) y _ ?_ ?_ <;> blk_simp [idx t]

/-- The second result array ends at the reference's normalised rows. -/
theorem final1 (c : Dev nD) : (dats m 0 c).arrAt 7 (cfgs 0).N = truncf .bf16 (NORM (m ((c : Thread nD τ).loc main_arg0)) (m ((c : Thread nD τ).loc main_arg1)) (m ((c : Thread nD τ).loc main_arg2)) (m ((c : Thread nD τ).loc main_arg3)) (m ((c : Thread nD τ).loc main_arg4))) Cert.OutZeroRefIdeal.Gen.bitsLt_bf16_f32 := by
  refine (dats m 0 c).arrAt_eq_of_covers 7 _ (by decide +kernel) fun t hf y => ?_
  blk_simp
  rw [after0_7]
  have ht := flush_pos7 t hf
  rw [outs7 m c t ht]
  refine norm m c t _ (Nat.succ_pred_eq_of_ne_zero ht) y _ ?_ ?_ <;> blk_simp [idx t]

/-- The third result array ends at the reference's gates. -/
theorem final2 (c : Dev nD) : (dats m 0 c).arrAt 8 (cfgs 0).N = GATES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have ht := flush_pos8 t hf
  rw [outs8 m c t ht]
  refine gatesAt m c t _ (Nat.succ_pred_eq_of_ne_zero ht) y _ ?_ ?_ <;> blk_simp [idx t]

end Cert.OutZeroIdeal.Value
-- ==== Proof.AttentionMath.lean ====
module

public import Idealize.ShloMosaic.PureOps.Ideal
public import Mathlib.Data.EReal.Inv
public import Mathlib.Analysis.SpecialFunctions.Pow.Real
public import Mathlib.Algebra.BigOperators.Fin

/-! Facts about real and extended real numbers that the attention's value rests on. -/

@[expose] public section

noncomputable section

namespace Cert.AttentionMath

open Finset Idealize.ShloMosaic

/-- The extended sum of reals is their real sum. -/
theorem coe_sum {ι : Type*} (s : Finset ι) (f : ι → ℝ) : ∑ x ∈ s, (f x : EReal) = ((∑ x ∈ s, f x : ℝ) : EReal) := by
  classical
  induction s using Finset.induction_on with
  | empty => simp
  | insert a s ha ih => rw [sum_insert ha, sum_insert ha, ih, EReal.coe_add]

/-- The greatest of finitely many reals is real. -/
theorem fold_real {n : ℕ} [NeZero n] (f : Fin n → EReal) (h : ∀ x, ∃ r : ℝ, f x = r) : ∃ r : ℝ, Finset.fold max ⊥ f univ = r := by
  classical
  have key : ∀ s : Finset (Fin n), (s = ∅ ∧ Finset.fold max ⊥ f s = ⊥) ∨ ∃ r : ℝ, Finset.fold max ⊥ f s = r := by
    intro s
    induction s using Finset.induction_on with
    | empty => exact .inl ⟨rfl, by simp⟩
    | insert a s ha ih =>
      right
      obtain ⟨r, hr⟩ := h a
      rw [fold_insert ha, hr]
      rcases ih with ⟨_, h0⟩ | ⟨r', h'⟩
      · exact ⟨r, by rw [h0]; simp⟩
      · exact ⟨max r r', by rw [h', EReal.coe_strictMono.monotone.map_max]⟩
  rcases key univ with ⟨h0, _⟩ | h1
  · exact absurd h0 (univ_nonempty (α := Fin n)).ne_empty
  · exact h1

theorem exp2_sub (a b : ℝ) : Ideal.exp2 ((a : EReal) - (b : EReal)) = (((2 : ℝ) ^ a / (2 : ℝ) ^ b : ℝ) : EReal) := by
  rw [← EReal.coe_sub, ← Real.rpow_sub (by norm_num)]; rfl

theorem div_real (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- Four stretches of 512 make one of 2048. -/
theorem four (f : ℕ → ℝ) : (∑ x : Fin 512, f (0 + x)) + (∑ x : Fin 512, f (512 + x)) + (∑ x : Fin 512, f (1024 + x)) + (∑ x : Fin 512, f (1536 + x))
    = ∑ s ∈ range 2048, f s := by
  rw [show 2048 = 512 + 512 + 512 + 512 from rfl, sum_range_add, sum_range_add, sum_range_add]
  simp only [Fin.sum_univ_eq_sum_range (fun x => f (0 + x)), Fin.sum_univ_eq_sum_range (fun x => f (512 + x)),
    Fin.sum_univ_eq_sum_range (fun x => f (1024 + x)), Fin.sum_univ_eq_sum_range (fun x => f (1536 + x)), zero_add,
    Fin.sum_univ_eq_sum_range f, Nat.reduceAdd]

/-- A stretch of 512 by residues modulo eight. -/
theorem eights (f : ℕ → ℝ) : ∑ x : Fin 8, ∑ y : Fin 64, f (y * 8 + x) = ∑ x : Fin 512, f x := by
  rw [sum_comm, ← sum_product', univ_product_univ, ← (finProdFinEquiv (m := 64) (n := 8)).sum_comp (fun x : Fin 512 => f x)]
  refine sum_congr rfl fun p _ => ?_
  rw [finProdFinEquiv_apply_val]; congr 1; ring

/-- The quotient of weighted sums of exponentials does not see what is subtracted. -/
theorem shift (sc vt : ℕ → ℝ) (M : ℝ) :
    (∑ s ∈ range 2048, vt s * ((2 : ℝ) ^ sc s / (2 : ℝ) ^ M)) * (1 / ∑ s ∈ range 2048, (2 : ℝ) ^ sc s / (2 : ℝ) ^ M)
      = (∑ s ∈ range 2048, vt s * (2 : ℝ) ^ sc s) / ∑ s ∈ range 2048, (2 : ℝ) ^ sc s := by
  have hM : (2 : ℝ) ^ M ≠ 0 := (Real.rpow_pos_of_pos (by norm_num) M).ne'
  have h1 : ∑ s ∈ range 2048, vt s * ((2 : ℝ) ^ sc s / (2 : ℝ) ^ M) = (∑ s ∈ range 2048, vt s * (2 : ℝ) ^ sc s) / (2 : ℝ) ^ M := by
    rw [sum_div]; exact sum_congr rfl fun s _ => by ring
  rw [h1, ← sum_div]
  field_simp

theorem weights_pos (sc : ℕ → ℝ) : 0 < ∑ s ∈ range 2048, (2 : ℝ) ^ sc s :=
  sum_pos (fun s _ => Real.rpow_pos_of_pos (by norm_num) _) ⟨0, by simp⟩

/-- The constant under the root, as the single-precision number it is. -/
def eps : ℝ := 8796093 / 2 ^ 43

theorem eps_bits : Ideal.ofBits FTy.f32 897988541#32 = (eps : EReal) := by
  rw [eps]
  simp [Ideal.ofBits, Ideal.ieee, -EReal.coe_mul]
  norm_num

theorem part_bits : Ideal.ofBits FTy.f32 1006632960#32 = ((1 / 128 : ℝ) : EReal) := by
  simp [Ideal.ofBits, Ideal.ieee, -EReal.coe_mul]
  norm_num

/-- A vector of 128 scaled to unit mean square and by the gain. -/
def normed (x g : ℕ → ℝ) (d : ℕ) : ℝ := x d * (Real.sqrt ((∑ j ∈ range 128, x j * x j) / 128 + eps))⁻¹ * g d

/-- A vector of 128 rotated: each half of 64 is a pair of quarters. -/
def rope (x c s : ℕ → ℝ) (d : ℕ) : ℝ := x d * c d + x (if d % 64 < 32 then d + 32 else d - 32) * s d

theorem rsqrt_real (x : ℕ → ℝ) : Ideal.rsqrt (((∑ j ∈ range 128, x j * x j) / 128 + eps : ℝ) : EReal)
    = ((Real.sqrt ((∑ j ∈ range 128, x j * x j) / 128 + eps))⁻¹ : ℝ) := by
  have h : 0 < (∑ j ∈ range 128, x j * x j) / 128 + eps :=
    add_pos_of_nonneg_of_pos (div_nonneg (sum_nonneg fun j _ => mul_self_nonneg _) (by norm_num)) (by norm_num [eps])
  show (if _ then _ else if _ then _ else _) = _
  rw [if_neg h.not_gt, if_neg h.ne']

/-- What the queries are multiplied by: it turns the exponential of the scaled score into a power of two. -/
def scale : ℝ := (Real.sqrt 128)⁻¹ * (Real.log 2)⁻¹

/-- The rotated keys, from the keys, the gains and the tables. -/
def keysOf (K : ℕ → ℕ → ℝ) (g : ℕ → ℝ) (C S : ℕ → ℕ → ℝ) (t d : ℕ) : ℝ := rope (normed (K t) g) (C t) (S t) d

/-- The rotated and scaled queries of a group of heads, head after head. -/
def queriesOf (Q : ℕ → ℕ → ℝ) (g : ℕ → ℝ) (C S : ℕ → ℕ → ℝ) (r d : ℕ) : ℝ :=
  rope (normed (fun d => Q (r % 2048) (128 * (r / 2048) + d)) g) (C (r % 2048)) (S (r % 2048)) d * scale

/-- The score of query row `q` against key row `s`. -/
def scoreOf (KR QR : ℕ → ℕ → ℝ) (q s : ℕ) : ℝ := ∑ d ∈ range 128, KR s d * QR q d

/-- The output of one group of heads at row `t` and column `c`: the softmax of the scores to base two over the values,
times the gate. The query rows of a head follow those of the head before it. -/
def outOf (KR VT QR GA : ℕ → ℕ → ℝ) (t c : ℕ) : ℝ :=
  (∑ s ∈ range 2048, VT s (c % 128) * (2 : ℝ) ^ scoreOf KR QR (2048 * (c / 128) + t) s) / (∑ s ∈ range 2048, (2 : ℝ) ^ scoreOf KR QR (2048 * (c / 128) + t) s)
    * (GA t c * Real.tanh (GA t c) + GA t c)

end Cert.AttentionMath

end
-- ==== Proof.AttentionTurns.lean ====
module

public import proofs.«01_k».proof.Proof.AttentionMath
public import proofs.«01_k».proof.Proof.Gen.ReferenceIdeal.Read
public import Idealize.ShloMosaic.Lib.Pipeline.ValueKit

/-! The angles of the rotary embedding are real numbers: what the reference computes for a row and for a
column of the grid, named as real tables, with their cosines and signed sines. -/

@[expose] public section

set_option maxRecDepth 16384

noncomputable section

namespace Cert.ReferenceIdeal.Attention

open Idealize.ShloMosaic Idealize.ShloMosaic.TcCoe
open Cert.ReferenceIdeal Cert.ReferenceIdeal.Gen Cert.ReferenceIdeal.Read Cert.AttentionMath

theorem two_bits : Ideal.ofBits FTy.f32 0x40000000#32 = ((2 : ℝ) : EReal) := by
  simp [Ideal.ofBits, Ideal.ieee, -EReal.coe_mul]
  norm_num
theorem zero_bits : Ideal.ofBits FTy.f32 0x00000000#32 = ((0 : ℝ) : EReal) := by
  simp [Ideal.ofBits, Ideal.ieee, -EReal.coe_mul]
theorem part_bits64 : Ideal.ofBits FTy.f32 0x42800000#32 = ((64 : ℝ) : EReal) := by
  simp [Ideal.ofBits, Ideal.ieee, -EReal.coe_mul]
  norm_num
theorem base_bits : Ideal.ofBits FTy.f32 0x461C4000#32 = ((10000 : ℝ) : EReal) := by
  simp [Ideal.ofBits, Ideal.ieee, -EReal.coe_mul]
  norm_num

/-- An inverse wavelength is real. -/
theorem wave_real (b : S32.Idx) : ∃ x : ℝ, val_main_v44 (F := Ideal) b = x := by
  have hc : val_main_v35 (F := Ideal) b = (((BitVec.ofNat 32 (b 0).val).toInt : ℝ) : EReal) := rfl
  simp only [val_main_v44_apply, val_main_v43_apply, val_main_v42_apply, val_main_v41_apply, val_main_v40_apply, val_main_v39_apply, val_main_v38_apply,
    val_main_v37_apply, val_main_v36_apply, hc]
  generalize ((BitVec.ofNat 32 (b 0).val).toInt : ℝ) = k
  show ∃ x : ℝ, Ideal.pow (Ideal.ofBits FTy.f32 0x461C4000#32) (Ideal.div (-(Ideal.ofBits FTy.f32 0x00000000#32 + Ideal.ofBits FTy.f32 0x40000000#32 * (k : EReal))) (Ideal.ofBits FTy.f32 0x42800000#32)) = x
  rw [two_bits, zero_bits, part_bits64, base_bits, ← EReal.coe_mul, ← EReal.coe_add, ← EReal.coe_neg, div_real _ _ (by norm_num)]
  exact ⟨_, rfl⟩

/-- A row's angle is real. -/
theorem row_real (i : S2048x32.Idx) : ∃ x : ℝ, val_main_v51 (F := Ideal) i = x := by
  simp only [val_main_v51_apply, val_main_v49_apply, val_main_v47_apply, val_main_v46_apply, val_main_v50_apply, val_main_v48_apply]
  obtain ⟨w, hw⟩ := wave_real (idx_main_v48 (idx_main_v50 i))
  rw [hw]
  exact ⟨_, (EReal.coe_mul _ _).symm⟩

/-- A column's angle is real. -/
theorem col_real (i : S2048x32.Idx) : ∃ x : ℝ, val_main_v58 (F := Ideal) i = x := by
  simp only [val_main_v58_apply, val_main_v56_apply, val_main_v54_apply, val_main_v53_apply, val_main_v57_apply, val_main_v55_apply]
  obtain ⟨w, hw⟩ := wave_real (idx_main_v55 (idx_main_v57 i))
  rw [hw]
  exact ⟨_, (EReal.coe_mul _ _).symm⟩

/-- The angle at position `t` of frequency `e` of the row half. -/
def rowTurn (t e : ℕ) : ℝ := (val_main_v51 (F := Ideal) (ix2 (Fin.ofNat 2048 t) (Fin.ofNat 32 e))).toReal
/-- The angle at position `t` of frequency `e` of the column half. -/
def colTurn (t e : ℕ) : ℝ := (val_main_v58 (F := Ideal) (ix2 (Fin.ofNat 2048 t) (Fin.ofNat 32 e))).toReal

theorem here (i : S2048x32.Idx) : ix2 (Fin.ofNat 2048 (i 0 : ℕ)) (Fin.ofNat 32 (i 1 : ℕ)) = i := by
  funext a
  fin_cases a
  · exact Fin.ext (Nat.mod_eq_of_lt (i 0).isLt)
  · exact Fin.ext (Nat.mod_eq_of_lt (i 1).isLt)

theorem row_eq (i : S2048x32.Idx) : val_main_v51 (F := Ideal) i = ((rowTurn (i 0) (i 1) : ℝ) : EReal) := by
  obtain ⟨x, hx⟩ := row_real i
  rw [rowTurn, here, hx, EReal.toReal_coe]

theorem col_eq (i : S2048x32.Idx) : val_main_v58 (F := Ideal) i = ((colTurn (i 0) (i 1) : ℝ) : EReal) := by
  obtain ⟨x, hx⟩ := col_real i
  rw [colTurn, here, hx, EReal.toReal_coe]

/-- The angle at position `t` of coordinate `d` of a head. -/
def turn (t d : ℕ) : ℝ := if d < 64 then rowTurn t (d % 32) else colTurn t (d % 32)
/-- The cosine table. -/
def cosOf (t d : ℕ) : ℝ := Real.cos (turn t d)
/-- The sine table: minus in the first quarter of each half. -/
def sinOf (t d : ℕ) : ℝ := if d % 64 < 32 then -Real.sin (turn t d) else Real.sin (turn t d)

end Cert.ReferenceIdeal.Attention

end
-- ==== Proof.AttentionTables.lean ====
module

public import proofs.«01_k».proof.Proof.AttentionIdealFrame
public import proofs.«01_k».proof.Proof.AttentionTurns
public import Idealize.ShloMosaic.Lib.Pipeline.ValueKit
public import Idealize.ShloMosaic.Lib.StableHlo.RunRead

/-! What each window of the attention's launch holds: the slices of the projection, the gains, and the tables
of cosines and signed sines, which are those of the reference's angles. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL.Sem
open Cert.KernelIdeal.Gen
open Cert.ReferenceIdeal.Attention (rowTurn colTurn turn cosOf sinOf row_eq col_eq)

variable (m : (ℓ : Loc nD τ sig) → Buf (Elt Ideal) ℓ)

/-- The block of each window at each grid point. -/
theorem idx : ∀ t : Fin cfg0.N, win0_0.index t = ![t.val / 2, 0, t.val % 2] ∧ win0_1.index t = ![t.val / 2, 0, 8 + t.val % 2] ∧ win0_2.index t = ![t.val / 2, 0, 10 + t.val % 2]
    ∧ win0_3.index t = ![t.val / 2, 0, 3 + t.val % 2] ∧ win0_4.index t = ![0, 0] ∧ win0_5.index t = ![0, 0] ∧ win0_6.index t = ![0, 0] ∧ win0_7.index t = ![0, 0] ∧ win0_8.index t = ![t.val / 2, 0, t.val % 2] :=
  (by decide +kernel : ∀ t : Fin grid0.N, _)

theorem q_entry (c : Dev nD) (t : Fin cfg0.N) (y : S1x2048x512.Idx) (j : S8x2048x4608.Idx) (h0 : (j 0 : ℕ) = t.val / 2) (h1 : (j 1 : ℕ) = y 1) (h2 : (j 2 : ℕ) = 512 * (t.val % 2) + y 2) :
    (show FVec Ideal S1x2048x512 .f32 from iblk m c 0 t) y = m ((c : Thread nD τ).loc main_arg0) j := by
  have hy : (y 0 : ℕ) < 1 := (y 0).isLt
  unfold iblk
  entry_read
  blk_ext [idx t]

theorem k_entry (c : Dev nD) (t : Fin cfg0.N) (y : S1x2048x128.Idx) (j : S8x2048x4608.Idx) (h0 : (j 0 : ℕ) = t.val / 2) (h1 : (j 1 : ℕ) = y 1) (h2 : (j 2 : ℕ) = 128 * (8 + t.val % 2) + y 2) :
    (show FVec Ideal S1x2048x128 .f32 from iblk m c 1 t) y = m ((c : Thread nD τ).loc main_arg0) j := by
  have hy : (y 0 : ℕ) < 1 := (y 0).isLt
  unfold iblk
  entry_read
  blk_ext [idx t]

theorem v_entry (c : Dev nD) (t : Fin cfg0.N) (y : S1x2048x128.Idx) (j : S8x2048x4608.Idx) (h0 : (j 0 : ℕ) = t.val / 2) (h1 : (j 1 : ℕ) = y 1) (h2 : (j 2 : ℕ) = 128 * (10 + t.val % 2) + y 2) :
    (show FVec Ideal S1x2048x128 .f32 from iblk m c 2 t) y = m ((c : Thread nD τ).loc main_arg0) j := by
  have hy : (y 0 : ℕ) < 1 := (y 0).isLt
  unfold iblk
  entry_read
  blk_ext [idx t]

theorem gate_entry (c : Dev nD) (t : Fin cfg0.N) (y : S1x2048x512.Idx) (j : S8x2048x4608.Idx) (h0 : (j 0 : ℕ) = t.val / 2) (h1 : (j 1 : ℕ) = y 1) (h2 : (j 2 : ℕ) = 512 * (3 + t.val % 2) + y 2) :
    (show FVec Ideal S1x2048x512 .f32 from iblk m c 3 t) y = m ((c : Thread nD τ).loc main_arg0) j := by
  have hy : (y 0 : ℕ) < 1 := (y 0).isLt
  unfold iblk
  entry_read
  blk_ext [idx t]

theorem gain_q (c : Dev nD) (d : Fin 128) : (show FVec Ideal S1x128 .f32 from V m c main_v38) (ix2 0 d) = m ((c : Thread nD τ).loc main_arg1) (ix2 0 d) := by
  after_reads_simp
  pointwise

theorem gain_k (c : Dev nD) (d : Fin 128) : (show FVec Ideal S1x128 .f32 from V m c main_v40) (ix2 0 d) = m ((c : Thread nD τ).loc main_arg2) (ix2 0 d) := by
  after_reads_simp
  pointwise

theorem gain_q_entry (c : Dev nD) (t : Fin cfg0.N) (d : Fin 128) :
    (show FVec Ideal S1x128 .f32 from iblk m c 4 t) (ix2 0 d) = m ((c : Thread nD τ).loc main_arg1) (ix2 0 d) := by
  refine Eq.trans ?_ (gain_q m c d)
  unfold iblk
  blk_simp [idx t]
  refine congrArg _ ?_
  blk_ext [idx t]

theorem gain_k_entry (c : Dev nD) (t : Fin cfg0.N) (d : Fin 128) :
    (show FVec Ideal S1x128 .f32 from iblk m c 5 t) (ix2 0 d) = m ((c : Thread nD τ).loc main_arg2) (ix2 0 d) := by
  refine Eq.trans ?_ (gain_k m c d)
  unfold iblk
  blk_simp [idx t]
  refine congrArg _ ?_
  blk_ext [idx t]

/-! ### The tables -/

/-- Four 2048 by 32 tables side by side. -/
def beside (a b e f : FVec Ideal S2048x32 .f32) : FVec Ideal S2048x128 .f32 :=
  concatenate S2048x128 1 [⟨S2048x32, a⟩, ⟨S2048x32, b⟩, ⟨S2048x32, e⟩, ⟨S2048x32, f⟩] concatenates_S2048x32_S2048x32_S2048x32_S2048x32_S2048x128_d1

theorem beside_entry (a b e f : FVec Ideal S2048x32 .f32) (A : ℕ → ℕ → ℝ) (ha : ∀ i, a i = ((A (i 0) (i 1) : ℝ) : EReal)) (hb : ∀ i, b i = ((A (i 0) (32 + i 1) : ℝ) : EReal))
    (he : ∀ i, e i = ((A (i 0) (64 + i 1) : ℝ) : EReal)) (hf : ∀ i, f i = ((A (i 0) (96 + i 1) : ℝ) : EReal)) (r : Fin 2048) (d : Fin 128) :
    beside a b e f (ix2 r d) = ((A r d : ℝ) : EReal) := by
  unfold beside
  pointwise
  have hd : (d : ℕ) < 128 := d.isLt
  have at_ : ∀ k k' : ℕ, k = k' → ((A r k : ℝ) : EReal) = ((A r k' : ℝ) : EReal) := fun _ _ h => by rw [h]
  by_cases h1 : (d : ℕ) < 32
  · rw [dif_pos h1]
    exact ha _
  rw [dif_neg h1]
  by_cases h2 : (d : ℕ) - 32 < 32
  · rw [dif_pos h2]
    exact (hb _).trans (at_ (32 + (d - 32)) d (by omega))
  rw [dif_neg h2]
  by_cases h3 : (d : ℕ) - 32 - 32 < 32
  · rw [dif_pos h3]
    exact (he _).trans (at_ (64 + (d - 32 - 32)) d (by omega))
  rw [dif_neg h3]
  exact (hf _).trans (at_ (96 + (d - 32 - 32 - 32)) d (by omega))

theorem rows_eq (c : Dev nD) : (show FVec Ideal S2048x32 .f32 from V m c main_v19) = Cert.ReferenceIdeal.Read.val_main_v51 (F := Ideal) := by
  after_reads_simp
  rfl

theorem cols_eq (c : Dev nD) : (show FVec Ideal S2048x32 .f32 from V m c main_v24) = Cert.ReferenceIdeal.Read.val_main_v58 (F := Ideal) := by
  after_reads_simp
  rfl

theorem cos_table (c : Dev nD) : (show FVec Ideal S2048x128 .f32 from V m c main_v29)
    = beside (V m c main_v25) (V m c main_v26) (V m c main_v27) (V m c main_v28) := by
  after_reads_simp
  rfl

theorem sin_table (c : Dev nD) : (show FVec Ideal S2048x128 .f32 from V m c main_v36)
    = beside (V m c main_v31) (V m c main_v32) (V m c main_v34) (V m c main_v35) := by
  after_reads_simp
  rfl

theorem cos_of (c : Dev nD) (i : S2048x32.Idx) :
    (show FVec Ideal S2048x32 .f32 from V m c main_v25) i = Ideal.cos ((show FVec Ideal S2048x32 .f32 from V m c main_v19) i)
    ∧ (show FVec Ideal S2048x32 .f32 from V m c main_v26) i = Ideal.cos ((show FVec Ideal S2048x32 .f32 from V m c main_v19) i)
    ∧ (show FVec Ideal S2048x32 .f32 from V m c main_v27) i = Ideal.cos ((show FVec Ideal S2048x32 .f32 from V m c main_v24) i)
    ∧ (show FVec Ideal S2048x32 .f32 from V m c main_v28) i = Ideal.cos ((show FVec Ideal S2048x32 .f32 from V m c main_v24) i) := by
  refine ⟨?_, ?_, ?_, ?_⟩ <;> after_reads_simp <;> rfl

theorem sin_of (c : Dev nD) (i : S2048x32.Idx) :
    (show FVec Ideal S2048x32 .f32 from V m c main_v31) i = -Ideal.sin ((show FVec Ideal S2048x32 .f32 from V m c main_v19) i)
    ∧ (show FVec Ideal S2048x32 .f32 from V m c main_v32) i = Ideal.sin ((show FVec Ideal S2048x32 .f32 from V m c main_v19) i)
    ∧ (show FVec Ideal S2048x32 .f32 from V m c main_v34) i = -Ideal.sin ((show FVec Ideal S2048x32 .f32 from V m c main_v24) i)
    ∧ (show FVec Ideal S2048x32 .f32 from V m c main_v35) i = Ideal.sin ((show FVec Ideal S2048x32 .f32 from V m c main_v24) i) := by
  refine ⟨?_, ?_, ?_, ?_⟩ <;> after_reads_simp <;> rfl

theorem cos_at (c : Dev nD) (r : Fin 2048) (d : Fin 128) : (show FVec Ideal S2048x128 .f32 from V m c main_v29) (ix2 r d) = ((cosOf r d : ℝ) : EReal) := by
  rw [cos_table]
  have small : ∀ i : S2048x32.Idx, (i 1 : ℕ) < 32 := fun i => (i 1).isLt
  refine beside_entry _ _ _ _ cosOf (fun i => ?_) (fun i => ?_) (fun i => ?_) (fun i => ?_) r d
  · refine (cos_of m c i).1.trans ?_
    rw [rows_eq, row_eq, cosOf, turn, if_pos (by have := small i; omega), Nat.mod_eq_of_lt (small i)]; rfl
  · refine (cos_of m c i).2.1.trans ?_
    rw [rows_eq, row_eq, cosOf, turn, if_pos (by have := small i; omega), show (32 + (i 1 : ℕ)) % 32 = i 1 by have := small i; omega]; rfl
  · refine (cos_of m c i).2.2.1.trans ?_
    rw [cols_eq, col_eq, cosOf, turn, if_neg (by omega), show (64 + (i 1 : ℕ)) % 32 = i 1 by have := small i; omega]; rfl
  · refine (cos_of m c i).2.2.2.trans ?_
    rw [cols_eq, col_eq, cosOf, turn, if_neg (by omega), show (96 + (i 1 : ℕ)) % 32 = i 1 by have := small i; omega]; rfl

theorem sin_at (c : Dev nD) (r : Fin 2048) (d : Fin 128) : (show FVec Ideal S2048x128 .f32 from V m c main_v36) (ix2 r d) = ((sinOf r d : ℝ) : EReal) := by
  rw [sin_table]
  have small : ∀ i : S2048x32.Idx, (i 1 : ℕ) < 32 := fun i => (i 1).isLt
  refine beside_entry _ _ _ _ sinOf (fun i => ?_) (fun i => ?_) (fun i => ?_) (fun i => ?_) r d
  · refine (sin_of m c i).1.trans ?_
    rw [rows_eq, row_eq, sinOf, if_pos (by have := small i; omega), turn, if_pos (by have := small i; omega), Nat.mod_eq_of_lt (small i)]; rfl
  · refine (sin_of m c i).2.1.trans ?_
    rw [rows_eq, row_eq, sinOf, if_neg (by have := small i; omega), turn, if_pos (by have := small i; omega), show (32 + (i 1 : ℕ)) % 32 = i 1 by have := small i; omega]; rfl
  · refine (sin_of m c i).2.2.1.trans ?_
    rw [cols_eq, col_eq, sinOf, if_pos (by have := small i; omega), turn, if_neg (by omega), show (64 + (i 1 : ℕ)) % 32 = i 1 by have := small i; omega]; rfl
  · refine (sin_of m c i).2.2.2.trans ?_
    rw [cols_eq, col_eq, sinOf, if_neg (by have := small i; omega), turn, if_neg (by omega), show (96 + (i 1 : ℕ)) % 32 = i 1 by have := small i; omega]; rfl

theorem cos_entry (c : Dev nD) (t : Fin cfg0.N) (y : S2048x128.Idx) : (show FVec Ideal S2048x128 .f32 from iblk m c 6 t) y = ((cosOf (y 0) (y 1) : ℝ) : EReal) := by
  obtain ⟨r, d, rfl⟩ : ∃ (r : Fin 2048) (d : Fin 128), y = ix2 r d := ⟨y 0, y 1, by funext a; fin_cases a <;> rfl⟩
  refine Eq.trans ?_ (cos_at m c r d)
  unfold iblk
  blk_simp [idx t]
  refine congrArg _ ?_
  blk_ext [idx t]

theorem sin_entry (c : Dev nD) (t : Fin cfg0.N) (y : S2048x128.Idx) : (show FVec Ideal S2048x128 .f32 from iblk m c 7 t) y = ((sinOf (y 0) (y 1) : ℝ) : EReal) := by
  obtain ⟨r, d, rfl⟩ : ∃ (r : Fin 2048) (d : Fin 128), y = ix2 r d := ⟨y 0, y 1, by funext a; fin_cases a <;> rfl⟩
  refine Eq.trans ?_ (sin_at m c r d)
  unfold iblk
  blk_simp [idx t]
  refine congrArg _ ?_
  blk_ext [idx t]

end Cert.KernelIdeal.Attention

end
-- ==== Proof.AttentionTrips.lean ====
module

public import proofs.«01_k».proof.Proof.Gen.KernelIdeal.Frame
public import proofs.«01_k».proof.Proof.Gen.KernelIdeal.Loops

/-! The trips of the attention kernel's two loops, run once at a symbolic trip: the pieces that a trip writes and,
of the attending loop, the value it carries on, as the run finds them. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- One trip of the preparing loop: the pieces it writes into the rotated keys, the transposed values and the rotated
queries, with the run that finds them. -/
@[irreducible] def prepareTrip (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v0 : Vec F S1x128 .f32) (v2 : Vec F S1x128 .f32) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty) (k : Fin k0_t1_loop.trips) :
    Σ' (L11 : List (View.Piece (Elt F) S2048x128 .bf16)) (L12 : List (View.Piece (Elt F) S128x2048 .bf16)), { L13 : List (View.Piece (Elt F) S8192x128 .bf16) //
      ∀ (E : Set ℕ) (f11 : BufTy.Contents (Elt F) arg11.view.ty) (f12 : BufTy.Contents (Elt F) arg12.view.ty) (f13 : BufTy.Contents (Elt F) arg13.view.ty),
        (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
        ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 v0 v2 k PUnit.unit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (arg13.view.loc (c : Thread nD τ) ↦[arg13.view.set]{fullShare} arg13.view.writes (Elt F) f13 L13))) } := by
  have hk : k.val < 8 := Nat.lt_of_lt_of_le k.isLt k0_t1_abs.2.1
  refine ⟨?_, ?_, ?_, fun E f11 f12 f13 => ?run⟩
  case run =>
    unfold k0_t1_body
    iintro ⟨H2, H3, H4, H8, H9, H11, H12, H13⟩
    sl_exec
    sl_step
    sl_close

/-- One trip of the attending loop, from the value carried into it and the scores it finds: the pieces it writes into
the output block and the score buffer and the value it carries on, with the run that finds them. -/
@[irreducible] def attendTrip (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec F S8x256 .f32) (X5 : BufTy.Contents (Elt F) arg5.view.ty) (X11 : BufTy.Contents (Elt F) arg11.view.ty) (X12 : BufTy.Contents (Elt F) arg12.view.ty) (X13 : BufTy.Contents (Elt F) arg13.view.ty) (k : Fin k0_t2_loop.trips) (acc : FVec F S8x256 .f32) (f14 : BufTy.Contents (Elt F) arg14.view.ty) :
    Σ' (L10 : List (View.Piece (Elt F) S1x2048x512 .bf16)) (L14 : List (View.Piece (Elt F) S2x4x512x256 .f32)), { next : FVec F S8x256 .f32 //
      ∀ (E : Set ℕ) (f10 : BufTy.Contents (Elt F) arg10.view.ty),
        (iprop((arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg14.view.loc (c : Thread nD τ) ↦[arg14.view.set]{fullShare} f14)) : sProp 𝕄)
        ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 v12 v12 (constant S512x256 .f32 0x00000000#32) k acc)
          (fun r => iprop(⌜r = next⌝ ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} arg10.view.writes (Elt F) f10 L10) ∗ (arg14.view.loc (c : Thread nD τ) ↦[arg14.view.set]{fullShare} arg14.view.writes (Elt F) f14 L14))) } := by
  have hk : k.val < 2 := Nat.lt_of_lt_of_le k.isLt k0_t2_abs.2.1
  refine ⟨?_, ?_, ?_, fun E f10 => ?run⟩
  case run =>
    unfold k0_t2_body
    iintro ⟨H5, H11, H12, H13, H10, H14⟩
    sl_exec
    sl_step
    sl_close

end Cert.KernelIdeal.Attention

end
-- ==== Proof.AttentionBlock.lean ====
module

public import proofs.«01_k».proof.Proof.Gen.KernelIdeal.Frame
public import proofs.«01_k».proof.Proof.Gen.KernelIdeal.Loops
public import proofs.«01_k».proof.Proof.AttentionMath
public import Idealize.ShloMosaic.Lib.Pipeline.ValueKit

/-! One block of 256 query rows of the attention, as a function of the buffers the kernel reads. -/

@[expose] public section

set_option maxRecDepth 16384
set_option maxHeartbeats 4000000

noncomputable section

namespace Cert.KernelIdeal.Attention

open Idealize.ShloMosaic Idealize.ShloMosaic.TcCoe Idealize.ShloMosaic.Tactic
open Cert.KernelIdeal.Gen Cert.AttentionMath

variable {F : FTy → Type} [FloatOps F]

/-- The scores of 512 keys against the block's 256 queries. -/
abbrev score (kc : FVec F S512x128 .bf16) (q : FVec F S256x128 .bf16) : FVec F S512x256 .f32 :=
  matmul dot_S512x128_S256x128_S512x256_1_1_0_0_n_n none kc q (constant S512x256 .f32 0x00000000#32)

/-- The scores, as the score buffer keeps them. -/
abbrev slab (kc : FVec F S512x128 .bf16) (q : FVec F S256x128 .bf16) : FVec F S1x1x512x256 .f32 :=
  shapeCast S1x1x512x256 (score kc q) shapeCasts_S512x256_S1x1x512x256

/-- The running maximum, by residue of the key modulo eight, after 512 more keys. -/
abbrev maxed (m : FVec F S8x256 .f32) (s : FVec F S512x256 .f32) : FVec F S8x256 .f32 :=
  maximumf m (multiReduction .maximumf [0] S8x256 (shapeCast S64x8x256 s shapeCasts_S512x256_S64x8x256) 0xFF800000#32 reduces_S64x8x256_S8x256 (.inl rfl) rfl)

/-- The base-two exponentials of the scores less the query's maximum. -/
abbrev weight (m : FVec F S8x256 .f32) (s : FVec F S1x1x512x256 .f32) : FVec F S512x256 .f32 :=
  exp2 (subf (shapeCast S512x256 s shapeCasts_S1x1x512x256_S512x256)
    (broadcastTo S512x256 (shapeCast S1x256 (multiReduction .maximumf [0] S256 m 0xFF800000#32 reduces_S8x256_S256 (.inl rfl) rfl) shapeCasts_S256_S1x256) broadcasts_S1x256_S512x256))

/-- The running sum of weights, by residue of the key modulo eight, after 512 more keys. -/
abbrev summed (l : FVec F S8x256 .f32) (p : FVec F S512x256 .f32) : FVec F S8x256 .f32 :=
  addf l (multiReduction .add [0] S8x256 (shapeCast S64x8x256 p shapeCasts_S512x256_S64x8x256) 0x00000000#32 reduces_S64x8x256_S8x256 (.inl rfl) rfl)

/-- The running weighted sum of values after 512 more keys. -/
abbrev gathered (a : FVec F S128x256 .f32) (v : FVec F S128x512 .bf16) (p : FVec F S512x256 .f32) : FVec F S128x256 .f32 :=
  addf a (matmul dot_S128x512_S512x256_S128x256_1_0_0_1_n_n none v (truncf .bf16 p bitsLt_bf16_f32) (constant S128x256 .f32 0x00000000#32))

/-- The block's output. -/
def blockOut (m : FVec F S8x256 .f32) (s0 s1 s2 s3 : FVec F S1x1x512x256 .f32) (v0 v1 v2 v3 : FVec F S128x512 .bf16) (g : FVec F S1x256x128 .f32) : FVec F S1x256x128 .bf16 :=
  shapeCast S1x256x128 (truncf .bf16 (mulf
    (transpose S256x128 [1, 0] (mulf
      (gathered (gathered (gathered (gathered (broadcast S128x256 (FloatOps.ofBits .f32 0#32)) v0 (weight m s0)) v1 (weight m s1)) v2 (weight m s2)) v3 (weight m s3))
      (broadcastTo S128x256 (divf (broadcast S1x256 (FloatOps.ofBits .f32 0x3F800000#32))
        (shapeCast S1x256 (multiReduction .add [0] S256
          (summed (summed (summed (summed (broadcast S8x256 (FloatOps.ofBits .f32 0#32)) (weight m s0)) (weight m s1)) (weight m s2)) (weight m s3))
          0x00000000#32 reduces_S8x256_S256 (.inl rfl) rfl) shapeCasts_S256_S1x256)) broadcasts_S1x256_S128x256))
      transposes_S128x256_p1_0_S256x128)
    (addf (mulf (shapeCast S256x128 g shapeCasts_S1x256x128_S256x128) (tanh (shapeCast S256x128 g shapeCasts_S1x256x128_S256x128))) (shapeCast S256x128 g shapeCasts_S1x256x128_S256x128)))
    bitsLt_bf16_f32) shapeCasts_S256x128_S1x256x128

theorem greatest (m : FVec Ideal S8x256 .f32) (hm : ∀ z, ∃ r : ℝ, m z = r) (w : Fin 256) :
    ∃ r : ℝ, Finset.fold max (Ideal.ofBits FTy.f32 4286578688#32) (fun x : Fin 8 => m (ix2 x w)) Finset.univ = r := by
  rw [show Ideal.ofBits FTy.f32 4286578688#32 = ⊥ by simp [Ideal.ofBits, Ideal.ieee]]
  exact fold_real _ fun x => hm _

/-- The running maximum stays real. -/
theorem maxed_real (m : FVec Ideal S8x256 .f32) (s : FVec Ideal S512x256 .f32) (hm : ∀ z, m z = ⊥ ∨ ∃ r : ℝ, m z = r) (hs : ∀ z, ∃ r : ℝ, s z = r) (y : S8x256.Idx) :
    ∃ r : ℝ, maxed m s y = r := by
  pointwise []
  rw [show Ideal.ofBits FTy.f32 4286578688#32 = ⊥ by simp [Ideal.ofBits, Ideal.ieee]]
  obtain ⟨b, hb⟩ := fold_real (n := 64) (fun x => s (ix2 ⟨x.val * 8 + (y 0).val, by have := x.isLt; have := (y 0).isLt; change _ < 8 at this; omega⟩ (y 1))) fun x => hs _
  rw [hb]
  rcases hm y with ha | ⟨a, ha⟩ <;> rw [ha]
  · exact ⟨b, by simp⟩
  · exact ⟨max a b, (EReal.coe_strictMono.monotone.map_max).symm⟩

/-- The block's output over the reals: the values weighed by the base-two softmax of the scores, times the gate. The
subtracted maximum does not matter. -/
theorem blockOut_real (m : FVec Ideal S8x256 .f32) (s0 s1 s2 s3 : FVec Ideal S1x1x512x256 .f32) (v0 v1 v2 v3 : FVec Ideal S128x512 .bf16) (g : FVec Ideal S1x256x128 .f32)
    (sc vt : ℕ → ℝ) (γ : ℝ) (y : S1x256x128.Idx) (hm : ∀ z, ∃ r : ℝ, m z = r)
    (h0 : ∀ x : Fin 512, s0 (ix4 0 0 x (y 1)) = (sc (0 + x) : ℝ)) (h1 : ∀ x : Fin 512, s1 (ix4 0 0 x (y 1)) = (sc (512 + x) : ℝ))
    (h2 : ∀ x : Fin 512, s2 (ix4 0 0 x (y 1)) = (sc (1024 + x) : ℝ)) (h3 : ∀ x : Fin 512, s3 (ix4 0 0 x (y 1)) = (sc (1536 + x) : ℝ))
    (k0 : ∀ x : Fin 512, v0 (ix2 (y 2) x) = (vt (0 + x) : ℝ)) (k1 : ∀ x : Fin 512, v1 (ix2 (y 2) x) = (vt (512 + x) : ℝ))
    (k2 : ∀ x : Fin 512, v2 (ix2 (y 2) x) = (vt (1024 + x) : ℝ)) (k3 : ∀ x : Fin 512, v3 (ix2 (y 2) x) = (vt (1536 + x) : ℝ))
    (hg : g y = γ) :
    blockOut m s0 s1 s2 s3 v0 v1 v2 v3 g y
      = (((∑ s ∈ Finset.range 2048, vt s * (2 : ℝ) ^ sc s) / (∑ s ∈ Finset.range 2048, (2 : ℝ) ^ sc s) * (γ * Real.tanh γ + γ) : ℝ) : EReal) := by
  pointwise [blockOut]
  obtain ⟨M, hM⟩ := greatest m hm (y 1)
  have e2 : ∀ a b : ℝ, (FloatOps.exp2 (F := Ideal) (φ := FTy.f32) ((a : EReal) - (b : EReal)) : EReal) = (((2 : ℝ) ^ a / (2 : ℝ) ^ b : ℝ) : EReal) := exp2_sub
  have th : Ideal.tanh (γ : EReal) = (Real.tanh γ : ℝ) := rfl
  have one : (1 : EReal) = ((1 : ℝ) : EReal) := rfl
  rw [hM]
  simp only [h0, h1, h2, h3, k0, k1, k2, k3, hg, e2, th, one, ← EReal.coe_mul, coe_sum, ← EReal.coe_add]
  rw [four (fun s => vt s * ((2 : ℝ) ^ sc s / (2 : ℝ) ^ M))]
  simp only [Finset.sum_add_distrib, eights (fun s => (2 : ℝ) ^ sc (0 + s) / (2 : ℝ) ^ M), eights (fun s => (2 : ℝ) ^ sc (512 + s) / (2 : ℝ) ^ M),
    eights (fun s => (2 : ℝ) ^ sc (1024 + s) / (2 : ℝ) ^ M), eights (fun s => (2 : ℝ) ^ sc (1536 + s) / (2 : ℝ) ^ M)]
  rw [four (fun s => (2 : ℝ) ^ sc s / (2 : ℝ) ^ M)]
  have hp : ∑ s ∈ Finset.range 2048, (2 : ℝ) ^ sc s / (2 : ℝ) ^ M ≠ 0 := by
    rw [← Finset.sum_div]
    exact (div_pos (weights_pos sc) (Real.rpow_pos_of_pos (by norm_num) M)).ne'
  rw [div_real _ _ hp, ← EReal.coe_mul, ← EReal.coe_mul, shift]

end Cert.KernelIdeal.Attention
end
-- ==== Proof.AttentionTripValue.lean ====
module

public import proofs.«01_k».proof.Proof.AttentionTrips
public import proofs.«01_k».proof.Proof.AttentionBlock
public import Idealize.ShloMosaic.Lib.Pipeline.ReadBack
public import Idealize.ShloMosaic.Lib.WritesUnit

/-! What one trip of the attending loop writes, over the reals. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL.Sem
open Cert.KernelIdeal.Gen Cert.AttentionMath

/-- A load behind four stores elsewhere reads what was stored before them. -/
theorem read_slot (arg14 : Memref sig .tc .vmem S2x4x512x256 .f32) (r0 r1 r2 r3 r : Rect S2x4x512x256)
    (w0 : r0.shape.Idx → Elt Ideal .f32) (w1 : r1.shape.Idx → Elt Ideal .f32) (w2 : r2.shape.Idx → Elt Ideal .f32) (w3 : r3.shape.Idx → Elt Ideal .f32)
    (w : r.shape.Idx → Elt Ideal .f32) (L : List (View.Piece (Elt Ideal) S2x4x512x256 .f32))
    (h0 : LoadRect.disj r0 r.toLoadRect = true) (h1 : LoadRect.disj r1 r.toLoadRect = true) (h2 : LoadRect.disj r2 r.toLoadRect = true) (h3 : LoadRect.disj r3 r.toLoadRect = true) :
    arg14.view.readCov (⟨r0, w0⟩ :: ⟨r1, w1⟩ :: ⟨r2, w2⟩ :: ⟨r3, w3⟩ :: ⟨r, w⟩ :: L) r.toLoadRect = w := by
  rw [View.readCov_skip _ _ _ _ _ h0, View.readCov_skip _ _ _ _ _ h1, View.readCov_skip _ _ _ _ _ h2, View.readCov_skip _ _ _ _ _ h3, View.readCov_cons_toLoadRect]

variable {arg5 : Memref sig .tc .vmem S1x2048x512 .f32} {arg11 : Memref sig .tc .vmem S2048x128 .bf16} {arg12 : Memref sig .tc .vmem S128x2048 .bf16} {arg13 : Memref sig .tc .vmem S8192x128 .bf16}
  {X5 : BufTy.Contents (Elt Ideal) arg5.view.ty} {X11 : BufTy.Contents (Elt Ideal) arg11.view.ty} {X12 : BufTy.Contents (Elt Ideal) arg12.view.ty} {X13 : BufTy.Contents (Elt Ideal) arg13.view.ty}
  {KR VT QR GA : ℕ → ℕ → ℝ}

/-- What the attending trips read holds these reals. -/
structure Tables (X5 : BufTy.Contents (Elt Ideal) arg5.view.ty) (X11 : BufTy.Contents (Elt Ideal) arg11.view.ty) (X12 : BufTy.Contents (Elt Ideal) arg12.view.ty) (X13 : BufTy.Contents (Elt Ideal) arg13.view.ty)
    (KR VT QR GA : ℕ → ℕ → ℝ) : Prop where
  h5 : ∀ y : S1x2048x512.Idx, arg5.view.read (Elt Ideal) X5 y = (GA (y 1) (y 2) : ℝ)
  h11 : ∀ y : S2048x128.Idx, arg11.view.read (Elt Ideal) X11 y = (KR (y 0) (y 1) : ℝ)
  h12 : ∀ y : S128x2048.Idx, arg12.view.read (Elt Ideal) X12 y = (VT (y 1) (y 0) : ℝ)
  h13 : ∀ y : S8192x128.Idx, arg13.view.read (Elt Ideal) X13 y = (QR (y 0) (y 1) : ℝ)

/-- A place of a unit-stride rectangle is its offset and the place within. -/
theorem unit_val {S : Shape} (off size : Fin S.rank → ℕ) (inb : ∀ a, off a + size a ≤ S.size a) (x : (Rect.unit (s := S) off size inb).shape.Idx) (a : Fin S.rank) :
    ((Rect.unit (s := S) off size inb).idx x a : ℕ) = off a + x a := congrArg (off a + ·) (Nat.one_mul _)

theorem score_real (T : Tables X5 X11 X12 X13 KR VT QR GA) (ok oq : Fin 2 → ℕ) (ik : ∀ a, ok a + S512x128.size a ≤ S2048x128.size a) (iq : ∀ a, oq a + S256x128.size a ≤ S8192x128.size a)
    (hk : ok 1 = 0) (hq : oq 1 = 0) (x : Fin 512) (w : Fin 256) :
    score (F := Ideal) (arg11.view.readAt (Elt Ideal) (Rect.unit (s := S2048x128) ok S512x128.size ik).toLoadRect X11) (arg13.view.readAt (Elt Ideal) (Rect.unit (s := S8192x128) oq S256x128.size iq).toLoadRect X13) (ix2 x w)
      = (scoreOf KR QR (oq 0 + w) (ok 0 + x) : ℝ) := by
  rw [View.readAt_eq_ld, View.readAt_eq_ld]
  pointwise []
  have n : ∀ d : ℕ, 0 + d = d := Nat.zero_add
  refine (Finset.sum_congr rfl fun d _ => congrArg₂ (fun a b : EReal => a * b)
    ((T.h11 _).trans (congrArg (fun r : ℝ => (r : EReal)) (congrArg (KR (ok 0 + x)) (show ok 1 + d.val = d.val by rw [hk, n]))))
    ((T.h13 _).trans (congrArg (fun r : ℝ => (r : EReal)) (congrArg (QR (oq 0 + w)) (show oq 1 + d.val = d.val by rw [hq, n]))))).trans ?_
  simp only [← EReal.coe_mul, coe_sum]
  rw [Fin.sum_univ_eq_sum_range (fun d => KR (ok 0 + x) d * QR (oq 0 + w) d)]
  rfl

theorem slab_real (T : Tables X5 X11 X12 X13 KR VT QR GA) (ok oq : Fin 2 → ℕ) (ik : ∀ a, ok a + S512x128.size a ≤ S2048x128.size a) (iq : ∀ a, oq a + S256x128.size a ≤ S8192x128.size a)
    (hk : ok 1 = 0) (hq : oq 1 = 0) (x : Fin 512) (w : Fin 256) :
    slab (F := Ideal) (arg11.view.readAt (Elt Ideal) (Rect.unit (s := S2048x128) ok S512x128.size ik).toLoadRect X11) (arg13.view.readAt (Elt Ideal) (Rect.unit (s := S8192x128) oq S256x128.size iq).toLoadRect X13) (ix4 0 0 x w)
      = (scoreOf KR QR (oq 0 + w) (ok 0 + x) : ℝ) := by
  refine Eq.trans ?_ (score_real T ok oq ik iq hk hq x w)
  unfold slab
  generalize score (F := Ideal) _ _ = v
  pointwise []

/-- Scores read back from the score buffer behind four stores elsewhere. -/
theorem slot_real (T : Tables X5 X11 X12 X13 KR VT QR GA) (arg14 : Memref sig .tc .vmem S2x4x512x256 .f32) (q : ℕ) (ok oq : Fin 2 → ℕ) (ik : ∀ a, ok a + S512x128.size a ≤ S2048x128.size a) (iq : ∀ a, oq a + S256x128.size a ≤ S8192x128.size a)
    (r0 r1 r2 r3 : Rect S2x4x512x256) (o : Fin 4 → ℕ) (io : ∀ a, o a + S1x1x512x256.size a ≤ S2x4x512x256.size a)
    (w0 : r0.shape.Idx → Elt Ideal .f32) (w1 : r1.shape.Idx → Elt Ideal .f32) (w2 : r2.shape.Idx → Elt Ideal .f32) (w3 : r3.shape.Idx → Elt Ideal .f32)
    (L : List (View.Piece (Elt Ideal) S2x4x512x256 .f32)) (hk : ok 1 = 0) (hq1 : oq 1 = 0) (hq0 : oq 0 = q)
    (h0 : LoadRect.disj r0 (Rect.unit (s := S2x4x512x256) o S1x1x512x256.size io).toLoadRect = true) (h1 : LoadRect.disj r1 (Rect.unit (s := S2x4x512x256) o S1x1x512x256.size io).toLoadRect = true)
    (h2 : LoadRect.disj r2 (Rect.unit (s := S2x4x512x256) o S1x1x512x256.size io).toLoadRect = true) (h3 : LoadRect.disj r3 (Rect.unit (s := S2x4x512x256) o S1x1x512x256.size io).toLoadRect = true)
    (x : Fin 512) (w : Fin 256) :
    (show FVec Ideal S1x1x512x256 .f32 from arg14.view.readCov (⟨r0, w0⟩ :: ⟨r1, w1⟩ :: ⟨r2, w2⟩ :: ⟨r3, w3⟩ :: ⟨Rect.unit (s := S2x4x512x256) o S1x1x512x256.size io,
        slab (F := Ideal) (arg11.view.readAt (Elt Ideal) (Rect.unit (s := S2048x128) ok S512x128.size ik).toLoadRect X11) (arg13.view.readAt (Elt Ideal) (Rect.unit (s := S8192x128) oq S256x128.size iq).toLoadRect X13)⟩ :: L)
      (Rect.unit (s := S2x4x512x256) o S1x1x512x256.size io).toLoadRect) (ix4 0 0 x w)
      = (scoreOf KR QR (q + w) (ok 0 + x) : ℝ) := by
  subst hq0
  exact (congrFun (read_slot arg14 r0 r1 r2 r3 _ w0 w1 w2 w3 _ L h0 h1 h2 h3) _).trans (slab_real T ok oq ik iq hk hq1 x w)

/-- The scores of 512 keys from row `o` on against the 256 queries at the offset `oq`. -/
abbrev chunk (arg11 : Memref sig .tc .vmem S2048x128 .bf16) (arg13 : Memref sig .tc .vmem S8192x128 .bf16) (X11 : BufTy.Contents (Elt Ideal) arg11.view.ty) (X13 : BufTy.Contents (Elt Ideal) arg13.view.ty)
    (ok oq : Fin 2 → ℕ) (ik : ∀ a, ok a + S512x128.size a ≤ S2048x128.size a) (iq : ∀ a, oq a + S256x128.size a ≤ S8192x128.size a) : FVec Ideal S512x256 .f32 :=
  score (arg11.view.readAt (Elt Ideal) (Rect.unit (s := S2048x128) ok S512x128.size ik).toLoadRect X11) (arg13.view.readAt (Elt Ideal) (Rect.unit (s := S8192x128) oq S256x128.size iq).toLoadRect X13)

/-- The running maximum over a block's four chunks is real. -/
theorem max_real (T : Tables X5 X11 X12 X13 KR VT QR GA) (v12 : FVec Ideal S8x256 .f32) (hv : ∀ z, v12 z = ⊥) (oq : Fin 2 → ℕ) (iq : ∀ a, oq a + S256x128.size a ≤ S8192x128.size a) (hq : oq 1 = 0) (z : S8x256.Idx) :
    ∃ r : ℝ, maxed (maxed (maxed (maxed v12 (chunk arg11 arg13 X11 X13 ![0, 0] oq inb_S2048x128_S512x128_0_0 iq)) (chunk arg11 arg13 X11 X13 ![512, 0] oq inb_S2048x128_S512x128_512_0 iq))
      (chunk arg11 arg13 X11 X13 ![1024, 0] oq inb_S2048x128_S512x128_1024_0 iq)) (chunk arg11 arg13 X11 X13 ![1536, 0] oq inb_S2048x128_S512x128_1536_0 iq) z = r := by
  have h : ∀ (ok : Fin 2 → ℕ) (ik), ok 1 = 0 → ∀ z, ∃ r : ℝ, chunk arg11 arg13 X11 X13 ok oq ik iq z = r := by
    intro ok ik hk z
    obtain ⟨x, w, rfl⟩ : ∃ (x : Fin 512) (w : Fin 256), z = ix2 x w := ⟨z 0, z 1, by funext a; fin_cases a <;> rfl⟩
    exact ⟨_, score_real T ok oq ik iq hk hq x w⟩
  exact maxed_real _ _ (fun z => .inr (maxed_real _ _ (fun z => .inr (maxed_real _ _ (fun z => .inr (maxed_real _ _ (fun z => .inl (hv z)) (h _ _ rfl) z)) (h _ _ rfl) z)) (h _ _ rfl) z)) (h _ _ rfl) z

/-- A block's output from the scores of its queries. -/
theorem piece_real (T : Tables X5 X11 X12 X13 KR VT QR GA) (m : FVec Ideal S8x256 .f32) (s0 s1 s2 s3 : FVec Ideal S1x1x512x256 .f32) (og : Fin 3 → ℕ) (ig : ∀ a, og a + S1x256x128.size a ≤ S1x2048x512.size a)
    (q : ℕ) (z : S1x256x128.Idx) (hm : ∀ z, ∃ r : ℝ, m z = r)
    (h0 : ∀ (x : Fin 512) (w : Fin 256), s0 (ix4 0 0 x w) = (scoreOf KR QR (q + w) (0 + x) : ℝ)) (h1 : ∀ (x : Fin 512) (w : Fin 256), s1 (ix4 0 0 x w) = (scoreOf KR QR (q + w) (512 + x) : ℝ))
    (h2 : ∀ (x : Fin 512) (w : Fin 256), s2 (ix4 0 0 x w) = (scoreOf KR QR (q + w) (1024 + x) : ℝ)) (h3 : ∀ (x : Fin 512) (w : Fin 256), s3 (ix4 0 0 x w) = (scoreOf KR QR (q + w) (1536 + x) : ℝ))
    (hg : og 2 % 128 = 0) (hq : q = 2048 * (og 2 / 128) + og 1) :
    blockOut m s0 s1 s2 s3 (arg12.view.readAt (Elt Ideal) (Rect.unit (s := S128x2048) ![0, 0] S128x512.size inb_S128x2048_S128x512_0_0).toLoadRect X12)
      (arg12.view.readAt (Elt Ideal) (Rect.unit (s := S128x2048) ![0, 512] S128x512.size inb_S128x2048_S128x512_0_512).toLoadRect X12)
      (arg12.view.readAt (Elt Ideal) (Rect.unit (s := S128x2048) ![0, 1024] S128x512.size inb_S128x2048_S128x512_0_1024).toLoadRect X12)
      (arg12.view.readAt (Elt Ideal) (Rect.unit (s := S128x2048) ![0, 1536] S128x512.size inb_S128x2048_S128x512_0_1536).toLoadRect X12)
      (arg5.view.readAt (Elt Ideal) (Rect.unit (s := S1x2048x512) og S1x256x128.size ig).toLoadRect X5) z
      = (outOf KR VT QR GA ((Rect.unit (s := S1x2048x512) og S1x256x128.size ig).idx z 1) ((Rect.unit (s := S1x2048x512) og S1x256x128.size ig).idx z 2) : ℝ) := by
  have hz : (z 2).val < 128 := (z 2).isLt
  have e1 := unit_val (S := S1x2048x512) og _ ig z 1
  have e2 := unit_val (S := S1x2048x512) og _ ig z 2
  have hv : ∀ (ov : Fin 2 → ℕ) (iv : ∀ a, ov a + S128x512.size a ≤ S128x2048.size a), ov 0 = 0 → ∀ x : Fin 512,
      arg12.view.readAt (Elt Ideal) (Rect.unit (s := S128x2048) ov S128x512.size iv).toLoadRect X12 (ix2 (z 2) x) = (VT (ov 1 + x) (z 2) : ℝ) := by
    intro ov iv h0 x
    rw [View.readAt_eq_ld]
    refine (T.h12 _).trans (congrArg (fun r : ℝ => (r : EReal)) (congrArg₂ VT (unit_val (S := S128x2048) ov _ iv (ix2 (z 2) x) 1) ((unit_val (S := S128x2048) ov _ iv (ix2 (z 2) x) 0).trans ?_)))
    rw [h0]; exact Nat.zero_add _
  refine (blockOut_real m s0 s1 s2 s3 _ _ _ _ _ (fun s => scoreOf KR QR (q + (z 1 : ℕ)) s) (fun s => VT s (z 2 : ℕ)) (GA (og 1 + (z 1 : ℕ)) (og 2 + (z 2 : ℕ))) z hm
    (fun x => h0 x (z 1)) (fun x => h1 x (z 1)) (fun x => h2 x (z 1)) (fun x => h3 x (z 1)) (hv _ _ rfl) (hv _ _ rfl) (hv _ _ rfl) (hv _ _ rfl) ?_).trans ?_
  · rw [View.readAt_eq_ld]
    exact (T.h5 _).trans (congrArg (fun r : ℝ => (r : EReal)) (congrArg₂ GA e1 e2))
  · refine congrArg (fun r : ℝ => (r : EReal)) ?_
    rw [e1, e2]
    unfold outOf
    rw [show (og 2 + (z 2).val) % 128 = z 2 by omega, show 2048 * ((og 2 + (z 2).val) / 128) + (og 1 + (z 1).val) = q + z 1 by omega]

/-- The pieces that a trip writes into the output block are its reals. -/
theorem attend_out (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec Ideal S8x256 .f32) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (k : Fin k0_t2_loop.trips) (acc : FVec Ideal S8x256 .f32) (f14 : BufTy.Contents (Elt Ideal) arg14.view.ty) (T : Tables X5 X11 X12 X13 KR VT QR GA) (hv : ∀ z, v12 z = ⊥) (hacc : ∀ z, ∃ r : ℝ, acc z = r)
    (h14 : ∀ (j : Fin 4) (x : Fin 512) (w : Fin 256), arg14.view.read (Elt Ideal) f14 (ix4 0 j x w) = (scoreOf KR QR (1024 * k.val + w) (512 * j.val + x) : ℝ)) :
    ∀ p ∈ (attendTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14).1, ∀ z : p.1.shape.Idx, p.2 z = ((outOf KR VT QR GA (p.1.idx z 1) (p.1.idx z 2) : ℝ) : EReal) := by
  unfold attendTrip
  intro p hp z
  simp only [List.mem_cons, List.not_mem_nil, or_false] at hp
  rcases hp with rfl | rfl | rfl | rfl | rfl | rfl | rfl | rfl | rfl | rfl | rfl | rfl | rfl | rfl | rfl | rfl
  case' inr.inr.inr.inr.inr.inr.inr.inr.inr.inr.inr.inr.inr.inr.inr =>
    dsimp only
    have hs : ∀ (j : Fin 4) (o : Fin 4 → ℕ) (io : ∀ a, o a + S1x1x512x256.size a ≤ S2x4x512x256.size a), o = ![0, j.val, 0, 0] → ∀ (x : Fin 512) (w : Fin 256),
        arg14.view.readAt (Elt Ideal) (Rect.unit (s := S2x4x512x256) o S1x1x512x256.size io).toLoadRect f14 (ix4 0 0 x w) = (scoreOf KR QR (1024 * k.val + w) (512 * j.val + x) : ℝ) := by
      intro j o io ho x w
      rw [View.readAt_eq_ld, ← h14]
      refine congrArg (arg14.view.read (Elt Ideal) f14) (funext fun a => Fin.ext ((unit_val (S := S2x4x512x256) o _ io (ix4 0 0 x w) a).trans ?_))
      subst ho
      fin_cases a
      · rfl
      · rfl
      · exact Nat.zero_add _
      · exact Nat.zero_add _
    refine piece_real T _ _ _ _ _ _ _ (1024 * k.val) z hacc (fun x w => hs 0 _ _ rfl x w) (fun x w => hs 1 _ _ rfl x w) (fun x w => hs 2 _ _ rfl x w) (fun x w => hs 3 _ _ rfl x w) ?_ ?_
  any_goals
    dsimp only
    refine piece_real T _ _ _ _ _ _ _ _ z (max_real T v12 hv _ _ ?_)
      (slot_real T arg14 _ ![0, 0] _ _ _ _ _ _ _ _ _ _ _ _ _ _ rfl ?_ ?_ ?_ ?_ ?_ ?_) (slot_real T arg14 _ ![512, 0] _ _ _ _ _ _ _ _ _ _ _ _ _ _ rfl ?_ ?_ ?_ ?_ ?_ ?_)
      (slot_real T arg14 _ ![1024, 0] _ _ _ _ _ _ _ _ _ _ _ _ _ _ rfl ?_ ?_ ?_ ?_ ?_ ?_) (slot_real T arg14 _ ![1536, 0] _ _ _ _ _ _ _ _ _ _ _ _ _ _ rfl ?_ ?_ ?_ ?_ ?_ ?_) ?_ rfl
  all_goals first
    | rfl
    | decide +kernel
    | (clear * - k; revert k; decide +kernel)

/-- Reading the first slot of the score buffer behind the stores of its four chunks. -/
theorem slots (arg14 : Memref sig .tc .vmem S2x4x512x256 .f32) (f : BufTy.Contents (Elt Ideal) arg14.view.ty) (w0 w1 w2 w3 : FVec Ideal S1x1x512x256 .f32)
    (L : List (View.Piece (Elt Ideal) S2x4x512x256 .f32)) (G : ℕ → ℕ → ℝ)
    (h0 : ∀ (x : Fin 512) (w : Fin 256), w0 (ix4 0 0 x w) = (G w (0 + x) : ℝ)) (h1 : ∀ (x : Fin 512) (w : Fin 256), w1 (ix4 0 0 x w) = (G w (512 + x) : ℝ))
    (h2 : ∀ (x : Fin 512) (w : Fin 256), w2 (ix4 0 0 x w) = (G w (1024 + x) : ℝ)) (h3 : ∀ (x : Fin 512) (w : Fin 256), w3 (ix4 0 0 x w) = (G w (1536 + x) : ℝ))
    (j : Fin 4) (x : Fin 512) (w : Fin 256) :
    arg14.view.read (Elt Ideal) (arg14.view.writes (Elt Ideal) f (⟨Rect.unit (s := S2x4x512x256) ![0, 3, 0, 0] S1x1x512x256.size inb_S2x4x512x256_S1x1x512x256_0_3_0_0, w3⟩
      :: ⟨Rect.unit (s := S2x4x512x256) ![0, 2, 0, 0] S1x1x512x256.size inb_S2x4x512x256_S1x1x512x256_0_2_0_0, w2⟩ :: ⟨Rect.unit (s := S2x4x512x256) ![0, 1, 0, 0] S1x1x512x256.size inb_S2x4x512x256_S1x1x512x256_0_1_0_0, w1⟩
      :: ⟨Rect.unit (s := S2x4x512x256) ![0, 0, 0, 0] S1x1x512x256.size inb_S2x4x512x256_S1x1x512x256_0_0_0_0, w0⟩ :: L)) (ix4 0 j x w) = (G w (512 * j.val + x) : ℝ) := by
  have hit : ∀ (o : Fin 4 → ℕ) (io) (wj : FVec Ideal S1x1x512x256 .f32) (L : List (View.Piece (Elt Ideal) S2x4x512x256 .f32)), o = ![0, j.val, 0, 0] →
      arg14.view.read (Elt Ideal) (arg14.view.writes (Elt Ideal) f (⟨Rect.unit (s := S2x4x512x256) o S1x1x512x256.size io, wj⟩ :: L)) (ix4 0 j x w) = wj (ix4 0 0 x w) := by
    intro o io wj L ho
    refine View.read_writes_cons_unit_of_mem _ f io wj L _ (ix4 0 0 x w) ho fun a => ?_
    fin_cases a
    · rfl
    · rfl
    · exact (Nat.zero_add _).symm
    · exact (Nat.zero_add _).symm
  have miss : ∀ (i : ℕ) (o : Fin 4 → ℕ) (io) (wj : FVec Ideal S1x1x512x256 .f32) (L : List (View.Piece (Elt Ideal) S2x4x512x256 .f32)), o = ![0, i, 0, 0] → j.val < i →
      arg14.view.read (Elt Ideal) (arg14.view.writes (Elt Ideal) f (⟨Rect.unit (s := S2x4x512x256) o S1x1x512x256.size io, wj⟩ :: L)) (ix4 0 j x w)
        = arg14.view.read (Elt Ideal) (arg14.view.writes (Elt Ideal) f L) (ix4 0 j x w) := by
    intro i o io wj L ho hj
    exact View.read_writes_cons_unit_of_not_mem _ f io wj L _ ho 1 (.inl hj)
  fin_cases j
  · rw [miss 3 _ _ _ _ rfl (by decide), miss 2 _ _ _ _ rfl (by decide), miss 1 _ _ _ _ rfl (by decide), hit _ _ _ _ rfl]; exact h0 x w
  · rw [miss 3 _ _ _ _ rfl (by decide), miss 2 _ _ _ _ rfl (by decide), hit _ _ _ _ rfl]; exact h1 x w
  · rw [miss 3 _ _ _ _ rfl (by decide), hit _ _ _ _ rfl]; exact h2 x w
  · rw [hit _ _ _ _ rfl]; exact h3 x w

/-- A trip leaves the scores of the next trip's first block, of the last trip's own at the end. -/
theorem attend_slot (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec Ideal S8x256 .f32) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (k : Fin k0_t2_loop.trips) (acc : FVec Ideal S8x256 .f32) (f14 : BufTy.Contents (Elt Ideal) arg14.view.ty) (T : Tables X5 X11 X12 X13 KR VT QR GA) (j : Fin 4) (x : Fin 512) (w : Fin 256) :
    arg14.view.read (Elt Ideal) (arg14.view.writes (Elt Ideal) f14 (attendTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14).2.1) (ix4 0 j x w) = (scoreOf KR QR (1024 * min (k.val + 1) 1 + w) (512 * j.val + x) : ℝ) := by
  unfold attendTrip
  have e : k0_off14 k 0 = 1024 * min (k.val + 1) 1 := by clear * - k; revert k; decide +kernel
  rw [← e]
  exact slots arg14 f14 _ _ _ _ _ (fun w s => scoreOf KR QR (k0_off14 k 0 + w) s) (slab_real T ![0, 0] _ _ _ rfl rfl) (slab_real T ![512, 0] _ _ _ rfl rfl)
    (slab_real T ![1024, 0] _ _ _ rfl rfl) (slab_real T ![1536, 0] _ _ _ rfl rfl) j x w

/-- What a trip carries on is real. -/
theorem attend_next (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec Ideal S8x256 .f32) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (k : Fin k0_t2_loop.trips) (acc : FVec Ideal S8x256 .f32) (f14 : BufTy.Contents (Elt Ideal) arg14.view.ty) (T : Tables X5 X11 X12 X13 KR VT QR GA) (hv : ∀ z, v12 z = ⊥) (z : S8x256.Idx) :
    ∃ r : ℝ, (attendTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14).2.2.1 z = r := by
  unfold attendTrip
  exact max_real T v12 hv _ _ rfl z

end Cert.KernelIdeal.Attention

end
-- ==== Proof.AttentionRope.lean ====
module

public import proofs.«01_k».proof.Proof.Gen.KernelIdeal.Frame
public import proofs.«01_k».proof.Proof.Gen.KernelIdeal.Loops
public import proofs.«01_k».proof.Proof.AttentionMath
public import Idealize.ShloMosaic.Lib.Pipeline.ValueKit

/-! The normed and rotated rows that the attention's preparing loop makes of the keys and the queries. -/

@[expose] public section

set_option maxRecDepth 16384
set_option maxHeartbeats 4000000

noncomputable section

namespace Cert.KernelIdeal.Attention

open Idealize.ShloMosaic Idealize.ShloMosaic.TcCoe Idealize.ShloMosaic.Tactic
open Cert.KernelIdeal.Gen Cert.AttentionMath

variable {F : FTy → Type} [FloatOps F] [Named F]

/-- A block of 256 rows scaled to unit mean square and by the gain; the sum of squares is taken in two parts. -/
def scaled (v : FVec F S1x256x128 .f32) (gain : FVec F S1x128 .f32) : FVec F S256x128 .f32 :=
  let x : FVec F S256x128 .f32 := shapeCast S256x128 v shapeCasts_S1x256x128_S256x128
  let sq : FVec F S256x128 .f32 := mulf x x
  let hi : FVec F S256x128 .bf16 := truncf .bf16 sq bitsLt_bf16_f32
  let lo : FVec F S256x128 .bf16 := truncf .bf16 (subf sq (extf .f32 hi bitsLt_bf16_f32)) bitsLt_bf16_f32
  mulf (mulf x (rsqrt (addf (mulf (matmul dot_S256x256_S256x128_S256x128_1_0_0_1_n_n none
      (concatenate S256x256 1 [⟨S256x128, hi⟩, ⟨S256x128, lo⟩] concatenates_S256x128_S256x128_S256x256_d1)
      (broadcast S256x128 (FloatOps.ofBits .bf16 0x3F80#16)) (constant S256x128 .f32 0x00000000#32))
      (broadcast S256x128 (FloatOps.ofBits .f32 0x3C000000#32))) (broadcast S256x128 (FloatOps.ofBits .f32 0x358637BD#32)))))
    (broadcastTo S256x128 (shapeCast S1x128 gain shapeCasts_S1x128_S1x128) broadcasts_S1x128_S256x128)

/-- The lane's residue modulo 64. -/
def lane : IVec S256x128 32 :=
  let l : IVec S256x128 32 := remsi (iota .tc S256x128 32 [1] iota_S256x128_d1_w32) (broadcast S256x128 64#32)
  select (andi (xori (cmpi .slt l (broadcast S256x128 0#32)) (broadcastTo S256x128 (broadcast S256x128 0#1) broadcasts_S256x128_S256x128)) (cmpi .ne l (broadcast S256x128 0#32)))
    (addi l (broadcast S256x128 64#32)) l

/-- The rows rotated by the tables. -/
def rotated (x c s : FVec F S256x128 .f32) : FVec F S256x128 .f32 :=
  addf (mulf x c) (mulf (select (cmpi .slt lane (broadcast S256x128 32#32)) (dynamicRotate 1 96#32 none x rotates_S256x128_d1) (dynamicRotate 1 32#32 none x rotates_S256x128_d1)) s)

theorem lane_val (y : S256x128.Idx) : IntOp.cmpi .slt (lane y) 32#32 = if (y 1).val % 64 < 32 then 1#1 else 0#1 := by
  pointwise [lane]
  have h : ∀ d : Fin 128, IntOp.cmpi .slt (Scalar.select (IntOp.andi (IntOp.xori (IntOp.cmpi .slt (IntOp.remsi .vector (BitVec.ofNat 32 d.val) 64#32) 0#32) 0#1)
      (IntOp.cmpi .ne (IntOp.remsi .vector (BitVec.ofNat 32 d.val) 64#32) 0#32)) (IntOp.addi (IntOp.remsi .vector (BitVec.ofNat 32 d.val) 64#32) 64#32)
      (IntOp.remsi .vector (BitVec.ofNat 32 d.val) 64#32)) 32#32 = if d.val % 64 < 32 then 1#1 else 0#1 := by decide +kernel
  exact h (y 1)

theorem rotated_real (x c s : FVec Ideal S256x128 .f32) (X C S : ℕ → ℝ) (r : Fin 256) (d : Fin 128) (hx : ∀ d : Fin 128, x (ix2 r d) = (X d : ℝ))
    (hc : c (ix2 r d) = (C d : ℝ)) (hs : s (ix2 r d) = (S d : ℝ)) : rotated x c s (ix2 r d) = (rope X C S d : ℝ) := by
  have hl := lane_val (ix2 r d)
  change IntOp.cmpi .slt (lane (ix2 r d)) 32#32 = if d.val % 64 < 32 then 1#1 else 0#1 at hl
  have hd := d.isLt
  pointwise [rotated]
  rw [hl, hx, hc, hs, hx, hx]
  unfold rope
  split
  · rw [show ∀ a b : EReal, Scalar.select (1#1) a b = a from fun _ _ => rfl, ← EReal.coe_mul, ← EReal.coe_mul, ← EReal.coe_add]
    dsimp only
    rw [show (d.val + 128 - 96) % 128 = d.val + 32 by omega]
  · rw [show ∀ a b : EReal, Scalar.select (0#1) a b = b from fun _ _ => rfl, ← EReal.coe_mul, ← EReal.coe_mul, ← EReal.coe_add]
    dsimp only
    rw [show (d.val + 128 - 32) % 128 = d.val - 32 by omega]

theorem scaled_real (v : FVec Ideal S1x256x128 .f32) (g : FVec Ideal S1x128 .f32) (X G : ℕ → ℝ) (r : Fin 256) (d : Fin 128)
    (hv : ∀ d : Fin 128, v (ix3 0 r d) = (X d : ℝ)) (hg : ∀ d : Fin 128, g (ix2 0 d) = (G d : ℝ)) :
    scaled v g (ix2 r d) = (normed X G d : ℝ) := by
  pointwise [scaled]
  simp only [hv, hg, part_bits, eps_bits, ← EReal.coe_mul, ← EReal.coe_sub, sub_self, coe_sum, ← EReal.coe_add, Finset.sum_const_zero, add_zero]
  rw [Fin.sum_univ_eq_sum_range (fun j => X j * X j), mul_one_div, rsqrt_real, ← EReal.coe_mul, ← EReal.coe_mul]
  rfl

/-- A block of keys, as the kernel makes it. -/
def keys (v : FVec F S1x256x128 .f32) (gain : FVec F S1x128 .f32) (c s : FVec F S256x128 .f32) : FVec F S256x128 .bf16 :=
  shapeCast S256x128 (truncf .bf16 (rotated (scaled v gain) (shapeCast S256x128 c shapeCasts_S256x128_S256x128) (shapeCast S256x128 s shapeCasts_S256x128_S256x128)) bitsLt_bf16_f32) shapeCasts_S256x128_S256x128

/-- A block of queries, as the kernel makes it. -/
def queries (v : FVec F S1x256x128 .f32) (gain : FVec F S1x128 .f32) (c s : FVec F S256x128 .f32) : FVec F S256x128 .bf16 :=
  shapeCast S256x128 (truncf .bf16 (mulf (rotated (scaled v gain) (shapeCast S256x128 c shapeCasts_S256x128_S256x128) (shapeCast S256x128 s shapeCasts_S256x128_S256x128))
    (broadcast S256x128 (Named.named κ "q_scale" 0x3E0293EE#32))) bitsLt_bf16_f32) shapeCasts_S256x128_S256x128

/-- A block of values turned over by the product with the identity, as the kernel makes it. -/
def turned (v : FVec F S1x256x128 .f32) : FVec F S128x256 .bf16 :=
  shapeCast S128x256 (truncf .bf16 (matmul dot_S128x128_S256x128_S128x256_1_1_0_0_n_n none k0_pay415
    (truncf .bf16 (shapeCast S256x128 v shapeCasts_S1x256x128_S256x128) bitsLt_bf16_f32) (constant S128x256 .f32 0x00000000#32)) bitsLt_bf16_f32) shapeCasts_S128x256_S128x256

theorem keys_real (v : FVec Ideal S1x256x128 .f32) (g : FVec Ideal S1x128 .f32) (c s : FVec Ideal S256x128 .f32) (X G C S : ℕ → ℝ) (r : Fin 256) (d : Fin 128)
    (hv : ∀ d : Fin 128, v (ix3 0 r d) = (X d : ℝ)) (hg : ∀ d : Fin 128, g (ix2 0 d) = (G d : ℝ))
    (hc : c (ix2 r d) = (C d : ℝ)) (hs : s (ix2 r d) = (S d : ℝ)) : keys v g c s (ix2 r d) = (rope (normed X G) C S d : ℝ) := by
  pointwise [keys]
  refine rotated_real _ _ _ (normed X G) C S r d (fun d => scaled_real v g X G r _ hv hg) hc hs

theorem queries_real (v : FVec Ideal S1x256x128 .f32) (g : FVec Ideal S1x128 .f32) (c s : FVec Ideal S256x128 .f32) (X G C S : ℕ → ℝ) (r : Fin 256) (d : Fin 128)
    (hv : ∀ d : Fin 128, v (ix3 0 r d) = (X d : ℝ)) (hg : ∀ d : Fin 128, g (ix2 0 d) = (G d : ℝ))
    (hc : c (ix2 r d) = (C d : ℝ)) (hs : s (ix2 r d) = (S d : ℝ)) : queries v g c s (ix2 r d) = (rope (normed X G) C S d * scale : ℝ) := by
  have e := rotated_real (scaled v g) c s (normed X G) C S r d (fun d => scaled_real v g X G r _ hv hg) hc hs
  have n : (Named.named (F := Ideal) κ "q_scale" 0x3E0293EE#32 : Ideal .f32) = ((scale : ℝ) : EReal) := IdealRules.named_const.ideal_named_scalar _ _ _ _ rfl
  pointwise [queries]
  rw [e, n, ← EReal.coe_mul]

theorem turned_val (v : FVec Ideal S1x256x128 .f32) (d : Fin 128) (r : Fin 256) : turned v (ix2 d r) = v (ix3 0 r d) := by
  pointwise [turned, k0_pay415]
  have h : ∀ d x : Fin 128, IntOp.cmpi .eq (BitVec.ofNat 32 d.val) (BitVec.ofNat 32 x.val) = if d = x then 1#1 else 0#1 := by decide +kernel
  have e : ∀ x : Fin 128, Scalar.select (IntOp.cmpi .eq (BitVec.ofNat 32 d.val) (BitVec.ofNat 32 x.val)) (v (ix3 0 r x)) (0 : EReal) = if d = x then v (ix3 0 r x) else 0 := by
    intro x
    rw [h]
    by_cases hx : d = x
    · rw [if_pos hx, if_pos hx]; rfl
    · rw [if_neg hx, if_neg hx]; rfl
  simp only [e]
  rw [Finset.sum_ite_eq, if_pos (Finset.mem_univ d)]

end Cert.KernelIdeal.Attention

end
-- ==== Proof.AttentionPrepareValue.lean ====
module

public import proofs.«01_k».proof.Proof.AttentionTripValue
public import proofs.«01_k».proof.Proof.AttentionRope

/-! What one trip of the preparing loop writes, over the reals. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL.Sem
open Cert.KernelIdeal.Gen Cert.AttentionMath

variable {arg2 : Memref sig .tc .vmem S1x2048x512 .f32} {arg3 arg4 : Memref sig .tc .vmem S1x2048x128 .f32} {arg8 arg9 : Memref sig .tc .vmem S2048x128 .f32}
  {X2 : BufTy.Contents (Elt Ideal) arg2.view.ty} {X3 : BufTy.Contents (Elt Ideal) arg3.view.ty} {X4 : BufTy.Contents (Elt Ideal) arg4.view.ty}
  {X8 : BufTy.Contents (Elt Ideal) arg8.view.ty} {X9 : BufTy.Contents (Elt Ideal) arg9.view.ty} {v0 v2 : Vec Ideal S1x128 .f32} {Q K V C S : ℕ → ℕ → ℝ} {gq gk : ℕ → ℝ}

/-- What the preparing trips read holds these reals. -/
structure Blocks (X2 : BufTy.Contents (Elt Ideal) arg2.view.ty) (X3 : BufTy.Contents (Elt Ideal) arg3.view.ty) (X4 : BufTy.Contents (Elt Ideal) arg4.view.ty)
    (X8 : BufTy.Contents (Elt Ideal) arg8.view.ty) (X9 : BufTy.Contents (Elt Ideal) arg9.view.ty) (v0 v2 : Vec Ideal S1x128 .f32) (Q K V C S : ℕ → ℕ → ℝ) (gq gk : ℕ → ℝ) : Prop where
  h2 : ∀ y : S1x2048x512.Idx, arg2.view.read (Elt Ideal) X2 y = (Q (y 1) (y 2) : ℝ)
  h3 : ∀ y : S1x2048x128.Idx, arg3.view.read (Elt Ideal) X3 y = (K (y 1) (y 2) : ℝ)
  h4 : ∀ y : S1x2048x128.Idx, arg4.view.read (Elt Ideal) X4 y = (V (y 1) (y 2) : ℝ)
  h8 : ∀ y : S2048x128.Idx, arg8.view.read (Elt Ideal) X8 y = (C (y 0) (y 1) : ℝ)
  h9 : ∀ y : S2048x128.Idx, arg9.view.read (Elt Ideal) X9 y = (S (y 0) (y 1) : ℝ)
  h0 : ∀ d : Fin 128, v0 (ix2 0 d) = (gk d : ℝ)
  h02 : ∀ d : Fin 128, v2 (ix2 0 d) = (gq d : ℝ)

theorem table_entry (arg : Memref sig .tc .vmem S2048x128 .f32) (X : BufTy.Contents (Elt Ideal) arg.view.ty) (T : ℕ → ℕ → ℝ) (h : ∀ y : S2048x128.Idx, arg.view.read (Elt Ideal) X y = (T (y 0) (y 1) : ℝ))
    (o : Fin 2 → ℕ) (io : ∀ a, o a + S256x128.size a ≤ S2048x128.size a) (ho : o 1 = 0) (r : Fin 256) (d : Fin 128) :
    arg.view.readAt (Elt Ideal) (Rect.unit (s := S2048x128) o S256x128.size io).toLoadRect X (ix2 r d) = (T (o 0 + r) d : ℝ) := by
  rw [View.readAt_eq_ld]
  refine (h _).trans (congrArg (fun r : ℝ => (r : EReal)) (congrArg₂ T (unit_val (S := S2048x128) o _ io (ix2 r d) 0) ((unit_val (S := S2048x128) o _ io (ix2 r d) 1).trans ?_)))
  rw [ho]; exact Nat.zero_add _

theorem rows_entry {n : ℕ} (arg : Memref sig .tc .vmem (⟨3, ![1, 2048, n]⟩ : Shape) .f32) (X : BufTy.Contents (Elt Ideal) arg.view.ty) (T : ℕ → ℕ → ℝ)
    (h : ∀ y : (⟨3, ![1, 2048, n]⟩ : Shape).Idx, arg.view.read (Elt Ideal) X y = (T (y 1) (y 2) : ℝ))
    (o : Fin 3 → ℕ) (io : ∀ a, o a + S1x256x128.size a ≤ (⟨3, ![1, 2048, n]⟩ : Shape).size a) (r : Fin 256) (d : Fin 128) :
    arg.view.readAt (Elt Ideal) (Rect.unit (s := (⟨3, ![1, 2048, n]⟩ : Shape)) o S1x256x128.size io).toLoadRect X (ix3 0 r d) = (T (o 1 + r) (o 2 + d) : ℝ) := by
  rw [View.readAt_eq_ld]
  exact (h _).trans (congrArg (fun r : ℝ => (r : EReal)) (congrArg₂ T (unit_val (S := (⟨3, ![1, 2048, n]⟩ : Shape)) o _ io (ix3 0 r d) 1) (unit_val (S := (⟨3, ![1, 2048, n]⟩ : Shape)) o _ io (ix3 0 r d) 2)))

/-- A stored block of keys holds the rotated keys. -/
theorem keys_piece (B : Blocks X2 X3 X4 X8 X9 v0 v2 Q K V C S gq gk) (o3 : Fin 3 → ℕ) (i3 : ∀ a, o3 a + S1x256x128.size a ≤ S1x2048x128.size a) (oc : Fin 2 → ℕ) (ic : ∀ a, oc a + S256x128.size a ≤ S2048x128.size a)
    (hc : oc 1 = 0) (h1 : o3 1 = oc 0) (h2 : o3 2 = 0) (z : S256x128.Idx) :
    keys (F := Ideal) (arg3.view.readAt (Elt Ideal) (Rect.unit (s := S1x2048x128) o3 S1x256x128.size i3).toLoadRect X3) v0 (arg8.view.readAt (Elt Ideal) (Rect.unit (s := S2048x128) oc S256x128.size ic).toLoadRect X8)
        (arg9.view.readAt (Elt Ideal) (Rect.unit (s := S2048x128) oc S256x128.size ic).toLoadRect X9) z
      = (keysOf K gk C S ((Rect.unit (s := S2048x128) oc S256x128.size ic).idx z 0) ((Rect.unit (s := S2048x128) oc S256x128.size ic).idx z 1) : ℝ) := by
  rw [unit_val (S := S2048x128) oc _ ic z 0, unit_val (S := S2048x128) oc _ ic z 1]
  obtain ⟨r, d, rfl⟩ : ∃ (r : Fin 256) (d : Fin 128), z = ix2 r d := ⟨z 0, z 1, by funext a; fin_cases a <;> rfl⟩
  refine (keys_real _ v0 _ _ (fun d => K (o3 1 + r) (o3 2 + d)) gk (C (oc 0 + r)) (S (oc 0 + r)) r d (rows_entry arg3 X3 K B.h3 o3 i3 r) B.h0
    (table_entry arg8 X8 C B.h8 oc ic hc r d) (table_entry arg9 X9 S B.h9 oc ic hc r d)).trans ?_
  refine congrArg (fun r : ℝ => (r : EReal)) ?_
  rw [h1, h2, hc]
  unfold keysOf
  simp only [Nat.zero_add]
  rfl

/-- A stored block of queries holds the rotated and scaled queries. -/
theorem queries_piece (B : Blocks X2 X3 X4 X8 X9 v0 v2 Q K V C S gq gk) (o2 : Fin 3 → ℕ) (i2 : ∀ a, o2 a + S1x256x128.size a ≤ S1x2048x512.size a) (oc : Fin 2 → ℕ) (ic : ∀ a, oc a + S256x128.size a ≤ S2048x128.size a)
    (op : Fin 2 → ℕ) (ip : ∀ a, op a + S256x128.size a ≤ S8192x128.size a) (z : S256x128.Idx)
    (hc : oc 1 = 0) (h1 : o2 1 = oc 0) (h2 : o2 2 % 128 = 0) (hp1 : op 1 = 0) (hp0 : op 0 = 2048 * (o2 2 / 128) + oc 0) :
    queries (F := Ideal) (arg2.view.readAt (Elt Ideal) (Rect.unit (s := S1x2048x512) o2 S1x256x128.size i2).toLoadRect X2) v2 (arg8.view.readAt (Elt Ideal) (Rect.unit (s := S2048x128) oc S256x128.size ic).toLoadRect X8)
        (arg9.view.readAt (Elt Ideal) (Rect.unit (s := S2048x128) oc S256x128.size ic).toLoadRect X9) z
      = (queriesOf Q gq C S ((Rect.unit (s := S8192x128) op S256x128.size ip).idx z 0) ((Rect.unit (s := S8192x128) op S256x128.size ip).idx z 1) : ℝ) := by
  rw [unit_val (S := S8192x128) op _ ip z 0, unit_val (S := S8192x128) op _ ip z 1]
  obtain ⟨r, d, rfl⟩ : ∃ (r : Fin 256) (d : Fin 128), z = ix2 r d := ⟨z 0, z 1, by funext a; fin_cases a <;> rfl⟩
  refine (queries_real _ v2 _ _ (fun d => Q (o2 1 + r) (o2 2 + d)) gq (C (oc 0 + r)) (S (oc 0 + r)) r d (rows_entry arg2 X2 Q B.h2 o2 i2 r) B.h02
    (table_entry arg8 X8 C B.h8 oc ic hc r d) (table_entry arg9 X9 S B.h9 oc ic hc r d)).trans ?_
  refine congrArg (fun r : ℝ => (r : EReal)) ?_
  have hr : oc 0 + r.val < 2048 := by have h := ic 0; change oc 0 + 256 ≤ 2048 at h; have := r.isLt; omega
  show _ = queriesOf Q gq C S (op 0 + r.val) (op 1 + d.val)
  rw [h1, hp1, hp0]
  unfold queriesOf
  rw [show (2048 * (o2 2 / 128) + oc 0 + r.val) % 2048 = oc 0 + r by omega, show 128 * ((2048 * (o2 2 / 128) + oc 0 + r.val) / 2048) = o2 2 by omega, Nat.zero_add]

/-- A stored block of values holds the values, turned over. -/
theorem turned_piece (B : Blocks X2 X3 X4 X8 X9 v0 v2 Q K V C S gq gk) (o4 : Fin 3 → ℕ) (i4 : ∀ a, o4 a + S1x256x128.size a ≤ S1x2048x128.size a) (op : Fin 2 → ℕ) (ip : ∀ a, op a + S128x256.size a ≤ S128x2048.size a)
    (z : S128x256.Idx) (h1 : o4 1 = op 1) (h2 : o4 2 = 0) (hp : op 0 = 0) :
    turned (F := Ideal) (arg4.view.readAt (Elt Ideal) (Rect.unit (s := S1x2048x128) o4 S1x256x128.size i4).toLoadRect X4) z
      = (V ((Rect.unit (s := S128x2048) op S128x256.size ip).idx z 1) ((Rect.unit (s := S128x2048) op S128x256.size ip).idx z 0) : ℝ) := by
  rw [unit_val (S := S128x2048) op _ ip z 0, unit_val (S := S128x2048) op _ ip z 1]
  obtain ⟨d, r, rfl⟩ : ∃ (d : Fin 128) (r : Fin 256), z = ix2 d r := ⟨z 0, z 1, by funext a; fin_cases a <;> rfl⟩
  refine (turned_val _ d r).trans ((rows_entry arg4 X4 V B.h4 o4 i4 r d).trans ?_)
  rw [h1, h2, hp]
  rfl

/-- The pieces that a trip writes are the rotated keys, the values and the rotated queries. -/
theorem prepare_out (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v0 : Vec Ideal S1x128 .f32) (v2 : Vec Ideal S1x128 .f32) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t1_loop.trips) (B : Blocks X2 X3 X4 X8 X9 v0 v2 Q K V C S gq gk) :
    (∀ p ∈ (prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).1, ∀ z : p.1.shape.Idx, p.2 z = ((keysOf K gk C S (p.1.idx z 0) (p.1.idx z 1) : ℝ) : EReal)) ∧
    (∀ p ∈ (prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).2.1, ∀ z : p.1.shape.Idx, p.2 z = ((V (p.1.idx z 1) (p.1.idx z 0) : ℝ) : EReal)) ∧
    (∀ p ∈ (prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).2.2.1, ∀ z : p.1.shape.Idx, p.2 z = ((queriesOf Q gq C S (p.1.idx z 0) (p.1.idx z 1) : ℝ) : EReal)) := by
  unfold prepareTrip
  refine ⟨?_, ?_, ?_⟩ <;> intro p hp z <;> simp only [List.mem_cons, List.not_mem_nil, or_false] at hp
  · subst hp
    refine keys_piece B (k0_off2 k) _ (k0_off1 k) _ ?_ ?_ ?_ z
    all_goals first
      | rfl
      | (clear * - k; revert k; decide +kernel)
  · subst hp
    refine turned_piece B (k0_off2 k) _ (k0_off3 k) (k0_off3_inb k) z ?_ ?_ ?_
    all_goals first
      | rfl
      | (clear * - k; revert k; decide +kernel)
  · rcases hp with rfl | rfl | rfl | rfl
    · refine queries_piece B (k0_off8 k) _ (k0_off1 k) _ (k0_off5 k 6144#32) (k0_off5_inb k 3) z ?_ ?_ ?_ ?_ ?_
      all_goals first
        | rfl
        | (clear * - k; revert k; decide +kernel)
    · refine queries_piece B (k0_off7 k) _ (k0_off1 k) _ (k0_off5 k 4096#32) (k0_off5_inb k 2) z ?_ ?_ ?_ ?_ ?_
      all_goals first
        | rfl
        | (clear * - k; revert k; decide +kernel)
    · refine queries_piece B (k0_off6 k) _ (k0_off1 k) _ (k0_off5 k 2048#32) (k0_off5_inb k 1) z ?_ ?_ ?_ ?_ ?_
      all_goals first
        | rfl
        | (clear * - k; revert k; decide +kernel)
    · refine queries_piece B (k0_off4 k) _ (k0_off1 k) _ (k0_off5 k 0#32) (k0_off5_inb k 0) z ?_ ?_ ?_ ?_ ?_
      all_goals first
        | rfl
        | (clear * - k; revert k; decide +kernel)

end Cert.KernelIdeal.Attention

end
-- ==== Proof.AttentionValueLoops.lean ====
module

public import proofs.«01_k».proof.Proof.AttentionPrepareValue
public import Idealize.ShloMosaic.Lib.Pipeline.FrameBody

/-! The two loops of the attention kernel over the reals: what the buffers hold before each trip. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.AttentionMath

local notation "𝕄" => MT nD τ sig Unit (Elt Ideal) ℕ (UR sig nD τ) ℕ

/-- Where the pieces written agree with a function, and what no piece covers agreed with it before, the buffer reads it. -/
theorem read_pieces {sp : Space} {s : Shape} {e : EltTy} (v : View sig .tc sp s e) (f : BufTy.Contents (Elt Ideal) v.ty) (L : List (View.Piece (Elt Ideal) s e))
    (G : s.Idx → Elt Ideal e) (h : ∀ p ∈ L, ∀ z : p.1.shape.Idx, p.2 z = G (p.1.idx z)) (y : s.Idx)
    (hy : (∃ p ∈ L, y ∈ p.1.set) ∨ v.read (Elt Ideal) f y = G y) : v.read (Elt Ideal) (v.writes (Elt Ideal) f L) y = G y := by
  by_cases hL : ∃ p ∈ L, y ∈ p.1.set
  · rw [View.read_writes_apply_eq_canon v f y L hL]
    exact View.canon_apply_of_pieces G L h y hL
  · rw [View.read_writes_apply_of_forall_not_mem _ _ y L fun p hp hyp => hL ⟨p, hp, hyp⟩]
    exact hy.resolve_left hL

/-- A place inside a unit-stride rectangle is covered by a list that starts with it, -/
theorem hits {s : Shape} {e : EltTy} (o size : Fin s.rank → ℕ) (inb : ∀ a, o a + size a ≤ s.size a) (w : (Rect.unit (s := s) o size inb).shape.Idx → Elt Ideal e) (L : List (View.Piece (Elt Ideal) s e))
    (y : s.Idx) (h : ∀ a, o a ≤ y a ∧ (y a : ℕ) < o a + size a) : ∃ p ∈ (⟨Rect.unit (s := s) o size inb, w⟩ :: L : List (View.Piece (Elt Ideal) s e)), y ∈ p.1.set :=
  ⟨_, List.mem_cons_self, (Rect.mem_set_unit (inb := inb)).mpr h⟩

/-- and a place covered by a list is covered by a longer one. -/
theorem later {s : Shape} {e : EltTy} {p : View.Piece (Elt Ideal) s e} {L : List (View.Piece (Elt Ideal) s e)} {y : s.Idx} (h : ∃ p ∈ L, y ∈ p.1.set) : ∃ q ∈ p :: L, y ∈ q.1.set :=
  h.imp fun _ h => ⟨List.mem_cons_of_mem _ h.1, h.2⟩

/-- A preparing trip writes its 256 rows of the keys, its 256 columns of the values and its 256 rows of each of the four query heads. -/
theorem prepare_covers (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v0 : Vec Ideal S1x128 .f32) (v2 : Vec Ideal S1x128 .f32) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t1_loop.trips) :
    (∀ y : S2048x128.Idx, 256 * k.val ≤ y 0 → (y 0 : ℕ) < 256 * (k.val + 1) → ∃ p ∈ (prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).1, y ∈ p.1.set) ∧
    (∀ y : S128x2048.Idx, 256 * k.val ≤ y 1 → (y 1 : ℕ) < 256 * (k.val + 1) → ∃ p ∈ (prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).2.1, y ∈ p.1.set) ∧
    (∀ y : S8192x128.Idx, 256 * k.val ≤ (y 0 : ℕ) % 2048 → (y 0 : ℕ) % 2048 < 256 * (k.val + 1) → ∃ p ∈ (prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).2.2.1, y ∈ p.1.set) := by
  have hk : k.val < 8 := Nat.lt_of_lt_of_le k.isLt k0_t1_abs.2.1
  unfold prepareTrip
  refine ⟨?_, ?_, ?_⟩
  · intro y h1 h2
    have e : k0_off1 k 0 = 256 * k.val ∧ k0_off1 k 1 = 0 := by clear * - k; revert k; decide +kernel
    have hy := (y 1).isLt; change (y 1 : ℕ) < 128 at hy
    refine hits _ _ (k0_off1_inb k) _ _ y fun a => ?_
    fin_cases a
    · change k0_off1 k 0 ≤ y 0 ∧ (y 0 : ℕ) < k0_off1 k 0 + 256; omega
    · change k0_off1 k 1 ≤ y 1 ∧ (y 1 : ℕ) < k0_off1 k 1 + 128; omega
  · intro y h1 h2
    have e : k0_off3 k 0 = 0 ∧ k0_off3 k 1 = 256 * k.val := by clear * - k; revert k; decide +kernel
    have hy := (y 0).isLt; change (y 0 : ℕ) < 128 at hy
    refine hits _ _ (k0_off3_inb k) _ _ y fun a => ?_
    fin_cases a
    · change k0_off3 k 0 ≤ y 0 ∧ (y 0 : ℕ) < k0_off3 k 0 + 128; omega
    · change k0_off3 k 1 ≤ y 1 ∧ (y 1 : ℕ) < k0_off3 k 1 + 256; omega
  · intro y h1 h2
    have e : (k0_off5 k 6144#32 0 = 6144 + 256 * k.val ∧ k0_off5 k 6144#32 1 = 0) ∧ (k0_off5 k 4096#32 0 = 4096 + 256 * k.val ∧ k0_off5 k 4096#32 1 = 0) ∧
        (k0_off5 k 2048#32 0 = 2048 + 256 * k.val ∧ k0_off5 k 2048#32 1 = 0) ∧ (k0_off5 k 0#32 0 = 256 * k.val ∧ k0_off5 k 0#32 1 = 0) := by clear * - k; revert k; decide +kernel
    have hy := (y 1).isLt; change (y 1 : ℕ) < 128 at hy
    have hy0 := (y 0).isLt; change (y 0 : ℕ) < 8192 at hy0
    have hit : ∀ (o : Fin 2 → ℕ) (io : ∀ a, o a + S256x128.size a ≤ S8192x128.size a) (w) (L : List (View.Piece (Elt Ideal) S8192x128 .bf16)), o 1 = 0 → o 0 ≤ y 0 → (y 0 : ℕ) < o 0 + 256 →
        ∃ p ∈ (⟨Rect.unit (s := S8192x128) o S256x128.size io, w⟩ :: L : List (View.Piece (Elt Ideal) S8192x128 .bf16)), y ∈ p.1.set := by
      intro o io w L h1 h0 h0'
      refine hits _ _ io _ _ y fun a => ?_
      fin_cases a
      · exact ⟨h0, h0'⟩
      · change o 1 ≤ y 1 ∧ (y 1 : ℕ) < o 1 + 128; omega
    obtain h | h | h | h : (y 0 : ℕ) / 2048 = 3 ∨ (y 0 : ℕ) / 2048 = 2 ∨ (y 0 : ℕ) / 2048 = 1 ∨ (y 0 : ℕ) / 2048 = 0 := by omega
    all_goals
      repeat first
        | exact hit _ _ _ _ (by omega) (by omega) (by omega)
        | refine later ?_

/-- An attending trip writes 1024 rows of the output block. -/
theorem attend_covers (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec Ideal S8x256 .f32) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (k : Fin k0_t2_loop.trips) (acc : FVec Ideal S8x256 .f32) (f14 : BufTy.Contents (Elt Ideal) arg14.view.ty)
    (y : S1x2048x512.Idx) (h1 : 1024 * k.val ≤ y 1) (h2 : (y 1 : ℕ) < 1024 * (k.val + 1)) : ∃ p ∈ (attendTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14).1, y ∈ p.1.set := by
  have hk : k.val < 2 := Nat.lt_of_lt_of_le k.isLt k0_t2_abs.2.1
  have hy0 := (y 0).isLt; change (y 0 : ℕ) < 1 at hy0
  have hy2 := (y 2).isLt; change (y 2 : ℕ) < 512 at hy2
  unfold attendTrip
  have hit : ∀ (o : Fin 3 → ℕ) (io : ∀ a, o a + S1x256x128.size a ≤ S1x2048x512.size a) (w) (L : List (View.Piece (Elt Ideal) S1x2048x512 .bf16)), o 0 = 0 → o 1 ≤ y 1 → (y 1 : ℕ) < o 1 + 256 →
      o 2 ≤ y 2 → (y 2 : ℕ) < o 2 + 128 → ∃ p ∈ (⟨Rect.unit (s := S1x2048x512) o S1x256x128.size io, w⟩ :: L : List (View.Piece (Elt Ideal) S1x2048x512 .bf16)), y ∈ p.1.set := by
    intro o io w L h0 h1 h1' h2 h2'
    refine hits _ _ io _ _ y fun a => ?_
    fin_cases a
    · change o 0 ≤ y 0 ∧ (y 0 : ℕ) < o 0 + 1; omega
    · exact ⟨h1, h1'⟩
    · exact ⟨h2, h2'⟩
  have place : ∀ o : Fin k0_t2_loop.trips → BitVec 32 → Fin 3 → ℕ, ∀ m : ℕ, (∀ k, (o k 0#32 0 = 0 ∧ o k 0#32 1 = 1024 * k.val ∧ o k 0#32 2 = 128 * m) ∧ (o k 1#32 0 = 0 ∧ o k 1#32 1 = 1024 * k.val + 256 ∧ o k 1#32 2 = 128 * m) ∧
      (o k 2#32 0 = 0 ∧ o k 2#32 1 = 1024 * k.val + 512 ∧ o k 2#32 2 = 128 * m) ∧ (o k 3#32 0 = 0 ∧ o k 3#32 1 = 1024 * k.val + 768 ∧ o k 3#32 2 = 128 * m)) → (o k 0#32 0 = 0 ∧ o k 0#32 1 = 1024 * k.val ∧ o k 0#32 2 = 128 * m) ∧ (o k 1#32 0 = 0 ∧ o k 1#32 1 = 1024 * k.val + 256 ∧ o k 1#32 2 = 128 * m) ∧
      (o k 2#32 0 = 0 ∧ o k 2#32 1 = 1024 * k.val + 512 ∧ o k 2#32 2 = 128 * m) ∧ (o k 3#32 0 = 0 ∧ o k 3#32 1 = 1024 * k.val + 768 ∧ o k 3#32 2 = 128 * m) := fun o m h => h k
  have e0 := place k0_off10 0 (by decide +kernel)
  have e1 := place k0_off11 1 (by decide +kernel)
  have e2 := place k0_off12 2 (by decide +kernel)
  have e3 := place k0_off13 3 (by decide +kernel)
  obtain hq | hq | hq | hq : (y 1 : ℕ) / 256 = 4 * k.val ∨ (y 1 : ℕ) / 256 = 4 * k.val + 1 ∨ (y 1 : ℕ) / 256 = 4 * k.val + 2 ∨ (y 1 : ℕ) / 256 = 4 * k.val + 3 := by omega
  all_goals
    obtain hm | hm | hm | hm : (y 2 : ℕ) / 128 = 3 ∨ (y 2 : ℕ) / 128 = 2 ∨ (y 2 : ℕ) / 128 = 1 ∨ (y 2 : ℕ) / 128 = 0 := by omega
  all_goals
    repeat first
      | exact hit _ _ _ _ (by omega) (by omega) (by omega) (by omega) (by omega)
      | refine later ?_

/-- Before trip `n` of the preparing loop: the blocks as they were, and the rows, columns and query rows of the trips before it written. -/
abbrev prepared (c : Dev nD) {arg2 : Memref sig .tc .vmem S1x2048x512 .f32} {arg3 arg4 : Memref sig .tc .vmem S1x2048x128 .f32} {arg8 arg9 : Memref sig .tc .vmem S2048x128 .f32}
    (arg11 : Memref sig .tc .vmem S2048x128 .bf16) (arg12 : Memref sig .tc .vmem S128x2048 .bf16) (arg13 : Memref sig .tc .vmem S8192x128 .bf16)
    (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty)
    (Q K V C S : ℕ → ℕ → ℝ) (gq gk : ℕ → ℝ) (n : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (∃ f11, (arg11.view.loc (c : Thread nD τ) ↦[arg11.view.set]{fullShare} f11) ∗ ⌜∀ y : S2048x128.Idx, (y 0 : ℕ) < 256 * n → arg11.view.read (Elt Ideal) f11 y = ((keysOf K gk C S (y 0) (y 1) : ℝ) : EReal)⌝)
    ∗ (∃ f12, (arg12.view.loc (c : Thread nD τ) ↦[arg12.view.set]{fullShare} f12) ∗ ⌜∀ y : S128x2048.Idx, (y 1 : ℕ) < 256 * n → arg12.view.read (Elt Ideal) f12 y = ((V (y 1) (y 0) : ℝ) : EReal)⌝)
    ∗ (∃ f13, (arg13.view.loc (c : Thread nD τ) ↦[arg13.view.set]{fullShare} f13) ∗ ⌜∀ y : S8192x128.Idx, (y 0 : ℕ) % 2048 < 256 * n → arg13.view.read (Elt Ideal) f13 y = ((queriesOf Q gq C S (y 0) (y 1) : ℝ) : EReal)⌝))

set_option warn.classDefReducibility false in
/-- The preparing loop, over blocks that hold reals. -/
def prepareValue (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v0 : Vec Ideal S1x128 .f32) (v2 : Vec Ideal S1x128 .f32) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (Q K V C S : ℕ → ℕ → ℝ) (gq gk : ℕ → ℝ) (B : Blocks X2 X3 X4 X8 X9 v0 v2 Q K V C S gq gk) :
    Gen.LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v0 v2 where
  inv n _ := prepared c arg11 arg12 arg13 X2 X3 X4 X8 X9 Q K V C S gq gk n
  step k acc := by
    iintro ⟨H2, H3, H4, H8, H9, ⟨%f11, H11, %h11⟩, ⟨%f12, H12, %h12⟩, ⟨%f13, H13, %h13⟩⟩
    iapply (wp_wand_r (M := 𝕄))
    isplitl [H2 H3 H4 H8 H9 H11 H12 H13]
    · iapply ((prepareTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k).2.2.2 E f11 f12 f13)
      isplitl [H2]; · iexact H2
      isplitl [H3]; · iexact H3
      isplitl [H4]; · iexact H4
      isplitl [H8]; · iexact H8
      isplitl [H9]; · iexact H9
      isplitl [H11]; · iexact H11
      isplitl [H12]; · iexact H12
      iexact H13
    iintro %_ ⟨H2, H3, H4, H8, H9, H11, H12, H13⟩
    have hv := prepare_out 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k B
    have hc := prepare_covers 𝒱 c bd i arg2 harg2 arg3 harg3 arg4 harg4 arg5 harg5 arg6 harg6 arg7 harg7 arg8 harg8 arg9 harg9 arg10 harg10 arg11 harg11 arg12 harg12 arg13 harg13 arg14 harg14 v0 v2 X2 X3 X4 X8 X9 k
    isplitl [H2]; · iexact H2
    isplitl [H3]; · iexact H3
    isplitl [H4]; · iexact H4
    isplitl [H8]; · iexact H8
    isplitl [H9]; · iexact H9
    isplitl [H11]
    · iexists _; isplitl; · iexact H11
      ipureintro
      refine fun y hy => read_pieces arg11.view f11 _ (fun y => ((keysOf K gk C S (y 0) (y 1) : ℝ) : EReal)) hv.1 y ?_
      by_cases h : (y 0 : ℕ) < 256 * k.val
      · exact .inr (h11 y h)
      · exact .inl (hc.1 y (by omega) hy)
    isplitl [H12]
    · iexists _; isplitl; · iexact H12
      ipureintro
      refine fun y hy => read_pieces arg12.view f12 _ (fun y => ((V (y 1) (y 0) : ℝ) : EReal)) hv.2.1 y ?_
      by_cases h : (y 1 : ℕ) < 256 * k.val
      · exact .inr (h12 y h)
      · exact .inl (hc.2.1 y (by omega) hy)
    iexists _; isplitl; · iexact H13
    ipureintro
    refine fun y hy => read_pieces arg13.view f13 _ (fun y => ((queriesOf Q gq C S (y 0) (y 1) : ℝ) : EReal)) hv.2.2 y ?_
    by_cases h : (y 0 : ℕ) % 2048 < 256 * k.val
    · exact .inr (h13 y h)
    · exact .inl (hc.2.2 y (by omega) hy)

/-- Before trip `n` of the attending loop: the carried value is real, the score buffer's first slot holds the scores of the
next block of queries, and the output rows of the trips before it are written. Before the first trip the carried value and
the score buffer are as given. -/
abbrev attended (c : Dev nD) {arg5 : Memref sig .tc .vmem S1x2048x512 .f32} {arg11 : Memref sig .tc .vmem S2048x128 .bf16} {arg12 : Memref sig .tc .vmem S128x2048 .bf16} {arg13 : Memref sig .tc .vmem S8192x128 .bf16}
    (arg10 : Memref sig .tc .vmem S1x2048x512 .bf16) (arg14 : Memref sig .tc .vmem S2x4x512x256 .f32)
    (X5 : BufTy.Contents (Elt Ideal) arg5.view.ty) (X11 : BufTy.Contents (Elt Ideal) arg11.view.ty) (X12 : BufTy.Contents (Elt Ideal) arg12.view.ty) (X13 : BufTy.Contents (Elt Ideal) arg13.view.ty)
    (KR VT QR GA : ℕ → ℕ → ℝ) (n : ℕ) (acc : FVec Ideal S8x256 .f32) : sProp 𝕄 :=
  iprop((arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (∃ f10, (arg10.view.loc (c : Thread nD τ) ↦[arg10.view.set]{fullShare} f10) ∗ ⌜∀ y : S1x2048x512.Idx, (y 1 : ℕ) < 1024 * n → arg10.view.read (Elt Ideal) f10 y = ((outOf KR VT QR GA (y 1) (y 2) : ℝ) : EReal)⌝)
    ∗ (∃ f14, (arg14.view.loc (c : Thread nD τ) ↦[arg14.view.set]{fullShare} f14) ∗ ⌜(∀ z, ∃ r : ℝ, acc z = r) ∧ ∀ (j : Fin 4) (x : Fin 512) (w : Fin 256), arg14.view.read (Elt Ideal) f14 (ix4 0 j x w) = (scoreOf KR QR (1024 * min n 1 + w) (512 * j.val + x) : ℝ)⌝))

set_option warn.classDefReducibility false in
/-- The attending loop, over tables that hold reals. -/
def attendValue (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (v12 : FVec Ideal S8x256 .f32) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (init : FVec Ideal S8x256 .f32) (v23 : FVec Ideal S8x256 .f32) (v28 : FVec Ideal S512x256 .f32) (KR VT QR GA : ℕ → ℕ → ℝ) (T : Tables X5 X11 X12 X13 KR VT QR GA) (hv : ∀ z, v12 z = ⊥) :
    Gen.LoopInvTy_k0_t2 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v12 v23 v28 init where
  inv n acc := attended c arg10 arg14 X5 X11 X12 X13 KR VT QR GA n acc
  step k acc := by
    have hk : k.val < 2 := Nat.lt_of_lt_of_le k.isLt k0_t2_abs.2.1
    rw [show k0_t2_body (F := Ideal) i arg2 harg2 arg3 harg3 arg4 harg4 arg5 harg5 arg6 harg6 arg7 harg7 arg8 harg8 arg9 harg9 arg10 harg10 arg11 harg11 arg12 harg12 arg13 harg13 arg14 harg14 v12 v23 v28 = k0_t2_body (F := Ideal) i arg2 harg2 arg3 harg3 arg4 harg4 arg5 harg5 arg6 harg6 arg7 harg7 arg8 harg8 arg9 harg9 arg10 harg10 arg11 harg11 arg12 harg12 arg13 harg13 arg14 harg14 v12 v12 (constant S512x256 .f32 0x00000000#32) from rfl]
    iintro ⟨H5, H11, H12, H13, ⟨%f10, H10, %h10⟩, ⟨%f14, H14, %h14⟩⟩
    iapply (wp_wand_r (M := 𝕄))
    isplitl [H5 H11 H12 H13 H10 H14]
    · iapply ((attendTrip (F := Ideal) 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14).2.2.2 E f10)
      isplitl [H5]; · iexact H5
      isplitl [H11]; · iexact H11
      isplitl [H12]; · iexact H12
      isplitl [H13]; · iexact H13
      isplitl [H10]; · iexact H10
      iexact H14
    iintro %_ ⟨%hr, H5, H11, H12, H13, H10, H14⟩
    subst hr
    have ho := attend_out 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14 T hv h14.1 (by rw [show 1024 * k.val = 1024 * min k.val 1 by omega]; exact h14.2)
    have hc := attend_covers 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14
    isplitl [H5]; · iexact H5
    isplitl [H11]; · iexact H11
    isplitl [H12]; · iexact H12
    isplitl [H13]; · iexact H13
    isplitl [H10]
    · iexists _; isplitl; · iexact H10
      ipureintro
      refine fun y hy => read_pieces arg10.view f10 _ (fun y => ((outOf KR VT QR GA (y 1) (y 2) : ℝ) : EReal)) ho y ?_
      by_cases h : (y 1 : ℕ) < 1024 * k.val
      · exact .inr (h10 y h)
      · exact .inl (hc y (by omega) hy)
    iexists _; isplitl; · iexact H14
    ipureintro
    exact ⟨attend_next 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14 T hv, attend_slot 𝒱 c bd i arg2 harg2 arg3 harg3 arg4 harg4 arg5 harg5 arg6 harg6 arg7 harg7 arg8 harg8 arg9 harg9 arg10 harg10 arg11 harg11 arg12 harg12 arg13 harg13 arg14 harg14 v12 X5 X11 X12 X13 k acc f14 T⟩

end Cert.KernelIdeal.Attention

end
-- ==== Proof.AttentionValueBody.lean ====
module

public import proofs.«01_k».proof.Proof.AttentionValueLoops

/-! The body of the attention kernel over the reals: from blocks that hold reals, the output block it leaves. -/

@[expose] public section

set_option maxRecDepth 16384
set_option maxHeartbeats 4000000

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.AttentionMath

local notation "𝕄" => MT nD τ sig Unit (Elt Ideal) ℕ (UR sig nD τ) ℕ

/-- The running maximum starts at the bottom. -/
theorem bottom_val (z : S8x256.Idx) : (k0_pay417 (F := Ideal)) z = ⊥ := by
  change Ideal.ofBits FTy.f32 4286578688#32 = ⊥
  simp [Ideal.ofBits, Ideal.ieee]

/-- The first part of the body: the preparing loop and the first two score chunks of the first block of queries. -/
theorem prepare_run (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (X2 : BufTy.Contents (Elt Ideal) arg2.view.ty) (X3 : BufTy.Contents (Elt Ideal) arg3.view.ty) (X4 : BufTy.Contents (Elt Ideal) arg4.view.ty)
    (X6 : BufTy.Contents (Elt Ideal) arg6.view.ty) (X7 : BufTy.Contents (Elt Ideal) arg7.view.ty) (X8 : BufTy.Contents (Elt Ideal) arg8.view.ty) (X9 : BufTy.Contents (Elt Ideal) arg9.view.ty)
    (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    (Q K V C S : ℕ → ℕ → ℝ) (gq gk : ℕ → ℝ)
    (B : Blocks X2 X3 X4 X8 X9 (arg7.view.readAt (Elt Ideal) (Rect.unit (s := S1x128) ![0, 0] S1x128.size inb_S1x128_S1x128_0_0).toLoadRect X7)
      (arg6.view.readAt (Elt Ideal) (Rect.unit (s := S1x128) ![0, 0] S1x128.size inb_S1x128_S1x128_0_0).toLoadRect X6) Q K V C S gq gk) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄) ⊢ wp frame (wpE (defs₀ (F := Ideal)) 𝒱 (c : Thread nD τ) bd) E (k0_part66 i arg2 harg2 arg3 harg3 arg4 harg4 arg5 harg5 arg6 harg6 arg7 harg7 arg8 harg8 arg9 harg9 arg10 harg10 arg11 harg11 arg12 harg12 arg13 harg13 arg14 harg14)
      (fun r => iprop(∃ (X11 : BufTy.Contents (Elt Ideal) arg11.view.ty) (X12 : BufTy.Contents (Elt Ideal) arg12.view.ty) (X13 : BufTy.Contents (Elt Ideal) arg13.view.ty),
        ⌜(∀ y : S2048x128.Idx, arg11.view.read (Elt Ideal) X11 y = ((keysOf K gk C S (y 0) (y 1) : ℝ) : EReal)) ∧ (∀ y : S128x2048.Idx, arg12.view.read (Elt Ideal) X12 y = ((V (y 1) (y 0) : ℝ) : EReal))
          ∧ (∀ y : S8192x128.Idx, arg13.view.read (Elt Ideal) X13 y = ((queriesOf Q gq C S (y 0) (y 1) : ℝ) : EReal))
          ∧ r = ⟨k0_pay417 (F := Ideal), maxed (k0_pay417 (F := Ideal)) (chunk arg11 arg13 X11 X13 ![0, 0] ![0, 0] inb_S2048x128_S512x128_0_0 inb_S8192x128_S256x128_0_0),
              chunk arg11 arg13 X11 X13 ![512, 0] ![0, 0] inb_S2048x128_S512x128_512_0 inb_S8192x128_S256x128_0_0⟩⌝
        ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} arg14.view.writes (Elt Ideal) f14 [⟨Rect.unit (s := S2x4x512x256) ![0, 0, 0, 0] S1x1x512x256.size inb_S2x4x512x256_S1x1x512x256_0_0_0_0,
            slab (F := Ideal) (arg11.view.readAt (Elt Ideal) (Rect.unit (s := S2048x128) ![0, 0] S512x128.size inb_S2048x128_S512x128_0_0).toLoadRect X11) (arg13.view.readAt (Elt Ideal) (Rect.unit (s := S8192x128) ![0, 0] S256x128.size inb_S8192x128_S256x128_0_0).toLoadRect X13)⟩]))) := by
  let Lp := prepareValue 𝒱 c bd E i arg2 harg2 arg3 harg3 arg4 harg4 arg5 harg5 arg6 harg6 arg7 harg7 arg8 harg8 arg9 harg9 arg10 harg10 arg11 harg11 arg12 harg12 arg13 harg13 arg14 harg14 (arg7.view.readAt (Elt Ideal) (Rect.unit (s := S1x128) ![0, 0] S1x128.size inb_S1x128_S1x128_0_0).toLoadRect X7)
      (arg6.view.readAt (Elt Ideal) (Rect.unit (s := S1x128) ![0, 0] S1x128.size inb_S1x128_S1x128_0_0).toLoadRect X6) X2 X3 X4 X8 X9 Q K V C S gq gk B
  have full : k0_t1_loop.trips = 8 := by decide +kernel
  simp only [k0_part66_eq_skeleton]; unfold k0_part66_skel
  iintro ⟨H2, H3, H4, H6, H7, H8, H9, H11, H12, H13, H14⟩
  sl_exec
  sl_step
  iexists _, _, _
  isplitr
  · ipureintro
    rw [show Scf.trips k0_t1_loop.lb k0_t1_loop.ub k0_t1_loop.st = 8 from full] at hL6 hL8 hL10
    refine ⟨fun y => hL6 y ?_, fun y => hL8 y ?_, fun y => hL10 y ?_, rfl⟩
    · have := (y 0).isLt; change (y 0 : ℕ) < 2048 at this; omega
    · have := (y 1).isLt; change (y 1 : ℕ) < 2048 at this; omega
    · omega
  sl_close

/-- The second part of the body: the other score chunks of the first block of queries and the attending loop. -/
theorem attend_run (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole) (X5 : BufTy.Contents (Elt Ideal) arg5.view.ty) (X11 : BufTy.Contents (Elt Ideal) arg11.view.ty) (X12 : BufTy.Contents (Elt Ideal) arg12.view.ty) (X13 : BufTy.Contents (Elt Ideal) arg13.view.ty)
    (f10 : BufTy.Contents (Elt Ideal) arg10.view.ty) (f14 : BufTy.Contents (Elt Ideal) arg14.view.ty) (KR VT QR GA : ℕ → ℕ → ℝ) (T : Tables X5 X11 X12 X13 KR VT QR GA) :
    (iprop((arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg14.view.loc (c : Thread nD τ) ↦[arg14.view.set]{fullShare} arg14.view.writes (Elt Ideal) f14 [⟨Rect.unit (s := S2x4x512x256) ![0, 0, 0, 0] S1x1x512x256.size inb_S2x4x512x256_S1x1x512x256_0_0_0_0,
            slab (F := Ideal) (arg11.view.readAt (Elt Ideal) (Rect.unit (s := S2048x128) ![0, 0] S512x128.size inb_S2048x128_S512x128_0_0).toLoadRect X11) (arg13.view.readAt (Elt Ideal) (Rect.unit (s := S8192x128) ![0, 0] S256x128.size inb_S8192x128_S256x128_0_0).toLoadRect X13)⟩])) : sProp 𝕄) ⊢ wp frame (wpE (defs₀ (F := Ideal)) 𝒱 (c : Thread nD τ) bd) E
      (k0_part67 i arg2 harg2 arg3 harg3 arg4 harg4 arg5 harg5 arg6 harg6 arg7 harg7 arg8 harg8 arg9 harg9 arg10 harg10 arg11 harg11 arg12 harg12 arg13 harg13 arg14 harg14 (k0_pay417 (F := Ideal)) (maxed (k0_pay417 (F := Ideal)) (chunk arg11 arg13 X11 X13 ![0, 0] ![0, 0] inb_S2048x128_S512x128_0_0 inb_S8192x128_S256x128_0_0))
        (chunk arg11 arg13 X11 X13 ![512, 0] ![0, 0] inb_S2048x128_S512x128_512_0 inb_S8192x128_S256x128_0_0))
      (fun _ => iprop((arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (∃ f10, (arg10.view.loc (c : Thread nD τ) ↦[arg10.view.set]{fullShare} f10) ∗ ⌜arg10.view.read (Elt Ideal) f10 = fun y => ((outOf KR VT QR GA (y 1) (y 2) : ℝ) : EReal)⌝) ∗ (∃ f14, (arg14.view.loc (c : Thread nD τ) ↦[arg14.view.set]{fullShare} f14)))) := by
  have start : (∀ z, ∃ r : ℝ, (k0_pay427 (F := Ideal) (maxed (k0_pay417 (F := Ideal)) (chunk arg11 arg13 X11 X13 ![0, 0] ![0, 0] inb_S2048x128_S512x128_0_0 inb_S8192x128_S256x128_0_0)) (chunk arg11 arg13 X11 X13 ![512, 0] ![0, 0] inb_S2048x128_S512x128_512_0 inb_S8192x128_S256x128_0_0) (arg11.view.readAt (Elt Ideal) (Rect.unit (s := S2048x128) ![1024, 0] S512x128.size inb_S2048x128_S512x128_1024_0).toLoadRect X11) (arg13.view.readAt (Elt Ideal) (Rect.unit (s := S8192x128) ![0, 0] S256x128.size inb_S8192x128_S256x128_0_0).toLoadRect X13) (arg11.view.readAt (Elt Ideal) (Rect.unit (s := S2048x128) ![1536, 0] S512x128.size inb_S2048x128_S512x128_1536_0).toLoadRect X11) (arg13.view.readAt (Elt Ideal) (Rect.unit (s := S8192x128) ![0, 0] S256x128.size inb_S8192x128_S256x128_0_0).toLoadRect X13)) z = r) ∧ ∀ (j : Fin 4) (x : Fin 512) (w : Fin 256), arg14.view.read (Elt Ideal) (arg14.view.writes (Elt Ideal) f14
      [⟨Rect.unit (s := S2x4x512x256) ![0, 3, 0, 0] S1x1x512x256.size inb_S2x4x512x256_S1x1x512x256_0_3_0_0, k0_pay426 (F := Ideal) (arg11.view.readAt (Elt Ideal) (Rect.unit (s := S2048x128) ![1536, 0] S512x128.size inb_S2048x128_S512x128_1536_0).toLoadRect X11) (arg13.view.readAt (Elt Ideal) (Rect.unit (s := S8192x128) ![0, 0] S256x128.size inb_S8192x128_S256x128_0_0).toLoadRect X13)⟩,
        ⟨Rect.unit (s := S2x4x512x256) ![0, 2, 0, 0] S1x1x512x256.size inb_S2x4x512x256_S1x1x512x256_0_2_0_0, k0_pay424 (F := Ideal) (arg11.view.readAt (Elt Ideal) (Rect.unit (s := S2048x128) ![1024, 0] S512x128.size inb_S2048x128_S512x128_1024_0).toLoadRect X11) (arg13.view.readAt (Elt Ideal) (Rect.unit (s := S8192x128) ![0, 0] S256x128.size inb_S8192x128_S256x128_0_0).toLoadRect X13)⟩,
        ⟨Rect.unit (s := S2x4x512x256) ![0, 1, 0, 0] S1x1x512x256.size inb_S2x4x512x256_S1x1x512x256_0_1_0_0, k0_pay422 (F := Ideal) (chunk arg11 arg13 X11 X13 ![512, 0] ![0, 0] inb_S2048x128_S512x128_512_0 inb_S8192x128_S256x128_0_0)⟩,
        ⟨Rect.unit (s := S2x4x512x256) ![0, 0, 0, 0] S1x1x512x256.size inb_S2x4x512x256_S1x1x512x256_0_0_0_0, slab (F := Ideal) (arg11.view.readAt (Elt Ideal) (Rect.unit (s := S2048x128) ![0, 0] S512x128.size inb_S2048x128_S512x128_0_0).toLoadRect X11) (arg13.view.readAt (Elt Ideal) (Rect.unit (s := S8192x128) ![0, 0] S256x128.size inb_S8192x128_S256x128_0_0).toLoadRect X13)⟩])
      (ix4 0 j x w) = (scoreOf KR QR (1024 * min 0 1 + w) (512 * j.val + x) : ℝ) := by
    refine ⟨max_real T _ bottom_val _ _ rfl, ?_⟩
    exact slots arg14 f14 _ _ _ _ _ (fun w s => scoreOf KR QR (0 + w) s) (slab_real T ![0, 0] _ _ _ rfl rfl) (slab_real T ![512, 0] _ _ _ rfl rfl)
      (slab_real T ![1024, 0] _ _ _ rfl rfl) (slab_real T ![1536, 0] _ _ _ rfl rfl)
  let La := attendValue 𝒱 c bd E i arg2 harg2 arg3 harg3 arg4 harg4 arg5 harg5 arg6 harg6 arg7 harg7 arg8 harg8 arg9 harg9 arg10 harg10 arg11 harg11 arg12 harg12 arg13 harg13 arg14 harg14 (k0_pay417 (F := Ideal)) X5 X11 X12 X13 (k0_pay427 (F := Ideal) (maxed (k0_pay417 (F := Ideal)) (chunk arg11 arg13 X11 X13 ![0, 0] ![0, 0] inb_S2048x128_S512x128_0_0 inb_S8192x128_S256x128_0_0)) (chunk arg11 arg13 X11 X13 ![512, 0] ![0, 0] inb_S2048x128_S512x128_512_0 inb_S8192x128_S256x128_0_0) (arg11.view.readAt (Elt Ideal) (Rect.unit (s := S2048x128) ![1024, 0] S512x128.size inb_S2048x128_S512x128_1024_0).toLoadRect X11) (arg13.view.readAt (Elt Ideal) (Rect.unit (s := S8192x128) ![0, 0] S256x128.size inb_S8192x128_S256x128_0_0).toLoadRect X13) (arg11.view.readAt (Elt Ideal) (Rect.unit (s := S2048x128) ![1536, 0] S512x128.size inb_S2048x128_S512x128_1536_0).toLoadRect X11) (arg13.view.readAt (Elt Ideal) (Rect.unit (s := S8192x128) ![0, 0] S256x128.size inb_S8192x128_S256x128_0_0).toLoadRect X13)) (maxed (k0_pay417 (F := Ideal)) (chunk arg11 arg13 X11 X13 ![0, 0] ![0, 0] inb_S2048x128_S512x128_0_0 inb_S8192x128_S256x128_0_0)) (chunk arg11 arg13 X11 X13 ![512, 0] ![0, 0] inb_S2048x128_S512x128_512_0 inb_S8192x128_S256x128_0_0) KR VT QR GA T bottom_val
  have full : k0_t2_loop.trips = 2 := by decide +kernel
  simp only [k0_part67_eq_skeleton]; unfold k0_part67_skel
  iintro ⟨H5, H11, H12, H13, H10, H14⟩
  sl_exec
  sl_step
  isplitl [H5]; · iexact H5
  isplitl [H11]; · iexact H11
  isplitl [H12]; · iexact H12
  isplitl [H13]; · iexact H13
  isplitl [H10]
  · iexists _; isplitl; · iexact H10
    ipureintro
    rw [show Scf.trips k0_t2_loop.lb k0_t2_loop.ub k0_t2_loop.st = 2 from full] at hL5
    refine funext fun y => hL5 y ?_
    have := (y 1).isLt; change (y 1 : ℕ) < 2048 at this; omega
  iexists _; iexact H14

/-- The body, from blocks that hold reals: the blocks as they were and the output block's reals. -/
theorem body_value (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x2048x512 .bf16) (harg10 : arg10.IsWhole) (arg11 : Memref sig .tc .vmem S2048x128 .bf16) (harg11 : arg11.IsWhole) (arg12 : Memref sig .tc .vmem S128x2048 .bf16) (harg12 : arg12.IsWhole) (arg13 : Memref sig .tc .vmem S8192x128 .bf16) (harg13 : arg13.IsWhole) (arg14 : Memref sig .tc .vmem S2x4x512x256 .f32) (harg14 : arg14.IsWhole)
    (x2 : Vec Ideal S1x2048x512 .f32) (x3 : Vec Ideal S1x2048x128 .f32) (x4 : Vec Ideal S1x2048x128 .f32) (x5 : Vec Ideal S1x2048x512 .f32) (x6 : Vec Ideal S1x128 .f32) (x7 : Vec Ideal S1x128 .f32) (x8 : Vec Ideal S2048x128 .f32) (x9 : Vec Ideal S2048x128 .f32) (E : Set ℕ) (KK : PUnit → sProp 𝕄)
    (Q K V GA C S : ℕ → ℕ → ℝ) (gq gk : ℕ → ℝ) (h2 : ∀ y, x2 y = (Q (y 1) (y 2) : ℝ)) (h3 : ∀ y, x3 y = (K (y 1) (y 2) : ℝ)) (h4 : ∀ y, x4 y = (V (y 1) (y 2) : ℝ)) (h5 : ∀ y, x5 y = (GA (y 1) (y 2) : ℝ))
    (h6 : ∀ d : Fin 128, x6 (ix2 0 d) = (gq d : ℝ)) (h7 : ∀ d : Fin 128, x7 (ix2 0 d) = (gk d : ℝ)) (h8 : ∀ y, x8 y = (C (y 0) (y 1) : ℝ)) (h9 : ∀ y, x9 y = (S (y 0) (y 1) : ℝ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (fun y => ((outOf (keysOf K gk C S) V (queriesOf Q gq C S) GA (y 1) (y 2) : ℝ) : EReal)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ KK ⟨⟩))
      ⊢ wp frame (wpE (defs₀ (F := Ideal)) Variants.none c none) E (cc0_attention i arg2 harg2 arg3 harg3 arg4 harg4 arg5 harg5 arg6 harg6 arg7 harg7 arg8 harg8 arg9 harg9 arg10 harg10 arg11 harg11 arg12 harg12 arg13 harg13 arg14 harg14) KK := by
  simp only [cc0_attention_eq_skeleton]; unfold cc0_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  rw [wp_bind]
  iapply (wp_wand_r (M := 𝕄))
  isplitl [H2 H3 H4 H6 H7 H8 H9 H11 H12 H13 H14]
  · iapply (prepare_run Variants.none c none E i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg6.unread x6) (harg7.unread x7) (harg8.unread x8) (harg9.unread x9) f11 f12 f13 f14 Q K V C S gq gk
      { h2 := fun y => (congrFun (harg2.read_unread x2) y).trans (h2 y), h3 := fun y => (congrFun (harg3.read_unread x3) y).trans (h3 y), h4 := fun y => (congrFun (harg4.read_unread x4) y).trans (h4 y),
        h8 := fun y => (congrFun (harg8.read_unread x8) y).trans (h8 y), h9 := fun y => (congrFun (harg9.read_unread x9) y).trans (h9 y),
        h0 := fun d => by rw [View.readAt_eq_ld, harg7.read_unread, View.ld_unit_zero (by decide)]; exact h7 d,
        h02 := fun d => by rw [View.readAt_eq_ld, harg6.read_unread, View.ld_unit_zero (by decide)]; exact h6 d })
    sl_close
  iintro %r ⟨%X11, %X12, %X13, %h, H2, H3, H4, H8, H9, H6, H7, H11, H12, H13, H14⟩
  obtain ⟨h11, h12, h13, rfl⟩ := h
  dsimp only
  rw [wp_bind]
  iapply (wp_wand_r (M := 𝕄))
  isplitl [H5 H10 H11 H12 H13 H14]
  · iapply (attend_run Variants.none c none E i arg2 harg2 arg3 harg3 arg4 harg4 arg5 harg5 arg6 harg6 arg7 harg7 arg8 harg8 arg9 harg9 arg10 harg10 arg11 harg11 arg12 harg12 arg13 harg13 arg14 harg14 (harg5.unread x5) X11 X12 X13 f10 _ (keysOf K gk C S) V (queriesOf Q gq C S) GA
      { h5 := fun y => (congrFun (harg5.read_unread x5) y).trans (h5 y), h11 := h11, h12 := h12, h13 := h13 })
    sl_close
  iintro %_ ⟨H5, H11, H12, H13, ⟨%e10, H10, %h10⟩, ⟨%e14, H14⟩⟩
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; exact h10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Attention

end
-- ==== Proof.AttentionRunValue.lean ====
module

public import proofs.«01_k».proof.Proof.AttentionTables
public import proofs.«01_k».proof.Proof.AttentionValueBody

/-! The value of the attention launch: with real arguments, every point leaves its block of the output at the
softmax attention of its heads, and the points cover the result. -/

@[expose] public section

set_option maxRecDepth 16384
set_option maxHeartbeats 4000000

noncomputable section

namespace Cert.KernelIdeal.AttentionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.AttentionMath Cert.ReferenceIdeal.Attention
open Cert.KernelIdeal.Attention hiding forgets0 dats A_eq after_0 after_1 after_2 after_3 after_4 after_5 after_6 after_7 before_0 before_1 before_2 before_3 before_4 before_5 before_6 before_7 bodyPre bodyPost sound_body body_obligation run_main frame

local notation "𝕄" => MT nD τ sig Unit (Elt Ideal) ℕ (UR sig nD τ) ℕ

/-- The projection and the gains of one device, as real numbers. -/
structure Reals (m : (ℓ : Loc nD τ sig) → Buf (Elt Ideal) ℓ) (c : Dev nD) (P : ℕ → ℕ → ℕ → ℝ) (gq gk : ℕ → ℝ) : Prop where
  projection : ∀ j : S8x2048x4608.Idx, m ((c : Thread nD τ).loc main_arg0) j = ((P (j 0) (j 1) (j 2) : ℝ) : EReal)
  queries : ∀ d : Fin 128, m ((c : Thread nD τ).loc main_arg1) (ix2 0 d) = ((gq d : ℝ) : EReal)
  keys : ∀ d : Fin 128, m ((c : Thread nD τ).loc main_arg2) (ix2 0 d) = ((gk d : ℝ) : EReal)

/-- The attention of batch entry `b` and head group `g` at position `t` and column `e` of the group. -/
def groupOf (P : ℕ → ℕ → ℕ → ℝ) (gq gk : ℕ → ℝ) (b g t e : ℕ) : ℝ :=
  outOf (keysOf (fun t d => P b t (128 * (8 + g) + d)) gk cosOf sinOf) (fun t d => P b t (128 * (10 + g) + d))
    (queriesOf (fun t d => P b t (512 * g + d)) gq cosOf sinOf) (fun t d => P b t (512 * (3 + g) + d)) t e

variable (m : (ℓ : Loc nD τ sig) → Buf (Elt Ideal) ℓ) (ρ : Dev nD → PrngReg)
variable (P : Dev nD → ℕ → ℕ → ℕ → ℝ) (gq gk : Dev nD → ℕ → ℝ)

/-- The launch's proof data: the input windows' buffers hold their blocks, the output's the attention. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun y : S1x2048x512.Idx => ((groupOf (P c) (gq c) (gk c) (t.val / 2) (t.val % 2) (y 1) (y 2) : ℝ) : EReal)
  Φ _ := Pipeline.ΦA spec0 c
  q w := Pipeline.shareOf spec0 w
  owed _ := 0

/-- The arrays the pipeline starts from are those of the memory. -/
theorem A_eq (c : Dev nD) (w : Fin cfg0.W) : (dats m P gq gk 0 c).A w = V m c (Pipeline.arrRef spec0 w) := by
  dsimp only [dats]

/-- An input's window is left as the point found it, for each of the eight inputs. -/
theorem after_0 (c : Dev nD) (t : Fin cfg0.N) : (dats m P gq gk 0 c).after 0 t = iblk m c 0 t := by dsimp only [dats]
theorem after_1 (c : Dev nD) (t : Fin cfg0.N) : (dats m P gq gk 0 c).after 1 t = iblk m c 1 t := by dsimp only [dats]
theorem after_2 (c : Dev nD) (t : Fin cfg0.N) : (dats m P gq gk 0 c).after 2 t = iblk m c 2 t := by dsimp only [dats]
theorem after_3 (c : Dev nD) (t : Fin cfg0.N) : (dats m P gq gk 0 c).after 3 t = iblk m c 3 t := by dsimp only [dats]
theorem after_4 (c : Dev nD) (t : Fin cfg0.N) : (dats m P gq gk 0 c).after 4 t = iblk m c 4 t := by dsimp only [dats]
theorem after_5 (c : Dev nD) (t : Fin cfg0.N) : (dats m P gq gk 0 c).after 5 t = iblk m c 5 t := by dsimp only [dats]
theorem after_6 (c : Dev nD) (t : Fin cfg0.N) : (dats m P gq gk 0 c).after 6 t = iblk m c 6 t := by dsimp only [dats]
theorem after_7 (c : Dev nD) (t : Fin cfg0.N) : (dats m P gq gk 0 c).after 7 t = iblk m c 7 t := by dsimp only [dats]
theorem after_8 (c : Dev nD) (t : Fin cfg0.N) : (dats m P gq gk 0 c).after 8 t = fun y : S1x2048x512.Idx => ((groupOf (P c) (gq c) (gk c) (t.val / 2) (t.val % 2) (y 1) (y 2) : ℝ) : EReal) := by dsimp only [dats]

/-- Before a point an input's window holds the block that the point reads, for each of the eight inputs. -/
theorem before_0 (c : Dev nD) (t : Fin cfg0.N) (d) : (dats m P gq gk 0 c).before 0 t d = iblk m c 0 t :=
  before0_0_of m (dats m P gq gk 0 c) (A_eq m P gq gk c 0) (after_0 m P gq gk c) t d
theorem before_1 (c : Dev nD) (t : Fin cfg0.N) (d) : (dats m P gq gk 0 c).before 1 t d = iblk m c 1 t :=
  before0_1_of m (dats m P gq gk 0 c) (A_eq m P gq gk c 1) (after_1 m P gq gk c) t d
theorem before_2 (c : Dev nD) (t : Fin cfg0.N) (d) : (dats m P gq gk 0 c).before 2 t d = iblk m c 2 t :=
  before0_2_of m (dats m P gq gk 0 c) (A_eq m P gq gk c 2) (after_2 m P gq gk c) t d
theorem before_3 (c : Dev nD) (t : Fin cfg0.N) (d) : (dats m P gq gk 0 c).before 3 t d = iblk m c 3 t :=
  before0_3_of m (dats m P gq gk 0 c) (A_eq m P gq gk c 3) (after_3 m P gq gk c) t d
theorem before_4 (c : Dev nD) (t : Fin cfg0.N) (d) : (dats m P gq gk 0 c).before 4 t d = iblk m c 4 t :=
  before0_4_of m (dats m P gq gk 0 c) (A_eq m P gq gk c 4) (after_4 m P gq gk c) t d
theorem before_5 (c : Dev nD) (t : Fin cfg0.N) (d) : (dats m P gq gk 0 c).before 5 t d = iblk m c 5 t :=
  before0_5_of m (dats m P gq gk 0 c) (A_eq m P gq gk c 5) (after_5 m P gq gk c) t d
theorem before_6 (c : Dev nD) (t : Fin cfg0.N) (d) : (dats m P gq gk 0 c).before 6 t d = iblk m c 6 t :=
  before0_6_of m (dats m P gq gk 0 c) (A_eq m P gq gk c 6) (after_6 m P gq gk c) t d
theorem before_7 (c : Dev nD) (t : Fin cfg0.N) (d) : (dats m P gq gk 0 c).before 7 t d = iblk m c 7 t :=
  before0_7_of m (dats m P gq gk 0 c) (A_eq m P gq gk c 7) (after_7 m P gq gk c) t d

/-- What the body is called with at point `t`. -/
def bodyPre (c : Dev nD) (t : Fin cfg0.N) : sProp 𝕄 :=
  iprop((dats m P gq gk 0 c).Φ t.castSucc ∗ (dats m P gq gk 0 c).owesAt () t.castSucc
    ∗ (∃ d, owns (c : Thread nD τ) (stage0 t) fullShare ((dats m P gq gk 0 c).before 0 t d))
    ∗ (∃ d, owns (c : Thread nD τ) (stage1 t) fullShare ((dats m P gq gk 0 c).before 1 t d))
    ∗ (∃ d, owns (c : Thread nD τ) (stage2 t) fullShare ((dats m P gq gk 0 c).before 2 t d))
    ∗ (∃ d, owns (c : Thread nD τ) (stage3 t) fullShare ((dats m P gq gk 0 c).before 3 t d))
    ∗ (∃ d, owns (c : Thread nD τ) (stage4 t) fullShare ((dats m P gq gk 0 c).before 4 t d))
    ∗ (∃ d, owns (c : Thread nD τ) (stage5 t) fullShare ((dats m P gq gk 0 c).before 5 t d))
    ∗ (∃ d, owns (c : Thread nD τ) (stage6 t) fullShare ((dats m P gq gk 0 c).before 6 t d))
    ∗ (∃ d, owns (c : Thread nD τ) (stage7 t) fullShare ((dats m P gq gk 0 c).before 7 t d))
    ∗ (∃ d, owns (c : Thread nD τ) (stage8 t) fullShare ((dats m P gq gk 0 c).before 8 t d)))

/-- What it returns. -/
def bodyPost (c : Dev nD) (t : Fin cfg0.N) : sProp 𝕄 :=
  iprop((dats m P gq gk 0 c).Φ t.succ ∗ (dats m P gq gk 0 c).owesAt () t.succ
    ∗ owns (c : Thread nD τ) (stage0 t) fullShare ((dats m P gq gk 0 c).after 0 t)
    ∗ owns (c : Thread nD τ) (stage1 t) fullShare ((dats m P gq gk 0 c).after 1 t)
    ∗ owns (c : Thread nD τ) (stage2 t) fullShare ((dats m P gq gk 0 c).after 2 t)
    ∗ owns (c : Thread nD τ) (stage3 t) fullShare ((dats m P gq gk 0 c).after 3 t)
    ∗ owns (c : Thread nD τ) (stage4 t) fullShare ((dats m P gq gk 0 c).after 4 t)
    ∗ owns (c : Thread nD τ) (stage5 t) fullShare ((dats m P gq gk 0 c).after 5 t)
    ∗ owns (c : Thread nD τ) (stage6 t) fullShare ((dats m P gq gk 0 c).after 6 t)
    ∗ owns (c : Thread nD τ) (stage7 t) fullShare ((dats m P gq gk 0 c).after 7 t)
    ∗ owns (c : Thread nD τ) (stage8 t) fullShare ((dats m P gq gk 0 c).after 8 t))

/-- The body at any grid point. -/
theorem sound_body (h : ∀ c, Reals m c (P c) (gq c) (gk c)) (c : Dev nD) (t : Fin cfg0.N) :
    bodyPre m P gq gk c t ⊢ wp frame (wpE (defs₀ (F := Ideal)) Variants.none c none) Set.univ (bodyAt0 t) (fun _ => bodyPost m P gq gk c t) := by
  unfold bodyPre bodyPost bodyAt0
  simp only [before_0, before_1, before_2, before_3, before_4, before_5, before_6, before_7]
  rw [show (dats m P gq gk 0 c).Φ t.succ = (dats m P gq gk 0 c).Φ t.castSucc from rfl,
    show (dats m P gq gk 0 c).owesAt () t.succ = (dats m P gq gk 0 c).owesAt () t.castSucc from rfl,
    after_0, after_1, after_2, after_3, after_4, after_5, after_6, after_7, after_8]
  rw [show (dats m P gq gk 0 c).Φ t.castSucc = Pipeline.ΦA spec0 c from rfl, scratch_rest]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ht : t.val < 16 := t.isLt
  let at_ (a b e : ℕ) (ha : a < 8) (hb : b < 2048) (he : e < 4608) : S8x2048x4608.Idx := fun z => match z with
    | ⟨0, _⟩ => ⟨a, ha⟩
    | ⟨1, _⟩ => ⟨b, hb⟩
    | ⟨2, _⟩ => ⟨e, he⟩
  iapply (body_value c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _
    (fun s d => P c (t.val / 2) s (512 * (t.val % 2) + d)) (fun s d => P c (t.val / 2) s (128 * (8 + t.val % 2) + d)) (fun s d => P c (t.val / 2) s (128 * (10 + t.val % 2) + d))
    (fun s d => P c (t.val / 2) s (512 * (3 + t.val % 2) + d)) cosOf sinOf (gq c) (gk c)
    (fun y => by
      have h1 : (y 1 : ℕ) < 2048 := (y 1).isLt
      have h2 : (y 2 : ℕ) < 512 := (y 2).isLt
      exact (q_entry m c t y (at_ (t.val / 2) (y 1) (512 * (t.val % 2) + y 2) (by omega) h1 (by omega)) rfl rfl rfl).trans ((h c).projection _))
    (fun y => by
      have h1 : (y 1 : ℕ) < 2048 := (y 1).isLt
      have h2 : (y 2 : ℕ) < 128 := (y 2).isLt
      exact (k_entry m c t y (at_ (t.val / 2) (y 1) (128 * (8 + t.val % 2) + y 2) (by omega) h1 (by omega)) rfl rfl rfl).trans ((h c).projection _))
    (fun y => by
      have h1 : (y 1 : ℕ) < 2048 := (y 1).isLt
      have h2 : (y 2 : ℕ) < 128 := (y 2).isLt
      exact (v_entry m c t y (at_ (t.val / 2) (y 1) (128 * (10 + t.val % 2) + y 2) (by omega) h1 (by omega)) rfl rfl rfl).trans ((h c).projection _))
    (fun y => by
      have h1 : (y 1 : ℕ) < 2048 := (y 1).isLt
      have h2 : (y 2 : ℕ) < 512 := (y 2).isLt
      exact (gate_entry m c t y (at_ (t.val / 2) (y 1) (512 * (3 + t.val % 2) + y 2) (by omega) h1 (by omega)) rfl rfl rfl).trans ((h c).projection _))
    (fun d => (gain_q_entry m c t d).trans ((h c).queries d)) (fun d => (gain_k_entry m c t d).trans ((h c).keys d)) (cos_entry m c t) (sin_entry m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's obligation of the body. -/
theorem body_obligation (h : ∀ c, Reals m c (P c) (gq c) (gk c)) (c : Dev nD) : BodyObligation (dats m P gq gk 0 c) (defs₀ (F := Ideal)) Variants.none () Set.univ := fun t => by
  rw [bigSep_W0, bigSep_W0, Attention.body_row]
  exact triple_restated (sound_body m P gq gk h c t) rfl .rfl fun _ => .rfl

set_option backward.isDefEq.respectTransparency.types false in
/-- The launch: every final state has the windows' arrays as the proof data leave them. -/
theorem run_main (h : ∀ c, Reals m c (P c) (gq c) (gk c)) : θ_run defs (onTc (τ := τ) (main (F := Ideal))) (s₀ m ρ) (fun r => (Pipeline.FramePost cfgs (dats m P gq gk) 0 (V m)) r ∧ r.2.sem = fun _ => 0) :=
  Pipeline.θ_run_frame_shared (Q' := _) cfgs (dats m P gq gk) (0 : Fin 1) launch₀0 defs₀ Variants.none m ρ main
    (hbody := fun c => (body_obligation m P gq gk h c).loose) (hq := fun _ _ _ => rfl)
    (howed := fun _ _ => rfl) (V := V m) (hmain := hmain m Variants.none) (hA := A_eq m P gq gk) (hΦ := fun _ _ => rfl)

/-- The attention's result array as real numbers. -/
def resultOf (P : ℕ → ℕ → ℕ → ℝ) (gq gk : ℕ → ℝ) (z : S8x2048x1024.Idx) : EReal :=
  ((groupOf P gq gk (z 0) ((z 2 : ℕ) / 512) (z 1) ((z 2 : ℕ) % 512) : ℝ) : EReal)

/-- After the last point the result array is the attention. -/
theorem final (c : Dev nD) : (dats m P gq gk 0 c).arrAt 8 (cfgs 0).N = resultOf (P c) (gq c) (gk c) := by
  refine (dats m P gq gk 0 c).arrAt_eq_of_covers 8 _ (by decide +kernel) fun t _ y => ?_
  have ht : t.val < 16 := t.isLt
  have y0 : (y 0 : ℕ) < 1 := (y 0).isLt
  have y2 : (y 2 : ℕ) < 512 := (y 2).isLt
  have e0 : ((((cfg0.win 8).blk t).view.emb y) 0 : ℕ) = t.val / 2 := by blk_simp [idx t]
  have e1 : ((((cfg0.win 8).blk t).view.emb y) 1 : ℕ) = y 1 := by blk_simp [idx t]
  have e2 : ((((cfg0.win 8).blk t).view.emb y) 2 : ℕ) = 512 * (t.val % 2) + y 2 := by blk_simp [idx t]; omega
  blk_simp
  rw [after_8]
  unfold resultOf
  rw [e0, e1, e2, show (512 * (t.val % 2) + (y 2 : ℕ)) / 512 = t.val % 2 by omega, show (512 * (t.val % 2) + (y 2 : ℕ)) % 512 = y 2 by omega]

/-- What the attention kernel leaves in its result. -/
theorem run_value (h : ∀ c, Reals m c (P c) (gq c) (gk c)) : θ_run defs (onTc (τ := τ) (main (F := Ideal))) ⟨m, fun _ => 0, ρ⟩
    (fun r => ∀ c : Dev nD, r.2.mem ((c.tc : Thread nD τ).loc main_v41) = resultOf (P c) (gq c) (gk c)) :=
  (θ_run defs _ _).mono (fun r h' c => ((h'.1 c).1 8).trans (final m P gq gk c)) (run_main m ρ P gq gk h)

end Cert.KernelIdeal.AttentionValue

end
-- ==== Proof.AttentionHeads.lean ====
module

public import proofs.«01_k».proof.Proof.AttentionTurns

/-! The heads of the reference: a query and a key after their norm and their rotary embedding, as real
numbers. -/

@[expose] public section

set_option maxRecDepth 16384

noncomputable section

namespace Cert.ReferenceIdeal.Attention

open Finset Idealize.ShloMosaic Idealize.ShloMosaic.TcCoe
open Cert.ReferenceIdeal Cert.ReferenceIdeal.Gen Cert.ReferenceIdeal.Read Cert.AttentionMath

theorem length_bits : Ideal.ofBits FTy.f32 0x43000000#32 = ((128 : ℝ) : EReal) := by
  simp [Ideal.ofBits, Ideal.ieee, -EReal.coe_mul]
  norm_num
theorem eps_here : Ideal.ofBits FTy.f32 0x358637BD#32 = ((eps : ℝ) : EReal) := eps_bits

/-- The reference's norm of a real row is `normed`. -/
theorem norm_real (x g : ℕ → ℝ) (d : ℕ) (z : EReal) (hz : z = ((0 : ℝ) : EReal)) :
    (x d : EReal) * Ideal.rsqrt (Ideal.div (z + ∑ k : Fin 128, (x k : EReal) * (x k : EReal)) ((128 : ℝ) : EReal) + ((eps : ℝ) : EReal)) * (g d : EReal)
      = ((normed x g d : ℝ) : EReal) := by
  have hs : ∑ k : Fin 128, (x k : EReal) * (x k : EReal) = ((∑ j ∈ range 128, x j * x j : ℝ) : EReal) := by
    rw [← Fin.sum_univ_eq_sum_range (fun j => x j * x j), ← coe_sum]
    exact sum_congr rfl fun k _ => (EReal.coe_mul _ _).symm
  rw [hs, hz, ← EReal.coe_add, zero_add, div_real _ _ (by norm_num), ← EReal.coe_add, rsqrt_real, ← EReal.coe_mul, ← EReal.coe_mul]
  rfl

/-- A rotation: the lower quarter of a half. -/
theorem lower (a b c s : ℝ) : (a : EReal) * (c : EReal) - (b : EReal) * (s : EReal) = ((a * c + b * -s : ℝ) : EReal) := by
  rw [← EReal.coe_mul, ← EReal.coe_mul, ← EReal.coe_sub]
  exact congrArg _ (by ring)
/-- A rotation: the upper quarter of a half. -/
theorem upper (a b c s : ℝ) : (a : EReal) * (s : EReal) + (b : EReal) * (c : EReal) = ((b * c + a * s : ℝ) : EReal) := by
  rw [← EReal.coe_mul, ← EReal.coe_mul, ← EReal.coe_add]
  exact congrArg _ (by ring)

theorem rope_0 (n : ℕ → ℝ) (t d : ℕ) (h : d < 32) :
    n d * Real.cos (rowTurn t d) + n (32 + d) * -Real.sin (rowTurn t d) = rope n (cosOf t) (sinOf t) d := by
  simp only [rope, cosOf, sinOf, turn]
  rw [if_pos (by omega : d < 64), if_pos (by omega : d % 64 < 32), if_pos (by omega : d % 64 < 32), Nat.mod_eq_of_lt h, Nat.add_comm d]
theorem rope_1 (n : ℕ → ℝ) (t d : ℕ) (h : d < 32) :
    n (32 + d) * Real.cos (rowTurn t d) + n d * Real.sin (rowTurn t d) = rope n (cosOf t) (sinOf t) (32 + d) := by
  simp only [rope, cosOf, sinOf, turn]
  rw [if_pos (by omega : 32 + d < 64), if_neg (by omega : ¬(32 + d) % 64 < 32), if_neg (by omega : ¬(32 + d) % 64 < 32),
    (by omega : (32 + d) % 32 = d), (by omega : 32 + d - 32 = d)]
theorem rope_2 (n : ℕ → ℝ) (t d : ℕ) (h : d < 32) :
    n (64 + d) * Real.cos (colTurn t d) + n (96 + d) * -Real.sin (colTurn t d) = rope n (cosOf t) (sinOf t) (64 + d) := by
  simp only [rope, cosOf, sinOf, turn]
  rw [if_neg (by omega : ¬64 + d < 64), if_pos (by omega : (64 + d) % 64 < 32), if_pos (by omega : (64 + d) % 64 < 32),
    (by omega : (64 + d) % 32 = d), (by omega : 64 + d + 32 = 96 + d)]
theorem rope_3 (n : ℕ → ℝ) (t d : ℕ) (h : d < 32) :
    n (96 + d) * Real.cos (colTurn t d) + n (64 + d) * Real.sin (colTurn t d) = rope n (cosOf t) (sinOf t) (96 + d) := by
  simp only [rope, cosOf, sinOf, turn]
  rw [if_neg (by omega : ¬96 + d < 64), if_neg (by omega : ¬(96 + d) % 64 < 32), if_neg (by omega : ¬(96 + d) % 64 < 32),
    (by omega : (96 + d) % 32 = d), (by omega : 96 + d - 32 = 64 + d)]

variable (x0 : FVec Ideal S8x2048x4608 .f32) (x1 : FVec Ideal S1x128 .f32) (P : ℕ → ℕ → ℕ → ℝ) (g : ℕ → ℝ)

/-! ### The queries -/

theorem query_entry (hx : ∀ j : S8x2048x4608.Idx, x0 j = ((P (j 0) (j 1) (j 2) : ℝ) : EReal)) (i : S8x2048x8x128.Idx) :
    val_main_v1 (F := Ideal) x0 i = ((P (i 0) (i 1) (128 * (i 2) + (i 3)) : ℝ) : EReal) := by
  rw [val_main_v1_apply, val_main_v0_apply, hx]
  have h0 : (i 0).val < 8 := (i 0).isLt
  have h1 : (i 1).val < 2048 := (i 1).isLt
  have h2 : (i 2).val < 8 := (i 2).isLt
  have h3 : (i 3).val < 128 := (i 3).isLt
  have e0 : (idx_main_v0 (idx_main_v1 i) 0).val = (i 0).val := by
    show ((((i 0).val * 2048 + (i 1).val) * 8 + (i 2).val) * 128 + (i 3).val) / 2097152 = _
    omega
  have e1 : (idx_main_v0 (idx_main_v1 i) 1).val = (i 1).val := by
    show ((((i 0).val * 2048 + (i 1).val) * 8 + (i 2).val) * 128 + (i 3).val) / 1024 % 2048 = _
    omega
  have e2 : (idx_main_v0 (idx_main_v1 i) 2).val = 128 * (i 2).val + (i 3).val := by
    show ((((i 0).val * 2048 + (i 1).val) * 8 + (i 2).val) * 128 + (i 3).val) % 1024 = _
    omega
  rw [e0, e1, e2]

/-- A query before its norm, by entry, position, head and coordinate. -/
def queryRow (b t h d : ℕ) : ℝ := P b t (128 * h + d)

theorem query_norm (hx : ∀ j : S8x2048x4608.Idx, x0 j = ((P (j 0) (j 1) (j 2) : ℝ) : EReal))
    (hg : ∀ d : Fin 128, x1 (ix2 0 d) = ((g d : ℝ) : EReal)) (i : S8x2048x8x128.Idx) :
    val_main_v15 (F := Ideal) x0 x1 i = ((normed (queryRow P (i 0) (i 1) (i 2)) g (i 3) : ℝ) : EReal) := by
  have hgain : val_main_v14 (F := Ideal) x1 i = ((g (i 3) : ℝ) : EReal) := by
    rw [val_main_v14_apply, val_main_v13_apply, val_main_v2_apply]
    refine Eq.trans (congrArg x1 (funext fun a => ?_)) (hg (i 3))
    fin_cases a
    · rfl
    · exact Fin.ext (Nat.mod_eq_of_lt (i 3).isLt)
  rw [val_main_v15_apply, val_main_v12_apply, hgain, val_main_v11_apply, val_main_v10_apply, val_main_v9_apply,
    val_main_v7_apply, val_main_v5_apply, val_main_v4_apply]
  simp only [val_main_v3_apply, query_entry x0 P hx]
  refine Eq.trans ?_ (norm_real (queryRow P (i 0) (i 1) (i 2)) g (i 3) _ zero_bits)
  rw [← length_bits, ← eps_here]
  rfl

theorem query_norm_at (hx : ∀ j : S8x2048x4608.Idx, x0 j = ((P (j 0) (j 1) (j 2) : ℝ) : EReal))
    (hg : ∀ d : Fin 128, x1 (ix2 0 d) = ((g d : ℝ) : EReal)) (i : S8x2048x8x128.Idx) (b t h d : ℕ)
    (h0 : (i 0).val = b) (h1 : (i 1).val = t) (h2 : (i 2).val = h) (h3 : (i 3).val = d) :
    val_main_v15 (F := Ideal) x0 x1 i = ((normed (queryRow P b t h) g d : ℝ) : EReal) := by
  rw [query_norm x0 x1 P g hx hg, h0, h1, h2, h3]

theorem query_0 (hx : ∀ j : S8x2048x4608.Idx, x0 j = ((P (j 0) (j 1) (j 2) : ℝ) : EReal))
    (hg : ∀ d : Fin 128, x1 (ix2 0 d) = ((g d : ℝ) : EReal)) (j : S8x2048x8x32.Idx) :
    val_main_v71 (F := Ideal) x0 x1 j
      = ((normed (queryRow P (j 0) (j 1) (j 2)) g ((j 3)) * Real.cos (rowTurn (j 1) (j 3)) + normed (queryRow P (j 0) (j 1) (j 2)) g (32 + (j 3)) * -Real.sin (rowTurn (j 1) (j 3)) : ℝ) : EReal) := by
  simp only [val_main_v71_apply, val_main_v68_apply, val_main_v70_apply, val_main_v61_apply, val_main_v62_apply, val_main_v59_apply, val_main_v67_apply, val_main_v69_apply, val_main_v64_apply, val_main_v66_apply, val_main_v63_apply, val_main_v65_apply, row_eq]
  rw [query_norm_at x0 x1 P g hx hg _ (j 0) (j 1) (j 2) ((j 3)) rfl rfl rfl rfl,
    query_norm_at x0 x1 P g hx hg _ (j 0) (j 1) (j 2) (32 + (j 3)) rfl rfl rfl (by show 32 + (j 3).val = _; omega)]
  exact lower _ _ _ _

theorem query_1 (hx : ∀ j : S8x2048x4608.Idx, x0 j = ((P (j 0) (j 1) (j 2) : ℝ) : EReal))
    (hg : ∀ d : Fin 128, x1 (ix2 0 d) = ((g d : ℝ) : EReal)) (j : S8x2048x8x32.Idx) :
    val_main_v76 (F := Ideal) x0 x1 j
      = ((normed (queryRow P (j 0) (j 1) (j 2)) g (32 + (j 3)) * Real.cos (rowTurn (j 1) (j 3)) + normed (queryRow P (j 0) (j 1) (j 2)) g ((j 3)) * Real.sin (rowTurn (j 1) (j 3)) : ℝ) : EReal) := by
  simp only [val_main_v76_apply, val_main_v73_apply, val_main_v75_apply, val_main_v61_apply, val_main_v62_apply, val_main_v59_apply, val_main_v72_apply, val_main_v74_apply, val_main_v64_apply, val_main_v66_apply, val_main_v63_apply, val_main_v65_apply, row_eq]
  rw [query_norm_at x0 x1 P g hx hg _ (j 0) (j 1) (j 2) ((j 3)) rfl rfl rfl rfl,
    query_norm_at x0 x1 P g hx hg _ (j 0) (j 1) (j 2) (32 + (j 3)) rfl rfl rfl (by show 32 + (j 3).val = _; omega)]
  exact upper _ _ _ _

theorem query_2 (hx : ∀ j : S8x2048x4608.Idx, x0 j = ((P (j 0) (j 1) (j 2) : ℝ) : EReal))
    (hg : ∀ d : Fin 128, x1 (ix2 0 d) = ((g d : ℝ) : EReal)) (j : S8x2048x8x32.Idx) :
    val_main_v88 (F := Ideal) x0 x1 j
      = ((normed (queryRow P (j 0) (j 1) (j 2)) g (64 + (j 3)) * Real.cos (colTurn (j 1) (j 3)) + normed (queryRow P (j 0) (j 1) (j 2)) g (96 + (j 3)) * -Real.sin (colTurn (j 1) (j 3)) : ℝ) : EReal) := by
  simp only [val_main_v88_apply, val_main_v85_apply, val_main_v87_apply, val_main_v78_apply, val_main_v79_apply, val_main_v60_apply, val_main_v84_apply, val_main_v86_apply, val_main_v81_apply, val_main_v83_apply, val_main_v80_apply, val_main_v82_apply, col_eq]
  rw [query_norm_at x0 x1 P g hx hg _ (j 0) (j 1) (j 2) (64 + (j 3)) rfl rfl rfl rfl,
    query_norm_at x0 x1 P g hx hg _ (j 0) (j 1) (j 2) (96 + (j 3)) rfl rfl rfl (by show 64 + (32 + (j 3).val) = _; omega)]
  exact lower _ _ _ _

theorem query_3 (hx : ∀ j : S8x2048x4608.Idx, x0 j = ((P (j 0) (j 1) (j 2) : ℝ) : EReal))
    (hg : ∀ d : Fin 128, x1 (ix2 0 d) = ((g d : ℝ) : EReal)) (j : S8x2048x8x32.Idx) :
    val_main_v93 (F := Ideal) x0 x1 j
      = ((normed (queryRow P (j 0) (j 1) (j 2)) g (96 + (j 3)) * Real.cos (colTurn (j 1) (j 3)) + normed (queryRow P (j 0) (j 1) (j 2)) g (64 + (j 3)) * Real.sin (colTurn (j 1) (j 3)) : ℝ) : EReal) := by
  simp only [val_main_v93_apply, val_main_v90_apply, val_main_v92_apply, val_main_v78_apply, val_main_v79_apply, val_main_v60_apply, val_main_v89_apply, val_main_v91_apply, val_main_v81_apply, val_main_v83_apply, val_main_v80_apply, val_main_v82_apply, col_eq]
  rw [query_norm_at x0 x1 P g hx hg _ (j 0) (j 1) (j 2) (64 + (j 3)) rfl rfl rfl rfl,
    query_norm_at x0 x1 P g hx hg _ (j 0) (j 1) (j 2) (96 + (j 3)) rfl rfl rfl (by show 64 + (32 + (j 3).val) = _; omega)]
  exact upper _ _ _ _

theorem query_rope (hx : ∀ j : S8x2048x4608.Idx, x0 j = ((P (j 0) (j 1) (j 2) : ℝ) : EReal))
    (hg : ∀ d : Fin 128, x1 (ix2 0 d) = ((g d : ℝ) : EReal)) (b : Fin 8) (t : Fin 2048) (h : Fin 8) (d : Fin 128) :
    val_main_v95 (F := Ideal) x0 x1 (ix4 b t h d)
      = ((rope (normed (queryRow P b t h) g) (cosOf t) (sinOf t) d : ℝ) : EReal) := by
  obtain ⟨d, hd⟩ := d
  unfold val_main_v95 val_main_v77 val_main_v94
  pointwise
  have at_ : ∀ k k' : ℕ, k = k' → ((rope (normed (queryRow P b t h) g) (cosOf t) (sinOf t) k : ℝ) : EReal)
      = ((rope (normed (queryRow P b t h) g) (cosOf t) (sinOf t) k' : ℝ) : EReal) := fun _ _ h => by rw [h]
  by_cases h1 : d < 64
  · rw [dif_pos h1]
    by_cases h2 : d < 32
    · rw [dif_pos h2]
      exact (query_0 x0 x1 P g hx hg _).trans (congrArg _ (rope_0 _ t d h2))
    rw [dif_neg h2]
    exact ((query_1 x0 x1 P g hx hg _).trans (congrArg _ (rope_1 _ t (d - 32) (by omega)))).trans (at_ _ d (by omega))
  rw [dif_neg h1]
  by_cases h2 : d - 64 < 32
  · rw [dif_pos h2]
    exact ((query_2 x0 x1 P g hx hg _).trans (congrArg _ (rope_2 _ t (d - 64) h2))).trans (at_ _ d (by omega))
  rw [dif_neg h2]
  exact ((query_3 x0 x1 P g hx hg _).trans (congrArg _ (rope_3 _ t (d - 64 - 32) (by omega)))).trans (at_ _ d (by omega))

/-! ### The keys -/

theorem key_entry (hx : ∀ j : S8x2048x4608.Idx, x0 j = ((P (j 0) (j 1) (j 2) : ℝ) : EReal)) (i : S8x2048x2x128.Idx) :
    val_main_v17 (F := Ideal) x0 i = ((P (i 0) (i 1) (1024 + 128 * (i 2) + (i 3)) : ℝ) : EReal) := by
  rw [val_main_v17_apply, val_main_v16_apply, hx]
  have h0 : (i 0).val < 8 := (i 0).isLt
  have h1 : (i 1).val < 2048 := (i 1).isLt
  have h2 : (i 2).val < 2 := (i 2).isLt
  have h3 : (i 3).val < 128 := (i 3).isLt
  have e0 : (idx_main_v16 (idx_main_v17 i) 0).val = (i 0).val := by
    show ((((i 0).val * 2048 + (i 1).val) * 2 + (i 2).val) * 128 + (i 3).val) / 524288 = _
    omega
  have e1 : (idx_main_v16 (idx_main_v17 i) 1).val = (i 1).val := by
    show ((((i 0).val * 2048 + (i 1).val) * 2 + (i 2).val) * 128 + (i 3).val) / 256 % 2048 = _
    omega
  have e2 : (idx_main_v16 (idx_main_v17 i) 2).val = 1024 + 128 * (i 2).val + (i 3).val := by
    show 1024 + ((((i 0).val * 2048 + (i 1).val) * 2 + (i 2).val) * 128 + (i 3).val) % 256 = _
    omega
  rw [e0, e1, e2]

/-- A key before its norm, by entry, position, head and coordinate. -/
def keyRow (b t h d : ℕ) : ℝ := P b t (1024 + 128 * h + d)

theorem key_norm (hx : ∀ j : S8x2048x4608.Idx, x0 j = ((P (j 0) (j 1) (j 2) : ℝ) : EReal))
    (hg : ∀ d : Fin 128, x1 (ix2 0 d) = ((g d : ℝ) : EReal)) (i : S8x2048x2x128.Idx) :
    val_main_v31 (F := Ideal) x0 x1 i = ((normed (keyRow P (i 0) (i 1) (i 2)) g (i 3) : ℝ) : EReal) := by
  have hgain : val_main_v30 (F := Ideal) x1 i = ((g (i 3) : ℝ) : EReal) := by
    rw [val_main_v30_apply, val_main_v29_apply, val_main_v18_apply]
    refine Eq.trans (congrArg x1 (funext fun a => ?_)) (hg (i 3))
    fin_cases a
    · rfl
    · exact Fin.ext (Nat.mod_eq_of_lt (i 3).isLt)
  rw [val_main_v31_apply, val_main_v28_apply, hgain, val_main_v27_apply, val_main_v26_apply, val_main_v25_apply,
    val_main_v23_apply, val_main_v21_apply, val_main_v20_apply]
  simp only [val_main_v19_apply, key_entry x0 P hx]
  refine Eq.trans ?_ (norm_real (keyRow P (i 0) (i 1) (i 2)) g (i 3) _ zero_bits)
  rw [← length_bits, ← eps_here]
  rfl

theorem key_norm_at (hx : ∀ j : S8x2048x4608.Idx, x0 j = ((P (j 0) (j 1) (j 2) : ℝ) : EReal))
    (hg : ∀ d : Fin 128, x1 (ix2 0 d) = ((g d : ℝ) : EReal)) (i : S8x2048x2x128.Idx) (b t h d : ℕ)
    (h0 : (i 0).val = b) (h1 : (i 1).val = t) (h2 : (i 2).val = h) (h3 : (i 3).val = d) :
    val_main_v31 (F := Ideal) x0 x1 i = ((normed (keyRow P b t h) g d : ℝ) : EReal) := by
  rw [key_norm x0 x1 P g hx hg, h0, h1, h2, h3]

theorem key_0 (hx : ∀ j : S8x2048x4608.Idx, x0 j = ((P (j 0) (j 1) (j 2) : ℝ) : EReal))
    (hg : ∀ d : Fin 128, x1 (ix2 0 d) = ((g d : ℝ) : EReal)) (j : S8x2048x2x32.Idx) :
    val_main_v109 (F := Ideal) x0 x1 j
      = ((normed (keyRow P (j 0) (j 1) (j 2)) g ((j 3)) * Real.cos (rowTurn (j 1) (j 3)) + normed (keyRow P (j 0) (j 1) (j 2)) g (32 + (j 3)) * -Real.sin (rowTurn (j 1) (j 3)) : ℝ) : EReal) := by
  simp only [val_main_v109_apply, val_main_v106_apply, val_main_v108_apply, val_main_v99_apply, val_main_v100_apply, val_main_v97_apply, val_main_v105_apply, val_main_v107_apply, val_main_v102_apply, val_main_v104_apply, val_main_v101_apply, val_main_v103_apply, row_eq]
  rw [key_norm_at x0 x1 P g hx hg _ (j 0) (j 1) (j 2) ((j 3)) rfl rfl rfl rfl,
    key_norm_at x0 x1 P g hx hg _ (j 0) (j 1) (j 2) (32 + (j 3)) rfl rfl rfl (by show 32 + (j 3).val = _; omega)]
  exact lower _ _ _ _

theorem key_1 (hx : ∀ j : S8x2048x4608.Idx, x0 j = ((P (j 0) (j 1) (j 2) : ℝ) : EReal))
    (hg : ∀ d : Fin 128, x1 (ix2 0 d) = ((g d : ℝ) : EReal)) (j : S8x2048x2x32.Idx) :
    val_main_v114 (F := Ideal) x0 x1 j
      = ((normed (keyRow P (j 0) (j 1) (j 2)) g (32 + (j 3)) * Real.cos (rowTurn (j 1) (j 3)) + normed (keyRow P (j 0) (j 1) (j 2)) g ((j 3)) * Real.sin (rowTurn (j 1) (j 3)) : ℝ) : EReal) := by
  simp only [val_main_v114_apply, val_main_v111_apply, val_main_v113_apply, val_main_v99_apply, val_main_v100_apply, val_main_v97_apply, val_main_v110_apply, val_main_v112_apply, val_main_v102_apply, val_main_v104_apply, val_main_v101_apply, val_main_v103_apply, row_eq]
  rw [key_norm_at x0 x1 P g hx hg _ (j 0) (j 1) (j 2) ((j 3)) rfl rfl rfl rfl,
    key_norm_at x0 x1 P g hx hg _ (j 0) (j 1) (j 2) (32 + (j 3)) rfl rfl rfl (by show 32 + (j 3).val = _; omega)]
  exact upper _ _ _ _

theorem key_2 (hx : ∀ j : S8x2048x4608.Idx, x0 j = ((P (j 0) (j 1) (j 2) : ℝ) : EReal))
    (hg : ∀ d : Fin 128, x1 (ix2 0 d) = ((g d : ℝ) : EReal)) (j : S8x2048x2x32.Idx) :
    val_main_v126 (F := Ideal) x0 x1 j
      = ((normed (keyRow P (j 0) (j 1) (j 2)) g (64 + (j 3)) * Real.cos (colTurn (j 1) (j 3)) + normed (keyRow P (j 0) (j 1) (j 2)) g (96 + (j 3)) * -Real.sin (colTurn (j 1) (j 3)) : ℝ) : EReal) := by
  simp only [val_main_v126_apply, val_main_v123_apply, val_main_v125_apply, val_main_v116_apply, val_main_v117_apply, val_main_v98_apply, val_main_v122_apply, val_main_v124_apply, val_main_v119_apply, val_main_v121_apply, val_main_v118_apply, val_main_v120_apply, col_eq]
  rw [key_norm_at x0 x1 P g hx hg _ (j 0) (j 1) (j 2) (64 + (j 3)) rfl rfl rfl rfl,
    key_norm_at x0 x1 P g hx hg _ (j 0) (j 1) (j 2) (96 + (j 3)) rfl rfl rfl (by show 64 + (32 + (j 3).val) = _; omega)]
  exact lower _ _ _ _

theorem key_3 (hx : ∀ j : S8x2048x4608.Idx, x0 j = ((P (j 0) (j 1) (j 2) : ℝ) : EReal))
    (hg : ∀ d : Fin 128, x1 (ix2 0 d) = ((g d : ℝ) : EReal)) (j : S8x2048x2x32.Idx) :
    val_main_v131 (F := Ideal) x0 x1 j
      = ((normed (keyRow P (j 0) (j 1) (j 2)) g (96 + (j 3)) * Real.cos (colTurn (j 1) (j 3)) + normed (keyRow P (j 0) (j 1) (j 2)) g (64 + (j 3)) * Real.sin (colTurn (j 1) (j 3)) : ℝ) : EReal) := by
  simp only [val_main_v131_apply, val_main_v128_apply, val_main_v130_apply, val_main_v116_apply, val_main_v117_apply, val_main_v98_apply, val_main_v127_apply, val_main_v129_apply, val_main_v119_apply, val_main_v121_apply, val_main_v118_apply, val_main_v120_apply, col_eq]
  rw [key_norm_at x0 x1 P g hx hg _ (j 0) (j 1) (j 2) (64 + (j 3)) rfl rfl rfl rfl,
    key_norm_at x0 x1 P g hx hg _ (j 0) (j 1) (j 2) (96 + (j 3)) rfl rfl rfl (by show 64 + (32 + (j 3).val) = _; omega)]
  exact upper _ _ _ _

theorem key_rope (hx : ∀ j : S8x2048x4608.Idx, x0 j = ((P (j 0) (j 1) (j 2) : ℝ) : EReal))
    (hg : ∀ d : Fin 128, x1 (ix2 0 d) = ((g d : ℝ) : EReal)) (b : Fin 8) (t : Fin 2048) (h : Fin 2) (d : Fin 128) :
    val_main_v133 (F := Ideal) x0 x1 (ix4 b t h d)
      = ((rope (normed (keyRow P b t h) g) (cosOf t) (sinOf t) d : ℝ) : EReal) := by
  obtain ⟨d, hd⟩ := d
  unfold val_main_v133 val_main_v115 val_main_v132
  pointwise
  have at_ : ∀ k k' : ℕ, k = k' → ((rope (normed (keyRow P b t h) g) (cosOf t) (sinOf t) k : ℝ) : EReal)
      = ((rope (normed (keyRow P b t h) g) (cosOf t) (sinOf t) k' : ℝ) : EReal) := fun _ _ h => by rw [h]
  by_cases h1 : d < 64
  · rw [dif_pos h1]
    by_cases h2 : d < 32
    · rw [dif_pos h2]
      exact (key_0 x0 x1 P g hx hg _).trans (congrArg _ (rope_0 _ t d h2))
    rw [dif_neg h2]
    exact ((key_1 x0 x1 P g hx hg _).trans (congrArg _ (rope_1 _ t (d - 32) (by omega)))).trans (at_ _ d (by omega))
  rw [dif_neg h1]
  by_cases h2 : d - 64 < 32
  · rw [dif_pos h2]
    exact ((key_2 x0 x1 P g hx hg _).trans (congrArg _ (rope_2 _ t (d - 64) h2))).trans (at_ _ d (by omega))
  rw [dif_neg h2]
  exact ((key_3 x0 x1 P g hx hg _).trans (congrArg _ (rope_3 _ t (d - 64 - 32) (by omega)))).trans (at_ _ d (by omega))

/-! ### The values -/

theorem value_entry (hx : ∀ j : S8x2048x4608.Idx, x0 j = ((P (j 0) (j 1) (j 2) : ℝ) : EReal)) (i : S8x2048x2x128.Idx) :
    val_main_v33 (F := Ideal) x0 i = ((P (i 0) (i 1) (1280 + 128 * (i 2) + (i 3)) : ℝ) : EReal) := by
  rw [val_main_v33_apply, val_main_v32_apply, hx]
  have h0 : (i 0).val < 8 := (i 0).isLt
  have h1 : (i 1).val < 2048 := (i 1).isLt
  have h2 : (i 2).val < 2 := (i 2).isLt
  have h3 : (i 3).val < 128 := (i 3).isLt
  have e0 : (idx_main_v32 (idx_main_v33 i) 0).val = (i 0).val := by
    show ((((i 0).val * 2048 + (i 1).val) * 2 + (i 2).val) * 128 + (i 3).val) / 524288 = _
    omega
  have e1 : (idx_main_v32 (idx_main_v33 i) 1).val = (i 1).val := by
    show ((((i 0).val * 2048 + (i 1).val) * 2 + (i 2).val) * 128 + (i 3).val) / 256 % 2048 = _
    omega
  have e2 : (idx_main_v32 (idx_main_v33 i) 2).val = 1280 + 128 * (i 2).val + (i 3).val := by
    show 1280 + ((((i 0).val * 2048 + (i 1).val) * 2 + (i 2).val) * 128 + (i 3).val) % 256 = _
    omega
  rw [e0, e1, e2]

end Cert.ReferenceIdeal.Attention

end
-- ==== Proof.AttentionScores.lean ====
module

public import proofs.«01_k».proof.Proof.AttentionHeads

/-! The scores of the reference, their softmax, the weighted sum of the values and the gate, as real numbers. -/

@[expose] public section

set_option maxRecDepth 16384

noncomputable section

namespace Cert.ReferenceIdeal.Attention

open Finset Idealize.ShloMosaic Idealize.ShloMosaic.TcCoe
open Cert.ReferenceIdeal Cert.ReferenceIdeal.Gen Cert.ReferenceIdeal.Read Cert.AttentionMath

theorem low_bits : Ideal.ofBits FTy.f32 0xFF800000#32 = ⊥ := by simp [Ideal.ofBits, Ideal.ieee]
theorem one_bits : Ideal.ofBits FTy.f32 0x3F800000#32 = ((1 : ℝ) : EReal) := by
  simp [Ideal.ofBits, Ideal.ieee, -EReal.coe_mul]
  norm_num

/-! ### The mathematics -/

/-- The exponential of a score over the root of the head's width is a power of two of the scaled score. -/
theorem exp_scaled (a : ℝ) : Real.exp (a / Real.sqrt 128) = (2 : ℝ) ^ (a * scale) := by
  rw [Real.rpow_def_of_pos (by norm_num), scale]
  have h : Real.log 2 ≠ 0 := (Real.log_pos (by norm_num)).ne'
  congr 1
  field_simp

/-- A softmax shifted by `M`, in exponentials, weighs like powers of two of the scaled scores. -/
theorem softmax_eq (a v : ℕ → ℝ) (M : ℝ) :
    ∑ s ∈ range 2048, v s * (Real.exp (a s / Real.sqrt 128 - M) / ∑ s ∈ range 2048, Real.exp (a s / Real.sqrt 128 - M))
      = (∑ s ∈ range 2048, v s * (2 : ℝ) ^ (a s * scale)) / ∑ s ∈ range 2048, (2 : ℝ) ^ (a s * scale) := by
  have e : ∀ s, Real.exp (a s / Real.sqrt 128 - M) = (2 : ℝ) ^ (a s * scale) / Real.exp M := fun s => by
    rw [Real.exp_sub, exp_scaled]
  simp only [e]
  rw [← sum_div (range 2048) (fun s => (2 : ℝ) ^ (a s * scale)), sum_div (range 2048) (fun s => v s * (2 : ℝ) ^ (a s * scale))]
  refine sum_congr rfl fun s _ => ?_
  rw [div_div_div_cancel_right₀ (Real.exp_pos M).ne', mul_div_assoc]

theorem exps_pos (a : ℕ → ℝ) : 0 < ∑ s ∈ range 2048, Real.exp (a s) :=
  sum_pos (fun s _ => Real.exp_pos _) ⟨0, by simp⟩

/-- Twice `h` through the sigmoid of twice `h`. -/
theorem gate_eq (h : ℝ) : 2 * h * (1 / (1 + Real.exp (-(2 * h)))) = h * Real.tanh h + h := by
  have e : Real.exp (-(2 * h)) = Real.exp (-h) / Real.exp h := by rw [← Real.exp_sub]; congr 1; ring
  rw [e, Real.tanh_eq_sinh_div_cosh, Real.sinh_eq, Real.cosh_eq]
  have p : 0 < Real.exp h := Real.exp_pos _
  have q : 0 < Real.exp (-h) := Real.exp_pos _
  field_simp
  ring

variable (x0 : FVec Ideal S8x2048x4608 .f32) (x1 x2 : FVec Ideal S1x128 .f32) (P : ℕ → ℕ → ℕ → ℝ) (gq gk : ℕ → ℝ)

/-- A query after its norm and its rotation. -/
def queryTurned (b t h d : ℕ) : ℝ := rope (normed (queryRow P b t h) gq) (cosOf t) (sinOf t) d
/-- A key after its norm and its rotation. -/
def keyTurned (b t h d : ℕ) : ℝ := rope (normed (keyRow P b t h) gk) (cosOf t) (sinOf t) d
/-- The product of a query and a key. -/
def rawOf (b g j t s : ℕ) : ℝ := ∑ d ∈ range 128, keyTurned P gk b s g d * queryTurned P gq b t (4 * g + j) d

/-- The arguments are real. -/
structure Real3 : Prop where
  projection : ∀ j : S8x2048x4608.Idx, x0 j = ((P (j 0) (j 1) (j 2) : ℝ) : EReal)
  queries : ∀ d : Fin 128, x1 (ix2 0 d) = ((gq d : ℝ) : EReal)
  keys : ∀ d : Fin 128, x2 (ix2 0 d) = ((gk d : ℝ) : EReal)

variable {x0 x1 x2 P gq gk} (H : Real3 x0 x1 x2 P gq gk)
include H

theorem query_turned (i : S8x2048x2x4x128.Idx) :
    val_main_v96 (F := Ideal) x0 x1 i = ((queryTurned P gq (i 0) (i 1) (4 * (i 2) + (i 3)) (i 4) : ℝ) : EReal) := by
  rw [val_main_v96_apply]
  have h0 : (i 0).val < 8 := (i 0).isLt
  have h1 : (i 1).val < 2048 := (i 1).isLt
  have h2 : (i 2).val < 2 := (i 2).isLt
  have h3 : (i 3).val < 4 := (i 3).isLt
  have h4 : (i 4).val < 128 := (i 4).isLt
  have e : idx_main_v96 i = ix4 (i 0) (i 1) (⟨4 * (i 2).val + (i 3).val, by omega⟩ : Fin 8) (i 4) := by
    funext a
    fin_cases a
    · refine Fin.ext ?_
      show (((((i 0).val * 2048 + (i 1).val) * 2 + (i 2).val) * 4 + (i 3).val) * 128 + (i 4).val) / 2097152 = (i 0).val
      omega
    · refine Fin.ext ?_
      show (((((i 0).val * 2048 + (i 1).val) * 2 + (i 2).val) * 4 + (i 3).val) * 128 + (i 4).val) / 1024 % 2048 = (i 1).val
      omega
    · refine Fin.ext ?_
      show (((((i 0).val * 2048 + (i 1).val) * 2 + (i 2).val) * 4 + (i 3).val) * 128 + (i 4).val) / 128 % 8 = 4 * (i 2).val + (i 3).val
      omega
    · refine Fin.ext ?_
      show (((((i 0).val * 2048 + (i 1).val) * 2 + (i 2).val) * 4 + (i 3).val) * 128 + (i 4).val) % 128 = (i 4).val
      omega
  rw [e]
  exact query_rope x0 x1 P gq H.projection H.queries (i 0) (i 1) _ (i 4)

theorem key_turned (i : S8x2048x2x128.Idx) :
    val_main_v133 (F := Ideal) x0 x2 i = ((keyTurned P gk (i 0) (i 1) (i 2) (i 3) : ℝ) : EReal) := by
  have e : i = ix4 (i 0) (i 1) (i 2) (i 3) := by
    funext a
    fin_cases a <;> rfl
  refine (congrArg _ e).trans ?_
  exact key_rope x0 x2 P gk H.projection H.keys (i 0) (i 1) (i 2) (i 3)

/-- A score. -/
theorem score_eq (i : S8x2x4x2048x2048.Idx) :
    val_main_v138 (F := Ideal) x0 x1 x2 i = ((rawOf P gq gk (i 0) (i 1) (i 2) (i 3) (i 4) / Real.sqrt 128 : ℝ) : EReal) := by
  rw [val_main_v138_apply, val_main_v135_apply, val_main_v134_apply, val_main_v137_apply, val_main_v136_apply]
  simp only [query_turned H, key_turned H]
  have hs : ∑ k : Fin 128, ((keyTurned P gk (i 0) (i 4) (i 1) k : ℝ) : EReal) * ((queryTurned P gq (i 0) (i 3) (4 * (i 1) + (i 2)) k : ℝ) : EReal)
      = ((rawOf P gq gk (i 0) (i 1) (i 2) (i 3) (i 4) : ℝ) : EReal) := by
    rw [rawOf, ← Fin.sum_univ_eq_sum_range (fun d => keyTurned P gk (i 0) (i 4) (i 1) d * queryTurned P gq (i 0) (i 3) (4 * (i 1) + (i 2)) d), ← coe_sum]
    exact sum_congr rfl fun k _ => (EReal.coe_mul _ _).symm
  have hr : Ideal.sqrt (Ideal.ofBits FTy.f32 0x43000000#32) = ((Real.sqrt 128 : ℝ) : EReal) := by
    rw [length_bits]
    show (if (128 : ℝ) < 0 then (⊥ : EReal) else (Real.sqrt 128 : EReal)) = _
    rw [if_neg (by norm_num)]
  have hp : Real.sqrt 128 ≠ 0 := (Real.sqrt_pos.mpr (by norm_num)).ne'
  refine Eq.trans ?_ (div_real (rawOf P gq gk (i 0) (i 1) (i 2) (i 3) (i 4)) _ hp)
  rw [← hs, ← hr]
  rfl

/-- The largest score of a query is real. -/
theorem peak_real (i : S8x2x4x2048.Idx) : ∃ M : ℝ, val_main_v141 (F := Ideal) x0 x1 x2 i = M := by
  rw [val_main_v141_apply, val_main_v140_apply]
  unfold val_main_v139
  rw [Host.reduce_eq_fold, Shape.ReducesTo.fold_fiber_r5_a4]
  obtain ⟨M, hM⟩ := fold_real (n := 2048) (fun k => val_main_v138 (F := Ideal) x0 x1 x2 (ix5 (i 0) (i 1) (i 2) (i 3) k))
    fun k => ⟨_, score_eq H _⟩
  refine ⟨M, ?_⟩
  refine Eq.trans (congrArg₂ max low_bits (Eq.trans ?_ hM)) (max_eq_right bot_le)
  rw [← low_bits]
  rfl

/-- The weighted sum of the values. -/
theorem mix_eq (i : S8x2x128x4x2048.Idx) :
    val_main_v150 (F := Ideal) x0 x1 x2 i
      = (((∑ s ∈ range 2048, P (i 0) s (1280 + 128 * (i 1) + (i 2)) * (2 : ℝ) ^ (rawOf P gq gk (i 0) (i 1) (i 3) (i 4) s * scale))
          / ∑ s ∈ range 2048, (2 : ℝ) ^ (rawOf P gq gk (i 0) (i 1) (i 3) (i 4) s * scale) : ℝ) : EReal) := by
  choose M hM using peak_real H
  have here : ∀ k k' : Fin 2048, idx_main_v142 (idx_main_v143 (idx_main_v146 (idx_main_v147 (idx_main_v148 (ridx_main_v150 i k'))) k))
      = idx_main_v142 (idx_main_v143 (ridx_main_v150 i 0)) := fun k k' => by
    funext a
    fin_cases a <;> rfl
  have same : ∀ k : Fin 2048, idx_main_v142 (idx_main_v143 (ridx_main_v150 i k)) = idx_main_v142 (idx_main_v143 (ridx_main_v150 i 0)) := fun k => by
    funext a
    fin_cases a <;> rfl
  have weight : ∀ q : S8x2x4x2048x2048.Idx, val_main_v145 (F := Ideal) x0 x1 x2 q
      = ((Real.exp (rawOf P gq gk (q 0) (q 1) (q 2) (q 3) (q 4) / Real.sqrt 128 - M (idx_main_v142 (idx_main_v143 q))) : ℝ) : EReal) := fun q => by
    rw [val_main_v145_apply, val_main_v144_apply, score_eq H, val_main_v143_apply, val_main_v142_apply, hM]
    exact congrArg Ideal.exp (EReal.coe_sub _ _).symm
  have total : ∀ k : Fin 2048, val_main_v148 (F := Ideal) x0 x1 x2 (ridx_main_v150 i k)
      = ((∑ s ∈ range 2048, Real.exp (rawOf P gq gk (i 0) (i 1) (i 3) (i 4) s / Real.sqrt 128 - M (idx_main_v142 (idx_main_v143 (ridx_main_v150 i 0)))) : ℝ) : EReal) := fun k => by
    rw [val_main_v148_apply, val_main_v147_apply, val_main_v146_apply]
    simp only [weight, here]
    rw [← Fin.sum_univ_eq_sum_range (fun s => Real.exp (rawOf P gq gk (i 0) (i 1) (i 3) (i 4) s / Real.sqrt 128 - M (idx_main_v142 (idx_main_v143 (ridx_main_v150 i 0))))),
      ← coe_sum]
    refine Eq.trans (congrArg (· + _) zero_bits) ?_
    rw [EReal.coe_zero, zero_add]
  have part : ∀ k : Fin 2048, val_main_v145 (F := Ideal) x0 x1 x2 (ridx_main_v150 i k)
      = ((Real.exp (rawOf P gq gk (i 0) (i 1) (i 3) (i 4) k / Real.sqrt 128 - M (idx_main_v142 (idx_main_v143 (ridx_main_v150 i 0)))) : ℝ) : EReal) := fun k => by
    rw [weight, same]
  generalize M (idx_main_v142 (idx_main_v143 (ridx_main_v150 i 0))) = m at total part
  rw [val_main_v150_apply, ← softmax_eq (rawOf P gq gk (i 0) (i 1) (i 3) (i 4)) (fun s => P (i 0) s (1280 + 128 * (i 1) + (i 2))) m,
    ← Fin.sum_univ_eq_sum_range (fun s => P (i 0) s (1280 + 128 * (i 1) + (i 2)) * (Real.exp (rawOf P gq gk (i 0) (i 1) (i 3) (i 4) s / Real.sqrt 128 - m)
      / ∑ s ∈ range 2048, Real.exp (rawOf P gq gk (i 0) (i 1) (i 3) (i 4) s / Real.sqrt 128 - m))), ← coe_sum]
  refine sum_congr rfl fun k _ => ?_
  rw [value_entry x0 P H.projection, val_main_v149_apply, part, total, EReal.coe_mul, ← div_real _ _ (exps_pos _).ne']
  rfl

/-- The gate. -/
theorem gated_eq (i : S8x2048x1024.Idx) :
    val_main_v156 (F := Ideal) x0 i
      = ((P (i 0) (i 1) (1536 + (i 2)) * Real.tanh (P (i 0) (i 1) (1536 + (i 2))) + P (i 0) (i 1) (1536 + (i 2)) : ℝ) : EReal) := by
  have twice : val_main_v155 (F := Ideal) x0 i = ((2 * P (i 0) (i 1) (1536 + (i 2)) : ℝ) : EReal) := by
    rw [val_main_v155_apply, val_main_v154_apply, val_main_v153_apply, H.projection, EReal.coe_mul, ← two_bits]
    rfl
  rw [val_main_v156_apply, val_main_call2_v5_apply, val_main_call2_v4_apply, val_main_call2_v3_apply, val_main_call2_v2_apply,
    val_main_call2_v1_apply, val_main_call2_v0_apply, twice, ← gate_eq]
  generalize P (i 0) (i 1) (1536 + (i 2)) = h
  have p : 1 + Real.exp (-(2 * h)) ≠ 0 := (add_pos one_pos (Real.exp_pos _)).ne'
  refine Eq.trans ?_ (EReal.coe_mul (2 * h) _).symm
  rw [← div_real _ _ p, EReal.coe_add, ← one_bits]
  rfl

/-- An entry of the result. -/
theorem result_eq (i : S8x2048x1024.Idx) :
    val_main_v158 (F := Ideal) x0 x1 x2 i
      = (((∑ s ∈ range 2048, P (i 0) s (1280 + 128 * ((i 2) / 512) + (i 2) % 128) * (2 : ℝ) ^ (rawOf P gq gk (i 0) ((i 2) / 512) ((i 2) / 128 % 4) (i 1) s * scale))
          / (∑ s ∈ range 2048, (2 : ℝ) ^ (rawOf P gq gk (i 0) ((i 2) / 512) ((i 2) / 128 % 4) (i 1) s * scale))
          * (P (i 0) (i 1) (1536 + (i 2)) * Real.tanh (P (i 0) (i 1) (1536 + (i 2))) + P (i 0) (i 1) (1536 + (i 2))) : ℝ) : EReal) := by
  have h0 : (i 0).val < 8 := (i 0).isLt
  have h1 : (i 1).val < 2048 := (i 1).isLt
  have h2 : (i 2).val < 1024 := (i 2).isLt
  have mixed : ∀ (b g d j t : ℕ) (q : S8x2x128x4x2048.Idx), (q 0).val = b → (q 1).val = g → (q 2).val = d → (q 3).val = j → (q 4).val = t →
      val_main_v150 (F := Ideal) x0 x1 x2 q
        = (((∑ s ∈ range 2048, P b s (1280 + 128 * g + d) * (2 : ℝ) ^ (rawOf P gq gk b g j t s * scale))
          / ∑ s ∈ range 2048, (2 : ℝ) ^ (rawOf P gq gk b g j t s * scale) : ℝ) : EReal) := by
    rintro _ _ _ _ _ q rfl rfl rfl rfl rfl
    exact mix_eq H q
  have hm := (val_main_v152_apply (F := Ideal) x0 x1 x2 i).trans ((val_main_v151_apply (F := Ideal) x0 x1 x2 (idx_main_v152 i)).trans
    (mixed (i 0).val ((i 2).val / 512) ((i 2).val % 128) ((i 2).val / 128 % 4) (i 1).val (idx_main_v151 (idx_main_v152 i))
      (by show (((i 0).val * 2048 + (i 1).val) * 1024 + (i 2).val) / 2097152 = _; omega)
      (by show (((i 0).val * 2048 + (i 1).val) * 1024 + (i 2).val) / 512 % 2 = _; omega)
      (by show (((i 0).val * 2048 + (i 1).val) * 1024 + (i 2).val) % 128 = _; omega)
      (by show (((i 0).val * 2048 + (i 1).val) * 1024 + (i 2).val) / 128 % 4 = _; omega)
      (by show (((i 0).val * 2048 + (i 1).val) * 1024 + (i 2).val) / 1024 % 2048 = _; omega)))
  rw [EReal.coe_mul, ← gated_eq H, ← hm]
  rfl

end Cert.ReferenceIdeal.Attention

end
-- ==== Proof.AttentionValue.lean ====
module

public import proofs.«01_k».proof.Proof.AttentionRunValue
public import proofs.«01_k».proof.Proof.AttentionScores

/-! The attention kernel and its reference leave the same real numbers. -/

@[expose] public section

set_option maxRecDepth 16384

noncomputable section

namespace Cert.KernelIdeal.AttentionValue

open Finset Idealize.ShloMosaic Idealize.ShloMosaic.TcCoe Idealize.SL.Sem Idealize.ShloMosaic.StableHlo
open Cert.AttentionMath Cert.ReferenceIdeal.Attention

variable (P : ℕ → ℕ → ℕ → ℝ) (gq gk : ℕ → ℝ)

/-- The kernel's scores, of keys and queries taken by group, are the reference's, scaled. -/
theorem score_group (b g e t s : ℕ) (ht : t < 2048) :
    scoreOf (keysOf (fun t d => P b t (128 * (8 + g) + d)) gk cosOf sinOf) (queriesOf (fun t d => P b t (512 * g + d)) gq cosOf sinOf)
      (2048 * e + t) s = rawOf P gq gk b g e t s * scale := by
  have key : (fun d => P b s (128 * (8 + g) + d)) = keyRow P b s g := funext fun d => by
    rw [keyRow, show 128 * (8 + g) + d = 1024 + 128 * g + d by ring]
  have query : (fun d => P b t (512 * g + (128 * e + d))) = queryRow P b t (4 * g + e) := funext fun d => by
    rw [queryRow, show 512 * g + (128 * e + d) = 128 * (4 * g + e) + d by ring]
  rw [scoreOf, rawOf, sum_mul]
  refine sum_congr rfl fun d _ => ?_
  rw [keysOf, queriesOf, keyTurned, queryTurned, show (2048 * e + t) % 2048 = t by omega, show (2048 * e + t) / 2048 = e by omega, key, query, mul_assoc]

/-- An entry of the kernel's result is the reference's. -/
theorem result_real (b t z : ℕ) (ht : t < 2048) :
    groupOf P gq gk b (z / 512) t (z % 512)
      = (∑ s ∈ range 2048, P b s (1280 + 128 * (z / 512) + z % 128) * (2 : ℝ) ^ (rawOf P gq gk b (z / 512) (z / 128 % 4) t s * scale))
          / (∑ s ∈ range 2048, (2 : ℝ) ^ (rawOf P gq gk b (z / 512) (z / 128 % 4) t s * scale))
          * (P b t (1536 + z) * Real.tanh (P b t (1536 + z)) + P b t (1536 + z)) := by
  have head : z % 512 / 128 = z / 128 % 4 := by omega
  have at1 : ∀ s, P b s (128 * (10 + z / 512) + z % 512 % 128) = P b s (1280 + 128 * (z / 512) + z % 128) := fun s => by
    congr 1
    omega
  have at2 : P b t (512 * (3 + z / 512) + z % 512) = P b t (1536 + z) := by
    congr 1
    omega
  rw [groupOf, outOf]
  simp only [score_group P gq gk b (z / 512) _ t _ ht, head, at1, at2]

/-- What the reference leaves. -/
theorem reference_eq {x0 : FVec Ideal Cert.ReferenceIdeal.S8x2048x4608 .f32} {x1 x2 : FVec Ideal Cert.ReferenceIdeal.S1x128 .f32}
    (H : Real3 x0 x1 x2 P gq gk) : Cert.ReferenceIdeal.Read.val_main_v158 (F := Ideal) x0 x1 x2 = resultOf P gq gk := by
  funext i
  refine (result_eq H i).trans (congrArg _ ?_)
  exact (result_real P gq gk (i 0) (i 1) (i 2) (i 1).isLt).symm

/-- A real array by its coordinates. -/
theorem real_array {x : FVec Ideal Cert.KernelIdeal.S8x2048x4608 .f32} (h : ∀ j, ∃ r : ℝ, x j = r) :
    ∃ P : ℕ → ℕ → ℕ → ℝ, ∀ j : Cert.KernelIdeal.S8x2048x4608.Idx, x j = ((P (j 0) (j 1) (j 2) : ℝ) : EReal) := by
  refine ⟨fun a b d => (x (ix3 (Fin.ofNat 8 a) (Fin.ofNat 2048 b) (Fin.ofNat 4608 d))).toReal, fun j => ?_⟩
  have e : ix3 (Fin.ofNat 8 (j 0).val) (Fin.ofNat 2048 (j 1).val) (Fin.ofNat 4608 (j 2).val) = j := by
    funext a
    fin_cases a
    · exact Fin.ext (Nat.mod_eq_of_lt (j 0).isLt)
    · exact Fin.ext (Nat.mod_eq_of_lt (j 1).isLt)
    · exact Fin.ext (Nat.mod_eq_of_lt (j 2).isLt)
  obtain ⟨r, hr⟩ := h j
  beta_reduce
  rw [e, hr, EReal.toReal_coe]

/-- A real gain by its coordinate. -/
theorem real_gain {x : FVec Ideal Cert.KernelIdeal.S1x128 .f32} (h : ∀ j, ∃ r : ℝ, x j = r) :
    ∃ g : ℕ → ℝ, ∀ d : Fin 128, x (ix2 0 d) = ((g d : ℝ) : EReal) := by
  refine ⟨fun d => (x (ix2 0 (Fin.ofNat 128 d))).toReal, fun d => ?_⟩
  have e : Fin.ofNat 128 d.val = d := Fin.ext (Nat.mod_eq_of_lt d.isLt)
  obtain ⟨r, hr⟩ := h (ix2 0 d)
  beta_reduce
  rw [e, hr, EReal.toReal_coe]

open Cert.KernelIdeal Cert.KernelIdeal.Gen

/-- What the attention kernel leaves, its arguments unchanged. -/
theorem run_kept (m : (ℓ : Loc nD τ sig) → Buf (Elt Ideal) ℓ) (ρ : Dev nD → PrngReg) (P : Dev nD → ℕ → ℕ → ℕ → ℝ) (gq gk : Dev nD → ℕ → ℝ)
    (h : ∀ c, Reals m c (P c) (gq c) (gk c)) : θ_run defs (onTc (τ := τ) (main (F := Ideal))) ⟨m, fun _ => 0, ρ⟩
      (fun r => ∀ c : Dev nD, r.2.mem ((c.tc : Thread nD τ).loc main_v41) = resultOf (P c) (gq c) (gk c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h' c =>
    ⟨((h'.1 c).1 8).trans (final m P gq gk c),
      (((h'.1 c).1 3).trans ((dats m P gq gk 0 c).arrAt_in 3 rfl _)).trans ((A_eq m P gq gk c 3).trans (V_main_arg0 m c)),
      ((h'.1 c).2 main_arg1 (Pipeline.mem_restRefs_of main_arg1 (by decide) (by decide))).trans (V_main_arg1 m c),
      ((h'.1 c).2 main_arg2 (Pipeline.mem_restRefs_of main_arg2 (by decide) (by decide))).trans (V_main_arg2 m c)⟩) (run_main m ρ P gq gk h)

end Cert.KernelIdeal.AttentionValue

end
-- ==== Proof.lean ====
/- The claims of the certificate, one by one: the frames, then what each pair of programs computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InZero
public import proofs.«01_k».proof.Proof.Gen.InZero.Skeleton
public import proofs.«01_k».proof.Proof.Gen.InZero.Loops
public import proofs.«01_k».proof.Proof.Gen.InZero.Launch
public import proofs.«01_k».proof.Proof.Gen.InZero.Points
public import proofs.«01_k».proof.Proof.Gen.InZero.Frame
public import proofs.«01_k».proof.Proof.Gen.InZeroIdeal
public import proofs.«01_k».proof.Proof.Gen.InZeroIdeal.Skeleton
public import proofs.«01_k».proof.Proof.Gen.InZeroIdeal.Loops
public import proofs.«01_k».proof.Proof.Gen.InZeroIdeal.Launch
public import proofs.«01_k».proof.Proof.Gen.InZeroIdeal.Points
public import proofs.«01_k».proof.Proof.Gen.InZeroIdeal.Frame
public import proofs.«01_k».proof.Proof.Gen.InZeroRefIdeal
public import proofs.«01_k».proof.Proof.Gen.Qkv
public import proofs.«01_k».proof.Proof.Gen.Qkv.Skeleton
public import proofs.«01_k».proof.Proof.Gen.Qkv.Loops
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Loops
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Oz
public import proofs.«01_k».proof.Proof.Gen.Oz.Skeleton
public import proofs.«01_k».proof.Proof.Gen.Oz.Loops
public import proofs.«01_k».proof.Proof.Gen.Oz.Launch
public import proofs.«01_k».proof.Proof.Gen.Oz.Points
public import proofs.«01_k».proof.Proof.Gen.Oz.Frame
public import proofs.«01_k».proof.Proof.Gen.OzIdeal
public import proofs.«01_k».proof.Proof.Gen.OzIdeal.Skeleton
public import proofs.«01_k».proof.Proof.Gen.OzIdeal.Loops
public import proofs.«01_k».proof.Proof.Gen.OzIdeal.Launch
public import proofs.«01_k».proof.Proof.Gen.OzIdeal.Points
public import proofs.«01_k».proof.Proof.Gen.OzIdeal.Frame
public import proofs.«01_k».proof.Proof.Gen.OzRefIdeal
public import proofs.«01_k».proof.Proof.Gen.OutZero
public import proofs.«01_k».proof.Proof.Gen.OutZero.Skeleton
public import proofs.«01_k».proof.Proof.Gen.OutZero.Launch
public import proofs.«01_k».proof.Proof.Gen.OutZero.Points
public import proofs.«01_k».proof.Proof.Gen.OutZero.Frame
public import proofs.«01_k».proof.Proof.Gen.OutZeroIdeal
public import proofs.«01_k».proof.Proof.Gen.OutZeroIdeal.Skeleton
public import proofs.«01_k».proof.Proof.Gen.OutZeroIdeal.Launch
public import proofs.«01_k».proof.Proof.Gen.OutZeroIdeal.Points
public import proofs.«01_k».proof.Proof.Gen.OutZeroIdeal.Frame
public import proofs.«01_k».proof.Proof.Gen.OutZeroRefIdeal
public import proofs.«01_k».proof.Proof.Gen.OutOne
public import proofs.«01_k».proof.Proof.Gen.OutOne.Skeleton
public import proofs.«01_k».proof.Proof.Gen.OutOne.Launch
public import proofs.«01_k».proof.Proof.Gen.OutOne.Points
public import proofs.«01_k».proof.Proof.Gen.OutOne.Frame
public import proofs.«01_k».proof.Proof.Gen.OutOneIdeal
public import proofs.«01_k».proof.Proof.Gen.OutOneIdeal.Skeleton
public import proofs.«01_k».proof.Proof.Gen.OutOneIdeal.Launch
public import proofs.«01_k».proof.Proof.Gen.OutOneIdeal.Points
public import proofs.«01_k».proof.Proof.Gen.OutOneIdeal.Frame
public import proofs.«01_k».proof.Proof.Gen.OutOneRefIdeal
public import proofs.«01_k».proof.Proof.Gen.Norm
public import proofs.«01_k».proof.Proof.Gen.Norm.Skeleton
public import proofs.«01_k».proof.Proof.Gen.Norm.Loops
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Loops
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.AttentionFinite
public import proofs.«01_k».proof.Proof.Gen.InZeroIdeal.Value
public import proofs.«01_k».proof.Proof.Gen.InZeroRefIdeal.Run
public import proofs.«01_k».proof.Proof.Gen.InZeroRefIdeal.Read
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.OzIdeal.Value
public import proofs.«01_k».proof.Proof.Gen.OzRefIdeal.Run
public import proofs.«01_k».proof.Proof.Gen.OzRefIdeal.Read
public import proofs.«01_k».proof.Proof.Gen.OutZeroIdeal.Value
public import proofs.«01_k».proof.Proof.Gen.OutZeroRefIdeal.Run
public import proofs.«01_k».proof.Proof.Gen.OutZeroRefIdeal.Read
public import proofs.«01_k».proof.Proof.Gen.OutOneIdeal.Value
public import proofs.«01_k».proof.Proof.Gen.OutOneRefIdeal.Run
public import proofs.«01_k».proof.Proof.Gen.OutOneRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.AttentionFrame
public import proofs.«01_k».proof.Proof.AttentionIdealFrame
public import proofs.«01_k».proof.Proof.InZeroValue
public import proofs.«01_k».proof.Proof.QkvValue
public import proofs.«01_k».proof.Proof.OzValue
public import proofs.«01_k».proof.Proof.NormValue
public import proofs.«01_k».proof.Proof.OutOneValue
public import proofs.«01_k».proof.Proof.OutZeroValue
public import proofs.«01_k».proof.Proof.AttentionValue
public import Idealize.ShloMosaic.Lib.Quiescent

@[expose] public section

noncomputable section

namespace Cert.Proof

open Idealize.ShloMosaic Idealize.SL.Sem Cert.Kernel

/-- The reference of the attention runs and keeps its arguments. -/
theorem referenceIdeal : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The reference of the input projection of the first layer runs and keeps its arguments. -/
theorem inZeroRefIdeal : Cert.quiescent_InZeroRefIdeal (hInZeroRefIdeal := Cert.InZeroRefIdeal.Gen.facts) := by
  intro m g _
  exact (θ_run Cert.InZeroRefIdeal.defs _ _).mono (fun r h => ⟨fun c => (h c).2, sem_eq_zero_of_no_sems (by decide) r.2⟩)
    (Cert.InZeroRefIdeal.Value.run (F := Ideal) m g)

/-- The reference of the query, key and value projection runs and keeps its arguments. -/
theorem qkvRefIdeal : Cert.quiescent_QkvRefIdeal (hQkvRefIdeal := Cert.QkvRefIdeal.Gen.facts) := by
  intro m g _
  exact (θ_run Cert.QkvRefIdeal.defs _ _).mono (fun r h => ⟨fun c => (h c).2, sem_eq_zero_of_no_sems (by decide) r.2⟩)
    (Cert.QkvRefIdeal.Value.run (F := Ideal) m g)

/-- The reference of the output-gate projection runs and keeps its arguments. -/
theorem ozRefIdeal : Cert.quiescent_OzRefIdeal (hOzRefIdeal := Cert.OzRefIdeal.Gen.facts) := by
  intro m g _
  exact (θ_run Cert.OzRefIdeal.defs _ _).mono (fun r h => ⟨fun c => (h c).2, sem_eq_zero_of_no_sems (by decide) r.2⟩)
    (Cert.OzRefIdeal.Value.run (F := Ideal) m g)

/-- The reference of the output projection of the first layer runs and keeps its arguments. -/
theorem outZeroRefIdeal : Cert.quiescent_OutZeroRefIdeal (hOutZeroRefIdeal := Cert.OutZeroRefIdeal.Gen.facts) := by
  intro m g _
  exact (θ_run Cert.OutZeroRefIdeal.defs _ _).mono (fun r h => ⟨fun c => (h c).2.2.2, sem_eq_zero_of_no_sems (by decide) r.2⟩)
    (Cert.OutZeroRefIdeal.Value.run (F := Ideal) m g)

/-- The reference of the output projection of the second layer runs and keeps its arguments. -/
theorem outOneRefIdeal : Cert.quiescent_OutOneRefIdeal (hOutOneRefIdeal := Cert.OutOneRefIdeal.Gen.facts) := by
  intro m g _
  exact (θ_run Cert.OutOneRefIdeal.defs _ _).mono (fun r h => ⟨fun c => (h c).2, sem_eq_zero_of_no_sems (by decide) r.2⟩)
    (Cert.OutOneRefIdeal.Value.run (F := Ideal) m g)

/-- The reference of the first norm runs and keeps its arguments. -/
theorem normRefIdeal : Cert.quiescent_NormRefIdeal (hNormRefIdeal := Cert.NormRefIdeal.Gen.facts) := by
  intro m g _
  exact (θ_run Cert.NormRefIdeal.defs _ _).mono (fun r h => ⟨fun c => (h c).2, sem_eq_zero_of_no_sems (by decide) r.2⟩)
    (Cert.NormRefIdeal.Value.run (F := Ideal) m g)

/-- The attention computes its reference, on arguments that are real numbers. -/
theorem kernelValue : Cert.algebraic_KernelIdeal_ReferenceIdeal_pre_finite (hKernelIdeal := Cert.KernelIdeal.Gen.facts)
    (hReferenceIdeal := Cert.ReferenceIdeal.Gen.facts) (hPre_finite := Cert.Pre_finite.Attention.facts) := by
  intro m g m' g' pre agree
  have real := fun c => Cert.Pre_finite.Attention.reals _ _ _ (pre c)
  choose P hP using fun c => Cert.KernelIdeal.AttentionValue.real_array (real c).1
  choose gq hq using fun c => Cert.KernelIdeal.AttentionValue.real_gain (real c).2.1
  choose gk hk using fun c => Cert.KernelIdeal.AttentionValue.real_gain (real c).2.2
  refine ⟨fun c => Cert.KernelIdeal.AttentionValue.resultOf (P c) (gq c) (gk c),
    Cert.KernelIdeal.AttentionValue.run_kept m g P gq gk fun c => ⟨hP c, hq c, hk c⟩, ?_⟩
  refine (θ_run _ _ _).mono (fun r h c => ⟨(h c).1.trans ?_, (h c).2⟩) (Cert.ReferenceIdeal.Value.run (F := Ideal) m' g')
  refine (Cert.ReferenceIdeal.Read.val_main_v158_eq (StableHlo.launchContents m' c)).trans ?_
  rw [StableHlo.launchContents_devRef, StableHlo.launchContents_devRef, StableHlo.launchContents_devRef, (agree c).1, (agree c).2.1, (agree c).2.2]
  exact Cert.KernelIdeal.AttentionValue.reference_eq (P c) (gq c) (gk c) ⟨hP c, hq c, hk c⟩

/-- The input projection of the first layer computes its reference. -/
theorem inZeroValue : Cert.algebraic_InZeroIdeal_InZeroRefIdeal (hInZeroIdeal := Cert.InZeroIdeal.Gen.facts) (hInZeroRefIdeal := Cert.InZeroRefIdeal.Gen.facts) := by
  pair_intro
  · run_from Cert.InZeroIdeal.Gen.run_main m g
  · hlo_run
    exact (Cert.InZeroIdeal.Value.final m c).symm

/-- The query, key and value projection computes its reference. -/
theorem qkvValue : Cert.algebraic_QkvIdeal_QkvRefIdeal (hQkvIdeal := Cert.QkvIdeal.Gen.facts) (hQkvRefIdeal := Cert.QkvRefIdeal.Gen.facts) := by
  pair_intro
  · run_from Cert.QkvIdeal.Gen.run_main m g
  · hlo_run
    exact (Cert.QkvIdeal.Value.final m c).symm

/-- The output-gate projection computes its reference. -/
theorem ozValue : Cert.algebraic_OzIdeal_OzRefIdeal (hOzIdeal := Cert.OzIdeal.Gen.facts) (hOzRefIdeal := Cert.OzRefIdeal.Gen.facts) := by
  pair_intro
  · run_from Cert.OzIdeal.Gen.run_main m g
  · hlo_run
    exact (Cert.OzIdeal.Value.final m c).symm

/-- The output projection of the first layer computes its reference. -/
theorem outZeroValue : Cert.algebraic_OutZeroIdeal_OutZeroRefIdeal (hOutZeroIdeal := Cert.OutZeroIdeal.Gen.facts) (hOutZeroRefIdeal := Cert.OutZeroRefIdeal.Gen.facts) := by
  pair_intro
  · run_from Cert.OutZeroIdeal.Gen.run_main m g
  · hlo_run
    · exact (Cert.OutZeroIdeal.Value.final0 m c).symm
    · exact (Cert.OutZeroIdeal.Value.final1 m c).symm
    · exact (Cert.OutZeroIdeal.Value.final2 m c).symm

/-- The output projection of the second layer computes its reference. -/
theorem outOneValue : Cert.algebraic_OutOneIdeal_OutOneRefIdeal (hOutOneIdeal := Cert.OutOneIdeal.Gen.facts) (hOutOneRefIdeal := Cert.OutOneRefIdeal.Gen.facts) := by
  pair_intro
  · run_from Cert.OutOneIdeal.Gen.run_main m g
  · hlo_run
    exact (Cert.OutOneIdeal.Value.final m c).symm

/-- The first norm computes its reference. -/
theorem normValue : Cert.algebraic_NormIdeal_NormRefIdeal (hNormIdeal := Cert.NormIdeal.Gen.facts) (hNormRefIdeal := Cert.NormRefIdeal.Gen.facts) := by
  pair_intro
  · run_from Cert.NormIdeal.Gen.run_main m g
  · hlo_run
    exact (Cert.NormIdeal.Value.final m c).symm

/-- All the claims. -/
theorem claim : Cert.Claim := ⟨Cert.Kernel.Gen.facts, Cert.KernelIdeal.Gen.facts, Cert.ReferenceIdeal.Gen.facts, Cert.InZero.Gen.facts, Cert.InZeroIdeal.Gen.facts, Cert.InZeroRefIdeal.Gen.facts, Cert.Qkv.Gen.facts, Cert.QkvIdeal.Gen.facts, Cert.QkvRefIdeal.Gen.facts, Cert.Oz.Gen.facts, Cert.OzIdeal.Gen.facts, Cert.OzRefIdeal.Gen.facts, Cert.OutZero.Gen.facts, Cert.OutZeroIdeal.Gen.facts, Cert.OutZeroRefIdeal.Gen.facts, Cert.OutOne.Gen.facts, Cert.OutOneIdeal.Gen.facts, Cert.OutOneRefIdeal.Gen.facts, Cert.Norm.Gen.facts, Cert.NormIdeal.Gen.facts, Cert.NormRefIdeal.Gen.facts, Cert.Pre_finite.Attention.facts,
  fun m g _ => Cert.Kernel.Attention.frame m g,
  fun m g _ => Cert.KernelIdeal.Attention.frame m g,
  fun m g _ => Cert.KernelIdeal.Attention.frame m g,
  referenceIdeal,
  fun m g _ => referenceIdeal m g trivial,
  fun m g _ => Cert.InZero.Gen.frame m g,
  fun m g _ => Cert.InZeroIdeal.Gen.frame m g,
  inZeroRefIdeal,
  fun m g _ => Cert.Qkv.Gen.frame m g,
  fun m g _ => Cert.QkvIdeal.Gen.frame m g,
  qkvRefIdeal,
  fun m g _ => Cert.Oz.Gen.frame m g,
  fun m g _ => Cert.OzIdeal.Gen.frame m g,
  ozRefIdeal,
  fun m g _ => Cert.OutZero.Gen.frame m g,
  fun m g _ => Cert.OutZeroIdeal.Gen.frame m g,
  outZeroRefIdeal,
  fun m g _ => Cert.OutOne.Gen.frame m g,
  fun m g _ => Cert.OutOneIdeal.Gen.frame m g,
  outOneRefIdeal,
  fun m g _ => Cert.Norm.Gen.frame m g,
  fun m g _ => Cert.NormIdeal.Gen.frame m g,
  normRefIdeal,
  IdealRules.named_const.statement _ _ _ _ _ rfl,
  kernelValue,
  trivial,
  inZeroValue,
  trivial,
  qkvValue,
  trivial,
  ozValue,
  trivial,
  outZeroValue,
  trivial,
  outOneValue,
  trivial,
  normValue⟩

end Cert.Proof

end
